-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S64x1000000 : Shape := ⟨2, ![64, 1000000]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S64x1000000 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S64x1000000 : Shape := ⟨2, ![64, 1000000]⟩
abbrev S507904x128 : Shape := ⟨2, ![507904, 128]⟩
abbrev S64x32768 : Shape := ⟨2, ![64, 32768]⟩
abbrev S16384x128 : Shape := ⟨2, ![16384, 128]⟩
abbrev S64x16384 : Shape := ⟨2, ![64, 16384]⟩
abbrev S16384x64 : Shape := ⟨2, ![16384, 64]⟩
abbrev S1048576 : Shape := ⟨1, ![1048576]⟩
abbrev S512 : Shape := ⟨1, ![512]⟩
abbrev S512x128 : Shape := ⟨2, ![512, 128]⟩
abbrev S32768 : Shape := ⟨1, ![32768]⟩
abbrev S_ : Shape := ⟨0, ![]⟩
abbrev S16 : Shape := ⟨1, ![16]⟩
abbrev S128x128 : Shape := ⟨2, ![128, 128]⟩
abbrev S128 : Shape := ⟨1, ![128]⟩
abbrev S1 : Shape := ⟨1, ![1]⟩
abbrev S1x16 : Shape := ⟨2, ![1, 16]⟩
abbrev S8192 : Shape := ⟨1, ![8192]⟩

abbrev nBuf : Table → Nat
  | .hbm => 5
  | .local .tc .vmem => 4
  | .local .scVector .vmem => 5
  | _ => 0

abbrev bufTy : (tb : Table) → Fin (nBuf tb) → BufTy
  | .hbm, ⟨0, _⟩ => ⟨S16384, .i32⟩
  | .hbm, ⟨1, _⟩ => ⟨S64x1000000, .f32⟩
  | .hbm, ⟨2, _⟩ => ⟨S507904x128, .f32⟩
  | .hbm, ⟨3, _⟩ => ⟨S1048576, .f32⟩
  | .hbm, ⟨4, _⟩ => ⟨S16384x64, .f32⟩
  | .local .tc .vmem, ⟨0, _⟩ => ⟨S64x32768, .f32⟩
  | .local .tc .vmem, ⟨1, _⟩ => ⟨S64x32768, .f32⟩
  | .local .tc .vmem, ⟨2, _⟩ => ⟨S16384x128, .f32⟩
  | .local .tc .vmem, ⟨3, _⟩ => ⟨S16384x128, .f32⟩
  | .local .scVector .vmem, ⟨0, _⟩ => ⟨S512, .i32⟩
  | .local .scVector .vmem, ⟨1, _⟩ => ⟨S512, .i32⟩
  | .local .scVector .vmem, ⟨2, _⟩ => ⟨S512, .i32⟩
  | .local .scVector .vmem, ⟨3, _⟩ => ⟨S512x128, .f32⟩
  | .local .scVector .vmem, ⟨4, _⟩ => ⟨S32768, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg0_scv : Ref sig .scVector := ⟨.hbm, 0, rfl⟩
abbrev main_v1_scv : Ref sig .scVector := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k1_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k1_off2 (k1_t1 : Fin k1_t1_loop.trips) : Fin 1 → Nat :=
  let c0_i32_0 : BitVec 32 := 0#32
  let c1_i32 : BitVec 32 := 1#32
  let arg15 : BitVec 32 := Scf.iv c0_i32_0 c1_i32 k1_t1
  let c16_i32 : BitVec 32 := 16#32
  let v85 : BitVec 32 := Scalar.muli arg15 c16_i32
  let v86 : Index := Scalar.indexCast v85
  ![v86.toNat]
@[reducible] def k1_t2_loop : Scf.Loop 32 :=
  let c0_i32_25 : BitVec 32 := 0#32
  let c8_i32 : BitVec 32 := 8#32
  let v20 : BitVec 32 := Scalar.addi c0_i32_25 c8_i32
  let c1_i32_26 : BitVec 32 := 1#32
  ⟨c0_i32_25, v20, c1_i32_26⟩
def k1_off3 (k1_t2 : Fin k1_t2_loop.trips) : Fin 1 → Nat :=
  let c0_i32_86 : BitVec 32 := 0#32
  let c0_i32_25 : BitVec 32 := 0#32
  let c1_i32_26 : BitVec 32 := 1#32
  let arg15 : BitVec 32 := Scf.iv c0_i32_25 c1_i32_26 k1_t2
  let c16_i32 : BitVec 32 := 16#32
  let v85 : BitVec 32 := Scalar.muli arg15 c16_i32
  let v86 : BitVec 32 := Scalar.addi c0_i32_86 v85
  let v87 : Index := Scalar.indexCast v86
  ![v87.toNat]
def k1_off4 (k1_t2 : Fin k1_t2_loop.trips) (v93 : BitVec 32) (c0_i32_91 : BitVec 32) : Fin 2 → Nat :=
  let c0_i32_88 : BitVec 32 := 0#32
  let c0_i32_25 : BitVec 32 := 0#32
  let c1_i32_26 : BitVec 32 := 1#32
  let arg15 : BitVec 32 := Scf.iv c0_i32_25 c1_i32_26 k1_t2
  let c16_i32_87 : BitVec 32 := 16#32
  let v89 : BitVec 32 := Scalar.muli arg15 c16_i32_87
  let v90 : BitVec 32 := Scalar.addi c0_i32_88 v89
  let c0_i32_89 : BitVec 32 := 0#32
  let v91 : BitVec 32 := Scalar.addi v90 c0_i32_89
  let v96 : Index := Scalar.indexCast v91
  let c64_i32_90 : BitVec 32 := 64#32
  let v94 : BitVec 32 := Scalar.muli v93 c64_i32_90
  let v95 : BitVec 32 := Scalar.addi v94 c0_i32_91
  let v97 : Index := Scalar.indexCast v95
  ![v96.toNat, v97.toNat]

def k1_chk1 (k1_t2 : Fin k1_t2_loop.trips) (v93 : BitVec 32) : Prop :=
  (∀ (r : Fin 4), ∀ a, (k1_off4 k1_t2 v93 (BitVec.ofNat 32 (16 * r.val))) a + S1x16.size a ≤ S512x128.size a)
theorem k1_off4_inb : ∀ (k1_t2 : Fin k1_t2_loop.trips) (v93 : BitVec 32) (k1_hw1 : k1_chk1 k1_t2 v93), ∀ (r : Fin 4), ∀ a, (k1_off4 k1_t2 v93 (BitVec.ofNat 32 (16 * r.val))) a + S1x16.size a ≤ S512x128.size a := fun k1_t2 v93 k1_hw1 r => k1_hw1 r

def k1_off5 (k1_t2 : Fin k1_t2_loop.trips) (c0_i32_93 : BitVec 32) : Fin 1 → Nat :=
  let c0_i32_88 : BitVec 32 := 0#32
  let c0_i32_25 : BitVec 32 := 0#32
  let c1_i32_26 : BitVec 32 := 1#32
  let arg15 : BitVec 32 := Scf.iv c0_i32_25 c1_i32_26 k1_t2
  let c16_i32_87 : BitVec 32 := 16#32
  let v89 : BitVec 32 := Scalar.muli arg15 c16_i32_87
  let v90 : BitVec 32 := Scalar.addi c0_i32_88 v89
  let c0_i32_89 : BitVec 32 := 0#32
  let v91 : BitVec 32 := Scalar.addi v90 c0_i32_89
  let c64_i32_92 : BitVec 32 := 64#32
  let v99 : BitVec 32 := Scalar.muli v91 c64_i32_92
  let v100 : BitVec 32 := Scalar.addi v99 c0_i32_93
  let v101 : Index := Scalar.indexCast v100
  ![v101.toNat]
def k1_off6 (k1_t2 : Fin k1_t2_loop.trips) (v131 : BitVec 32) (c0_i32_106 : BitVec 32) : Fin 2 → Nat :=
  let c0_i32_103 : BitVec 32 := 0#32
  let c0_i32_25 : BitVec 32 := 0#32
  let c1_i32_26 : BitVec 32 := 1#32
  let arg15 : BitVec 32 := Scf.iv c0_i32_25 c1_i32_26 k1_t2
  let c16_i32_102 : BitVec 32 := 16#32
  let v127 : BitVec 32 := Scalar.muli arg15 c16_i32_102
  let v128 : BitVec 32 := Scalar.addi c0_i32_103 v127
  let c1_i32_104 : BitVec 32 := 1#32
  let v129 : BitVec 32 := Scalar.addi v128 c1_i32_104
  let v134 : Index := Scalar.indexCast v129
  let c64_i32_105 : BitVec 32 := 64#32
  let v132 : BitVec 32 := Scalar.muli v131 c64_i32_105
  let v133 : BitVec 32 := Scalar.addi v132 c0_i32_106
  let v135 : Index := Scalar.indexCast v133
  ![v134.toNat, v135.toNat]

def k1_chk2 (k1_t2 : Fin k1_t2_loop.trips) (v131 : BitVec 32) : Prop :=
  (∀ (r : Fin 4), ∀ a, (k1_off6 k1_t2 v131 (BitVec.ofNat 32 (16 * r.val))) a + S1x16.size a ≤ S512x128.size a)
theorem k1_off6_inb : ∀ (k1_t2 : Fin k1_t2_loop.trips) (v131 : BitVec 32) (k1_hw2 : k1_chk2 k1_t2 v131), ∀ (r : Fin 4), ∀ a, (k1_off6 k1_t2 v131 (BitVec.ofNat 32 (16 * r.val))) a + S1x16.size a ≤ S512x128.size a := fun k1_t2 v131 k1_hw2 r => k1_hw2 r

def k1_off7 (k1_t2 : Fin k1_t2_loop.trips) (c0_i32_108 : BitVec 32) : Fin 1 → Nat :=
  let c0_i32_103 : BitVec 32 := 0#32
  let c0_i32_25 : BitVec 32 := 0#32
  let c1_i32_26 : BitVec 32 := 1#32
  let arg15 : BitVec 32 := Scf.iv c0_i32_25 c1_i32_26 k1_t2
  let c16_i32_102 : BitVec 32 := 16#32
  let v127 : BitVec 32 := Scalar.muli arg15 c16_i32_102
  let v128 : BitVec 32 := Scalar.addi c0_i32_103 v127
  let c1_i32_104 : BitVec 32 := 1#32
  let v129 : BitVec 32 := Scalar.addi v128 c1_i32_104
  let c64_i32_107 : BitVec 32 := 64#32
  let v137 : BitVec 32 := Scalar.muli v129 c64_i32_107
  let v138 : BitVec 32 := Scalar.addi v137 c0_i32_108
  let v139 : Index := Scalar.indexCast v138
  ![v139.toNat]
def k1_off8 (k1_t2 : Fin k1_t2_loop.trips) (v169 : BitVec 32) (c0_i32_122 : BitVec 32) : Fin 2 → Nat :=
  let c0_i32_119 : BitVec 32 := 0#32
  let c0_i32_25 : BitVec 32 := 0#32
  let c1_i32_26 : BitVec 32 := 1#32
  let arg15 : BitVec 32 := Scf.iv c0_i32_25 c1_i32_26 k1_t2
  let c16_i32_118 : BitVec 32 := 16#32
  let v165 : BitVec 32 := Scalar.muli arg15 c16_i32_118
  let v166 : BitVec 32 := Scalar.addi c0_i32_119 v165
  let c2_i32_120 : BitVec 32 := 2#32
  let v167 : BitVec 32 := Scalar.addi v166 c2_i32_120
  let v172 : Index := Scalar.indexCast v167
  let c64_i32_121 : BitVec 32 := 64#32
  let v170 : BitVec 32 := Scalar.muli v169 c64_i32_121
  let v171 : BitVec 32 := Scalar.addi v170 c0_i32_122
  let v173 : Index := Scalar.indexCast v171
  ![v172.toNat, v173.toNat]

def k1_chk3 (k1_t2 : Fin k1_t2_loop.trips) (v169 : BitVec 32) : Prop :=
  (∀ (r : Fin 4), ∀ a, (k1_off8 k1_t2 v169 (BitVec.ofNat 32 (16 * r.val))) a + S1x16.size a ≤ S512x128.size a)
theorem k1_off8_inb : ∀ (k1_t2 : Fin k1_t2_loop.trips) (v169 : BitVec 32) (k1_hw3 : k1_chk3 k1_t2 v169), ∀ (r : Fin 4), ∀ a, (k1_off8 k1_t2 v169 (BitVec.ofNat 32 (16 * r.val))) a + S1x16.size a ≤ S512x128.size a := fun k1_t2 v169 k1_hw3 r => k1_hw3 r

def k1_off9 (k1_t2 : Fin k1_t2_loop.trips) (c0_i32_124 : BitVec 32) : Fin 1 → Nat :=
  let c0_i32_119 : BitVec 32 := 0#32
  let c0_i32_25 : BitVec 32 := 0#32
  let c1_i32_26 : BitVec 32 := 1#32
  let arg15 : BitVec 32 := Scf.iv c0_i32_25 c1_i32_26 k1_t2
  let c16_i32_118 : BitVec 32 := 16#32
  let v165 : BitVec 32 := Scalar.muli arg15 c16_i32_118
  let v166 : BitVec 32 := Scalar.addi c0_i32_119 v165
  let c2_i32_120 : BitVec 32 := 2#32
  let v167 : BitVec 32 := Scalar.addi v166 c2_i32_120
  let c64_i32_123 : BitVec 32 := 64#32
  let v175 : BitVec 32 := Scalar.muli v167 c64_i32_123
  let v176 : BitVec 32 := Scalar.addi v175 c0_i32_124
  let v177 : Index := Scalar.indexCast v176
  ![v177.toNat]
def k1_off10 (k1_t2 : Fin k1_t2_loop.trips) (v207 : BitVec 32) (c0_i32_137 : BitVec 32) : Fin 2 → Nat :=
  let c0_i32_135 : BitVec 32 := 0#32
  let c0_i32_25 : BitVec 32 := 0#32
  let c1_i32_26 : BitVec 32 := 1#32
  let arg15 : BitVec 32 := Scf.iv c0_i32_25 c1_i32_26 k1_t2
  let c16_i32_134 : BitVec 32 := 16#32
  let v203 : BitVec 32 := Scalar.muli arg15 c16_i32_134
  let v204 : BitVec 32 := Scalar.addi c0_i32_135 v203
  let c3_i32 : BitVec 32 := 3#32
  let v205 : BitVec 32 := Scalar.addi v204 c3_i32
  let v210 : Index := Scalar.indexCast v205
  let c64_i32_136 : BitVec 32 := 64#32
  let v208 : BitVec 32 := Scalar.muli v207 c64_i32_136
  let v209 : BitVec 32 := Scalar.addi v208 c0_i32_137
  let v211 : Index := Scalar.indexCast v209
  ![v210.toNat, v211.toNat]

def k1_chk4 (k1_t2 : Fin k1_t2_loop.trips) (v207 : BitVec 32) : Prop :=
  (∀ (r : Fin 4), ∀ a, (k1_off10 k1_t2 v207 (BitVec.ofNat 32 (16 * r.val))) a + S1x16.size a ≤ S512x128.size a)
theorem k1_off10_inb : ∀ (k1_t2 : Fin k1_t2_loop.trips) (v207 : BitVec 32) (k1_hw4 : k1_chk4 k1_t2 v207), ∀ (r : Fin 4), ∀ a, (k1_off10 k1_t2 v207 (BitVec.ofNat 32 (16 * r.val))) a + S1x16.size a ≤ S512x128.size a := fun k1_t2 v207 k1_hw4 r => k1_hw4 r

def k1_off11 (k1_t2 : Fin k1_t2_loop.trips) (c0_i32_139 : BitVec 32) : Fin 1 → Nat :=
  let c0_i32_135 : BitVec 32 := 0#32
  let c0_i32_25 : BitVec 32 := 0#32
  let c1_i32_26 : BitVec 32 := 1#32
  let arg15 : BitVec 32 := Scf.iv c0_i32_25 c1_i32_26 k1_t2
  let c16_i32_134 : BitVec 32 := 16#32
  let v203 : BitVec 32 := Scalar.muli arg15 c16_i32_134
  let v204 : BitVec 32 := Scalar.addi c0_i32_135 v203
  let c3_i32 : BitVec 32 := 3#32
  let v205 : BitVec 32 := Scalar.addi v204 c3_i32
  let c64_i32_138 : BitVec 32 := 64#32
  let v213 : BitVec 32 := Scalar.muli v205 c64_i32_138
  let v214 : BitVec 32 := Scalar.addi v213 c0_i32_139
  let v215 : Index := Scalar.indexCast v214
  ![v215.toNat]
def k1_off12 (k1_t2 : Fin k1_t2_loop.trips) (v245 : BitVec 32) (c0_i32_152 : BitVec 32) : Fin 2 → Nat :=
  let c0_i32_150 : BitVec 32 := 0#32
  let c0_i32_25 : BitVec 32 := 0#32
  let c1_i32_26 : BitVec 32 := 1#32
  let arg15 : BitVec 32 := Scf.iv c0_i32_25 c1_i32_26 k1_t2
  let c16_i32_149 : BitVec 32 := 16#32
  let v241 : BitVec 32 := Scalar.muli arg15 c16_i32_149
  let v242 : BitVec 32 := Scalar.addi c0_i32_150 v241
  let c4_i32 : BitVec 32 := 4#32
  let v243 : BitVec 32 := Scalar.addi v242 c4_i32
  let v248 : Index := Scalar.indexCast v243
  let c64_i32_151 : BitVec 32 := 64#32
  let v246 : BitVec 32 := Scalar.muli v245 c64_i32_151
  let v247 : BitVec 32 := Scalar.addi v246 c0_i32_152
  let v249 : Index := Scalar.indexCast v247
  ![v248.toNat, v249.toNat]

def k1_chk5 (k1_t2 : Fin k1_t2_loop.trips) (v245 : BitVec 32) : Prop :=
  (∀ (r : Fin 4), ∀ a, (k1_off12 k1_t2 v245 (BitVec.ofNat 32 (16 * r.val))) a + S1x16.size a ≤ S512x128.size a)
theorem k1_off12_inb : ∀ (k1_t2 : Fin k1_t2_loop.trips) (v245 : BitVec 32) (k1_hw5 : k1_chk5 k1_t2 v245), ∀ (r : Fin 4), ∀ a, (k1_off12 k1_t2 v245 (BitVec.ofNat 32 (16 * r.val))) a + S1x16.size a ≤ S512x128.size a := fun k1_t2 v245 k1_hw5 r => k1_hw5 r

def k1_off13 (k1_t2 : Fin k1_t2_loop.trips) (c0_i32_154 : BitVec 32) : Fin 1 → Nat :=
  let c0_i32_150 : BitVec 32 := 0#32
  let c0_i32_25 : BitVec 32 := 0#32
  let c1_i32_26 : BitVec 32 := 1#32
  let arg15 : BitVec 32 := Scf.iv c0_i32_25 c1_i32_26 k1_t2
  let c16_i32_149 : BitVec 32 := 16#32
  let v241 : BitVec 32 := Scalar.muli arg15 c16_i32_149
  let v242 : BitVec 32 := Scalar.addi c0_i32_150 v241
  let c4_i32 : BitVec 32 := 4#32
  let v243 : BitVec 32 := Scalar.addi v242 c4_i32
  let c64_i32_153 : BitVec 32 := 64#32
  let v251 : BitVec 32 := Scalar.muli v243 c64_i32_153
  let v252 : BitVec 32 := Scalar.addi v251 c0_i32_154
  let v253 : Index := Scalar.indexCast v252
  ![v253.toNat]
def k1_off14 (k1_t2 : Fin k1_t2_loop.trips) (v283 : BitVec 32) (c0_i32_167 : BitVec 32) : Fin 2 → Nat :=
  let c0_i32_165 : BitVec 32 := 0#32
  let c0_i32_25 : BitVec 32 := 0#32
  let c1_i32_26 : BitVec 32 := 1#32
  let arg15 : BitVec 32 := Scf.iv c0_i32_25 c1_i32_26 k1_t2
  let c16_i32_164 : BitVec 32 := 16#32
  let v279 : BitVec 32 := Scalar.muli arg15 c16_i32_164
  let v280 : BitVec 32 := Scalar.addi c0_i32_165 v279
  let c5_i32 : BitVec 32 := 5#32
  let v281 : BitVec 32 := Scalar.addi v280 c5_i32
  let v286 : Index := Scalar.indexCast v281
  let c64_i32_166 : BitVec 32 := 64#32
  let v284 : BitVec 32 := Scalar.muli v283 c64_i32_166
  let v285 : BitVec 32 := Scalar.addi v284 c0_i32_167
  let v287 : Index := Scalar.indexCast v285
  ![v286.toNat, v287.toNat]

def k1_chk6 (k1_t2 : Fin k1_t2_loop.trips) (v283 : BitVec 32) : Prop :=
  (∀ (r : Fin 4), ∀ a, (k1_off14 k1_t2 v283 (BitVec.ofNat 32 (16 * r.val))) a + S1x16.size a ≤ S512x128.size a)
theorem k1_off14_inb : ∀ (k1_t2 : Fin k1_t2_loop.trips) (v283 : BitVec 32) (k1_hw6 : k1_chk6 k1_t2 v283), ∀ (r : Fin 4), ∀ a, (k1_off14 k1_t2 v283 (BitVec.ofNat 32 (16 * r.val))) a + S1x16.size a ≤ S512x128.size a := fun k1_t2 v283 k1_hw6 r => k1_hw6 r

def k1_off15 (k1_t2 : Fin k1_t2_loop.trips) (c0_i32_169 : BitVec 32) : Fin 1 → Nat :=
  let c0_i32_165 : BitVec 32 := 0#32
  let c0_i32_25 : BitVec 32 := 0#32
  let c1_i32_26 : BitVec 32 := 1#32
  let arg15 : BitVec 32 := Scf.iv c0_i32_25 c1_i32_26 k1_t2
  let c16_i32_164 : BitVec 32 := 16#32
  let v279 : BitVec 32 := Scalar.muli arg15 c16_i32_164
  let v280 : BitVec 32 := Scalar.addi c0_i32_165 v279
  let c5_i32 : BitVec 32 := 5#32
  let v281 : BitVec 32 := Scalar.addi v280 c5_i32
  let c64_i32_168 : BitVec 32 := 64#32
  let v289 : BitVec 32 := Scalar.muli v281 c64_i32_168
  let v290 : BitVec 32 := Scalar.addi v289 c0_i32_169
  let v291 : Index := Scalar.indexCast v290
  ![v291.toNat]
def k1_off16 (k1_t2 : Fin k1_t2_loop.trips) (v321 : BitVec 32) (c0_i32_182 : BitVec 32) : Fin 2 → Nat :=
  let c0_i32_180 : BitVec 32 := 0#32
  let c0_i32_25 : BitVec 32 := 0#32
  let c1_i32_26 : BitVec 32 := 1#32
  let arg15 : BitVec 32 := Scf.iv c0_i32_25 c1_i32_26 k1_t2
  let c16_i32_179 : BitVec 32 := 16#32
  let v317 : BitVec 32 := Scalar.muli arg15 c16_i32_179
  let v318 : BitVec 32 := Scalar.addi c0_i32_180 v317
  let c6_i32 : BitVec 32 := 6#32
  let v319 : BitVec 32 := Scalar.addi v318 c6_i32
  let v324 : Index := Scalar.indexCast v319
  let c64_i32_181 : BitVec 32 := 64#32
  let v322 : BitVec 32 := Scalar.muli v321 c64_i32_181
  let v323 : BitVec 32 := Scalar.addi v322 c0_i32_182
  let v325 : Index := Scalar.indexCast v323
  ![v324.toNat, v325.toNat]

def k1_chk7 (k1_t2 : Fin k1_t2_loop.trips) (v321 : BitVec 32) : Prop :=
  (∀ (r : Fin 4), ∀ a, (k1_off16 k1_t2 v321 (BitVec.ofNat 32 (16 * r.val))) a + S1x16.size a ≤ S512x128.size a)
theorem k1_off16_inb : ∀ (k1_t2 : Fin k1_t2_loop.trips) (v321 : BitVec 32) (k1_hw7 : k1_chk7 k1_t2 v321), ∀ (r : Fin 4), ∀ a, (k1_off16 k1_t2 v321 (BitVec.ofNat 32 (16 * r.val))) a + S1x16.size a ≤ S512x128.size a := fun k1_t2 v321 k1_hw7 r => k1_hw7 r

def k1_off17 (k1_t2 : Fin k1_t2_loop.trips) (c0_i32_184 : BitVec 32) : Fin 1 → Nat :=
  let c0_i32_180 : BitVec 32 := 0#32
  let c0_i32_25 : BitVec 32 := 0#32
  let c1_i32_26 : BitVec 32 := 1#32
  let arg15 : BitVec 32 := Scf.iv c0_i32_25 c1_i32_26 k1_t2
  let c16_i32_179 : BitVec 32 := 16#32
  let v317 : BitVec 32 := Scalar.muli arg15 c16_i32_179
  let v318 : BitVec 32 := Scalar.addi c0_i32_180 v317
  let c6_i32 : BitVec 32 := 6#32
  let v319 : BitVec 32 := Scalar.addi v318 c6_i32
  let c64_i32_183 : BitVec 32 := 64#32
  let v327 : BitVec 32 := Scalar.muli v319 c64_i32_183
  let v328 : BitVec 32 := Scalar.addi v327 c0_i32_184
  let v329 : Index := Scalar.indexCast v328
  ![v329.toNat]
def k1_off18 (k1_t2 : Fin k1_t2_loop.trips) (v359 : BitVec 32) (c0_i32_197 : BitVec 32) : Fin 2 → Nat :=
  let c0_i32_195 : BitVec 32 := 0#32
  let c0_i32_25 : BitVec 32 := 0#32
  let c1_i32_26 : BitVec 32 := 1#32
  let arg15 : BitVec 32 := Scf.iv c0_i32_25 c1_i32_26 k1_t2
  let c16_i32_194 : BitVec 32 := 16#32
  let v355 : BitVec 32 := Scalar.muli arg15 c16_i32_194
  let v356 : BitVec 32 := Scalar.addi c0_i32_195 v355
  let c7_i32 : BitVec 32 := 7#32
  let v357 : BitVec 32 := Scalar.addi v356 c7_i32
  let v362 : Index := Scalar.indexCast v357
  let c64_i32_196 : BitVec 32 := 64#32
  let v360 : BitVec 32 := Scalar.muli v359 c64_i32_196
  let v361 : BitVec 32 := Scalar.addi v360 c0_i32_197
  let v363 : Index := Scalar.indexCast v361
  ![v362.toNat, v363.toNat]

def k1_chk8 (k1_t2 : Fin k1_t2_loop.trips) (v359 : BitVec 32) : Prop :=
  (∀ (r : Fin 4), ∀ a, (k1_off18 k1_t2 v359 (BitVec.ofNat 32 (16 * r.val))) a + S1x16.size a ≤ S512x128.size a)
theorem k1_off18_inb : ∀ (k1_t2 : Fin k1_t2_loop.trips) (v359 : BitVec 32) (k1_hw8 : k1_chk8 k1_t2 v359), ∀ (r : Fin 4), ∀ a, (k1_off18 k1_t2 v359 (BitVec.ofNat 32 (16 * r.val))) a + S1x16.size a ≤ S512x128.size a := fun k1_t2 v359 k1_hw8 r => k1_hw8 r

def k1_off19 (k1_t2 : Fin k1_t2_loop.trips) (c0_i32_199 : BitVec 32) : Fin 1 → Nat :=
  let c0_i32_195 : BitVec 32 := 0#32
  let c0_i32_25 : BitVec 32 := 0#32
  let c1_i32_26 : BitVec 32 := 1#32
  let arg15 : BitVec 32 := Scf.iv c0_i32_25 c1_i32_26 k1_t2
  let c16_i32_194 : BitVec 32 := 16#32
  let v355 : BitVec 32 := Scalar.muli arg15 c16_i32_194
  let v356 : BitVec 32 := Scalar.addi c0_i32_195 v355
  let c7_i32 : BitVec 32 := 7#32
  let v357 : BitVec 32 := Scalar.addi v356 c7_i32
  let c64_i32_198 : BitVec 32 := 64#32
  let v365 : BitVec 32 := Scalar.muli v357 c64_i32_198
  let v366 : BitVec 32 := Scalar.addi v365 c0_i32_199
  let v367 : Index := Scalar.indexCast v366
  ![v367.toNat]
def k1_off20 (k1_t2 : Fin k1_t2_loop.trips) (v397 : BitVec 32) (c0_i32_213 : BitVec 32) : Fin 2 → Nat :=
  let c0_i32_210 : BitVec 32 := 0#32
  let c0_i32_25 : BitVec 32 := 0#32
  let c1_i32_26 : BitVec 32 := 1#32
  let arg15 : BitVec 32 := Scf.iv c0_i32_25 c1_i32_26 k1_t2
  let c16_i32_209 : BitVec 32 := 16#32
  let v393 : BitVec 32 := Scalar.muli arg15 c16_i32_209
  let v394 : BitVec 32 := Scalar.addi c0_i32_210 v393
  let c8_i32_211 : BitVec 32 := 8#32
  let v395 : BitVec 32 := Scalar.addi v394 c8_i32_211
  let v400 : Index := Scalar.indexCast v395
  let c64_i32_212 : BitVec 32 := 64#32
  let v398 : BitVec 32 := Scalar.muli v397 c64_i32_212
  let v399 : BitVec 32 := Scalar.addi v398 c0_i32_213
  let v401 : Index := Scalar.indexCast v399
  ![v400.toNat, v401.toNat]

def k1_chk9 (k1_t2 : Fin k1_t2_loop.trips) (v397 : BitVec 32) : Prop :=
  (∀ (r : Fin 4), ∀ a, (k1_off20 k1_t2 v397 (BitVec.ofNat 32 (16 * r.val))) a + S1x16.size a ≤ S512x128.size a)
theorem k1_off20_inb : ∀ (k1_t2 : Fin k1_t2_loop.trips) (v397 : BitVec 32) (k1_hw9 : k1_chk9 k1_t2 v397), ∀ (r : Fin 4), ∀ a, (k1_off20 k1_t2 v397 (BitVec.ofNat 32 (16 * r.val))) a + S1x16.size a ≤ S512x128.size a := fun k1_t2 v397 k1_hw9 r => k1_hw9 r

def k1_off21 (k1_t2 : Fin k1_t2_loop.trips) (c0_i32_215 : BitVec 32) : Fin 1 → Nat :=
  let c0_i32_210 : BitVec 32 := 0#32
  let c0_i32_25 : BitVec 32 := 0#32
  let c1_i32_26 : BitVec 32 := 1#32
  let arg15 : BitVec 32 := Scf.iv c0_i32_25 c1_i32_26 k1_t2
  let c16_i32_209 : BitVec 32 := 16#32
  let v393 : BitVec 32 := Scalar.muli arg15 c16_i32_209
  let v394 : BitVec 32 := Scalar.addi c0_i32_210 v393
  let c8_i32_211 : BitVec 32 := 8#32
  let v395 : BitVec 32 := Scalar.addi v394 c8_i32_211
  let c64_i32_214 : BitVec 32 := 64#32
  let v403 : BitVec 32 := Scalar.muli v395 c64_i32_214
  let v404 : BitVec 32 := Scalar.addi v403 c0_i32_215
  let v405 : Index := Scalar.indexCast v404
  ![v405.toNat]
def k1_off22 (k1_t2 : Fin k1_t2_loop.trips) (v435 : BitVec 32) (c0_i32_228 : BitVec 32) : Fin 2 → Nat :=
  let c0_i32_226 : BitVec 32 := 0#32
  let c0_i32_25 : BitVec 32 := 0#32
  let c1_i32_26 : BitVec 32 := 1#32
  let arg15 : BitVec 32 := Scf.iv c0_i32_25 c1_i32_26 k1_t2
  let c16_i32_225 : BitVec 32 := 16#32
  let v431 : BitVec 32 := Scalar.muli arg15 c16_i32_225
  let v432 : BitVec 32 := Scalar.addi c0_i32_226 v431
  let c9_i32 : BitVec 32 := 9#32
  let v433 : BitVec 32 := Scalar.addi v432 c9_i32
  let v438 : Index := Scalar.indexCast v433
  let c64_i32_227 : BitVec 32 := 64#32
  let v436 : BitVec 32 := Scalar.muli v435 c64_i32_227
  let v437 : BitVec 32 := Scalar.addi v436 c0_i32_228
  let v439 : Index := Scalar.indexCast v437
  ![v438.toNat, v439.toNat]

def k1_chk10 (k1_t2 : Fin k1_t2_loop.trips) (v435 : BitVec 32) : Prop :=
  (∀ (r : Fin 4), ∀ a, (k1_off22 k1_t2 v435 (BitVec.ofNat 32 (16 * r.val))) a + S1x16.size a ≤ S512x128.size a)
theorem k1_off22_inb : ∀ (k1_t2 : Fin k1_t2_loop.trips) (v435 : BitVec 32) (k1_hw10 : k1_chk10 k1_t2 v435), ∀ (r : Fin 4), ∀ a, (k1_off22 k1_t2 v435 (BitVec.ofNat 32 (16 * r.val))) a + S1x16.size a ≤ S512x128.size a := fun k1_t2 v435 k1_hw10 r => k1_hw10 r

def k1_off23 (k1_t2 : Fin k1_t2_loop.trips) (c0_i32_230 : BitVec 32) : Fin 1 → Nat :=
  let c0_i32_226 : BitVec 32 := 0#32
  let c0_i32_25 : BitVec 32 := 0#32
  let c1_i32_26 : BitVec 32 := 1#32
  let arg15 : BitVec 32 := Scf.iv c0_i32_25 c1_i32_26 k1_t2
  let c16_i32_225 : BitVec 32 := 16#32
  let v431 : BitVec 32 := Scalar.muli arg15 c16_i32_225
  let v432 : BitVec 32 := Scalar.addi c0_i32_226 v431
  let c9_i32 : BitVec 32 := 9#32
  let v433 : BitVec 32 := Scalar.addi v432 c9_i32
  let c64_i32_229 : BitVec 32 := 64#32
  let v441 : BitVec 32 := Scalar.muli v433 c64_i32_229
  let v442 : BitVec 32 := Scalar.addi v441 c0_i32_230
  let v443 : Index := Scalar.indexCast v442
  ![v443.toNat]
def k1_off24 (k1_t2 : Fin k1_t2_loop.trips) (v473 : BitVec 32) (c0_i32_243 : BitVec 32) : Fin 2 → Nat :=
  let c0_i32_241 : BitVec 32 := 0#32
  let c0_i32_25 : BitVec 32 := 0#32
  let c1_i32_26 : BitVec 32 := 1#32
  let arg15 : BitVec 32 := Scf.iv c0_i32_25 c1_i32_26 k1_t2
  let c16_i32_240 : BitVec 32 := 16#32
  let v469 : BitVec 32 := Scalar.muli arg15 c16_i32_240
  let v470 : BitVec 32 := Scalar.addi c0_i32_241 v469
  let c10_i32 : BitVec 32 := 10#32
  let v471 : BitVec 32 := Scalar.addi v470 c10_i32
  let v476 : Index := Scalar.indexCast v471
  let c64_i32_242 : BitVec 32 := 64#32
  let v474 : BitVec 32 := Scalar.muli v473 c64_i32_242
  let v475 : BitVec 32 := Scalar.addi v474 c0_i32_243
  let v477 : Index := Scalar.indexCast v475
  ![v476.toNat, v477.toNat]

def k1_chk11 (k1_t2 : Fin k1_t2_loop.trips) (v473 : BitVec 32) : Prop :=
  (∀ (r : Fin 4), ∀ a, (k1_off24 k1_t2 v473 (BitVec.ofNat 32 (16 * r.val))) a + S1x16.size a ≤ S512x128.size a)
theorem k1_off24_inb : ∀ (k1_t2 : Fin k1_t2_loop.trips) (v473 : BitVec 32) (k1_hw11 : k1_chk11 k1_t2 v473), ∀ (r : Fin 4), ∀ a, (k1_off24 k1_t2 v473 (BitVec.ofNat 32 (16 * r.val))) a + S1x16.size a ≤ S512x128.size a := fun k1_t2 v473 k1_hw11 r => k1_hw11 r

def k1_off25 (k1_t2 : Fin k1_t2_loop.trips) (c0_i32_245 : BitVec 32) : Fin 1 → Nat :=
  let c0_i32_241 : BitVec 32 := 0#32
  let c0_i32_25 : BitVec 32 := 0#32
  let c1_i32_26 : BitVec 32 := 1#32
  let arg15 : BitVec 32 := Scf.iv c0_i32_25 c1_i32_26 k1_t2
  let c16_i32_240 : BitVec 32 := 16#32
  let v469 : BitVec 32 := Scalar.muli arg15 c16_i32_240
  let v470 : BitVec 32 := Scalar.addi c0_i32_241 v469
  let c10_i32 : BitVec 32 := 10#32
  let v471 : BitVec 32 := Scalar.addi v470 c10_i32
  let c64_i32_244 : BitVec 32 := 64#32
  let v479 : BitVec 32 := Scalar.muli v471 c64_i32_244
  let v480 : BitVec 32 := Scalar.addi v479 c0_i32_245
  let v481 : Index := Scalar.indexCast v480
  ![v481.toNat]
def k1_off26 (k1_t2 : Fin k1_t2_loop.trips) (v511 : BitVec 32) (c0_i32_258 : BitVec 32) : Fin 2 → Nat :=
  let c0_i32_256 : BitVec 32 := 0#32
  let c0_i32_25 : BitVec 32 := 0#32
  let c1_i32_26 : BitVec 32 := 1#32
  let arg15 : BitVec 32 := Scf.iv c0_i32_25 c1_i32_26 k1_t2
  let c16_i32_255 : BitVec 32 := 16#32
  let v507 : BitVec 32 := Scalar.muli arg15 c16_i32_255
  let v508 : BitVec 32 := Scalar.addi c0_i32_256 v507
  let c11_i32 : BitVec 32 := 11#32
  let v509 : BitVec 32 := Scalar.addi v508 c11_i32
  let v514 : Index := Scalar.indexCast v509
  let c64_i32_257 : BitVec 32 := 64#32
  let v512 : BitVec 32 := Scalar.muli v511 c64_i32_257
  let v513 : BitVec 32 := Scalar.addi v512 c0_i32_258
  let v515 : Index := Scalar.indexCast v513
  ![v514.toNat, v515.toNat]

def k1_chk12 (k1_t2 : Fin k1_t2_loop.trips) (v511 : BitVec 32) : Prop :=
  (∀ (r : Fin 4), ∀ a, (k1_off26 k1_t2 v511 (BitVec.ofNat 32 (16 * r.val))) a + S1x16.size a ≤ S512x128.size a)
theorem k1_off26_inb : ∀ (k1_t2 : Fin k1_t2_loop.trips) (v511 : BitVec 32) (k1_hw12 : k1_chk12 k1_t2 v511), ∀ (r : Fin 4), ∀ a, (k1_off26 k1_t2 v511 (BitVec.ofNat 32 (16 * r.val))) a + S1x16.size a ≤ S512x128.size a := fun k1_t2 v511 k1_hw12 r => k1_hw12 r

def k1_off27 (k1_t2 : Fin k1_t2_loop.trips) (c0_i32_260 : BitVec 32) : Fin 1 → Nat :=
  let c0_i32_256 : BitVec 32 := 0#32
  let c0_i32_25 : BitVec 32 := 0#32
  let c1_i32_26 : BitVec 32 := 1#32
  let arg15 : BitVec 32 := Scf.iv c0_i32_25 c1_i32_26 k1_t2
  let c16_i32_255 : BitVec 32 := 16#32
  let v507 : BitVec 32 := Scalar.muli arg15 c16_i32_255
  let v508 : BitVec 32 := Scalar.addi c0_i32_256 v507
  let c11_i32 : BitVec 32 := 11#32
  let v509 : BitVec 32 := Scalar.addi v508 c11_i32
  let c64_i32_259 : BitVec 32 := 64#32
  let v517 : BitVec 32 := Scalar.muli v509 c64_i32_259
  let v518 : BitVec 32 := Scalar.addi v517 c0_i32_260
  let v519 : Index := Scalar.indexCast v518
  ![v519.toNat]
def k1_off28 (k1_t2 : Fin k1_t2_loop.trips) (v549 : BitVec 32) (c0_i32_273 : BitVec 32) : Fin 2 → Nat :=
  let c0_i32_271 : BitVec 32 := 0#32
  let c0_i32_25 : BitVec 32 := 0#32
  let c1_i32_26 : BitVec 32 := 1#32
  let arg15 : BitVec 32 := Scf.iv c0_i32_25 c1_i32_26 k1_t2
  let c16_i32_270 : BitVec 32 := 16#32
  let v545 : BitVec 32 := Scalar.muli arg15 c16_i32_270
  let v546 : BitVec 32 := Scalar.addi c0_i32_271 v545
  let c12_i32 : BitVec 32 := 12#32
  let v547 : BitVec 32 := Scalar.addi v546 c12_i32
  let v552 : Index := Scalar.indexCast v547
  let c64_i32_272 : BitVec 32 := 64#32
  let v550 : BitVec 32 := Scalar.muli v549 c64_i32_272
  let v551 : BitVec 32 := Scalar.addi v550 c0_i32_273
  let v553 : Index := Scalar.indexCast v551
  ![v552.toNat, v553.toNat]

def k1_chk13 (k1_t2 : Fin k1_t2_loop.trips) (v549 : BitVec 32) : Prop :=
  (∀ (r : Fin 4), ∀ a, (k1_off28 k1_t2 v549 (BitVec.ofNat 32 (16 * r.val))) a + S1x16.size a ≤ S512x128.size a)
theorem k1_off28_inb : ∀ (k1_t2 : Fin k1_t2_loop.trips) (v549 : BitVec 32) (k1_hw13 : k1_chk13 k1_t2 v549), ∀ (r : Fin 4), ∀ a, (k1_off28 k1_t2 v549 (BitVec.ofNat 32 (16 * r.val))) a + S1x16.size a ≤ S512x128.size a := fun k1_t2 v549 k1_hw13 r => k1_hw13 r

def k1_off29 (k1_t2 : Fin k1_t2_loop.trips) (c0_i32_275 : BitVec 32) : Fin 1 → Nat :=
  let c0_i32_271 : BitVec 32 := 0#32
  let c0_i32_25 : BitVec 32 := 0#32
  let c1_i32_26 : BitVec 32 := 1#32
  let arg15 : BitVec 32 := Scf.iv c0_i32_25 c1_i32_26 k1_t2
  let c16_i32_270 : BitVec 32 := 16#32
  let v545 : BitVec 32 := Scalar.muli arg15 c16_i32_270
  let v546 : BitVec 32 := Scalar.addi c0_i32_271 v545
  let c12_i32 : BitVec 32 := 12#32
  let v547 : BitVec 32 := Scalar.addi v546 c12_i32
  let c64_i32_274 : BitVec 32 := 64#32
  let v555 : BitVec 32 := Scalar.muli v547 c64_i32_274
  let v556 : BitVec 32 := Scalar.addi v555 c0_i32_275
  let v557 : Index := Scalar.indexCast v556
  ![v557.toNat]
def k1_off30 (k1_t2 : Fin k1_t2_loop.trips) (v587 : BitVec 32) (c0_i32_288 : BitVec 32) : Fin 2 → Nat :=
  let c0_i32_286 : BitVec 32 := 0#32
  let c0_i32_25 : BitVec 32 := 0#32
  let c1_i32_26 : BitVec 32 := 1#32
  let arg15 : BitVec 32 := Scf.iv c0_i32_25 c1_i32_26 k1_t2
  let c16_i32_285 : BitVec 32 := 16#32
  let v583 : BitVec 32 := Scalar.muli arg15 c16_i32_285
  let v584 : BitVec 32 := Scalar.addi c0_i32_286 v583
  let c13_i32 : BitVec 32 := 13#32
  let v585 : BitVec 32 := Scalar.addi v584 c13_i32
  let v590 : Index := Scalar.indexCast v585
  let c64_i32_287 : BitVec 32 := 64#32
  let v588 : BitVec 32 := Scalar.muli v587 c64_i32_287
  let v589 : BitVec 32 := Scalar.addi v588 c0_i32_288
  let v591 : Index := Scalar.indexCast v589
  ![v590.toNat, v591.toNat]

def k1_chk14 (k1_t2 : Fin k1_t2_loop.trips) (v587 : BitVec 32) : Prop :=
  (∀ (r : Fin 4), ∀ a, (k1_off30 k1_t2 v587 (BitVec.ofNat 32 (16 * r.val))) a + S1x16.size a ≤ S512x128.size a)
theorem k1_off30_inb : ∀ (k1_t2 : Fin k1_t2_loop.trips) (v587 : BitVec 32) (k1_hw14 : k1_chk14 k1_t2 v587), ∀ (r : Fin 4), ∀ a, (k1_off30 k1_t2 v587 (BitVec.ofNat 32 (16 * r.val))) a + S1x16.size a ≤ S512x128.size a := fun k1_t2 v587 k1_hw14 r => k1_hw14 r

def k1_off31 (k1_t2 : Fin k1_t2_loop.trips) (c0_i32_290 : BitVec 32) : Fin 1 → Nat :=
  let c0_i32_286 : BitVec 32 := 0#32
  let c0_i32_25 : BitVec 32 := 0#32
  let c1_i32_26 : BitVec 32 := 1#32
  let arg15 : BitVec 32 := Scf.iv c0_i32_25 c1_i32_26 k1_t2
  let c16_i32_285 : BitVec 32 := 16#32
  let v583 : BitVec 32 := Scalar.muli arg15 c16_i32_285
  let v584 : BitVec 32 := Scalar.addi c0_i32_286 v583
  let c13_i32 : BitVec 32 := 13#32
  let v585 : BitVec 32 := Scalar.addi v584 c13_i32
  let c64_i32_289 : BitVec 32 := 64#32
  let v593 : BitVec 32 := Scalar.muli v585 c64_i32_289
  let v594 : BitVec 32 := Scalar.addi v593 c0_i32_290
  let v595 : Index := Scalar.indexCast v594
  ![v595.toNat]
def k1_off32 (k1_t2 : Fin k1_t2_loop.trips) (v625 : BitVec 32) (c0_i32_303 : BitVec 32) : Fin 2 → Nat :=
  let c0_i32_301 : BitVec 32 := 0#32
  let c0_i32_25 : BitVec 32 := 0#32
  let c1_i32_26 : BitVec 32 := 1#32
  let arg15 : BitVec 32 := Scf.iv c0_i32_25 c1_i32_26 k1_t2
  let c16_i32_300 : BitVec 32 := 16#32
  let v621 : BitVec 32 := Scalar.muli arg15 c16_i32_300
  let v622 : BitVec 32 := Scalar.addi c0_i32_301 v621
  let c14_i32 : BitVec 32 := 14#32
  let v623 : BitVec 32 := Scalar.addi v622 c14_i32
  let v628 : Index := Scalar.indexCast v623
  let c64_i32_302 : BitVec 32 := 64#32
  let v626 : BitVec 32 := Scalar.muli v625 c64_i32_302
  let v627 : BitVec 32 := Scalar.addi v626 c0_i32_303
  let v629 : Index := Scalar.indexCast v627
  ![v628.toNat, v629.toNat]

def k1_chk15 (k1_t2 : Fin k1_t2_loop.trips) (v625 : BitVec 32) : Prop :=
  (∀ (r : Fin 4), ∀ a, (k1_off32 k1_t2 v625 (BitVec.ofNat 32 (16 * r.val))) a + S1x16.size a ≤ S512x128.size a)
theorem k1_off32_inb : ∀ (k1_t2 : Fin k1_t2_loop.trips) (v625 : BitVec 32) (k1_hw15 : k1_chk15 k1_t2 v625), ∀ (r : Fin 4), ∀ a, (k1_off32 k1_t2 v625 (BitVec.ofNat 32 (16 * r.val))) a + S1x16.size a ≤ S512x128.size a := fun k1_t2 v625 k1_hw15 r => k1_hw15 r

def k1_off33 (k1_t2 : Fin k1_t2_loop.trips) (c0_i32_305 : BitVec 32) : Fin 1 → Nat :=
  let c0_i32_301 : BitVec 32 := 0#32
  let c0_i32_25 : BitVec 32 := 0#32
  let c1_i32_26 : BitVec 32 := 1#32
  let arg15 : BitVec 32 := Scf.iv c0_i32_25 c1_i32_26 k1_t2
  let c16_i32_300 : BitVec 32 := 16#32
  let v621 : BitVec 32 := Scalar.muli arg15 c16_i32_300
  let v622 : BitVec 32 := Scalar.addi c0_i32_301 v621
  let c14_i32 : BitVec 32 := 14#32
  let v623 : BitVec 32 := Scalar.addi v622 c14_i32
  let c64_i32_304 : BitVec 32 := 64#32
  let v631 : BitVec 32 := Scalar.muli v623 c64_i32_304
  let v632 : BitVec 32 := Scalar.addi v631 c0_i32_305
  let v633 : Index := Scalar.indexCast v632
  ![v633.toNat]
def k1_off34 (k1_t2 : Fin k1_t2_loop.trips) (v663 : BitVec 32) (c0_i32_318 : BitVec 32) : Fin 2 → Nat :=
  let c0_i32_316 : BitVec 32 := 0#32
  let c0_i32_25 : BitVec 32 := 0#32
  let c1_i32_26 : BitVec 32 := 1#32
  let arg15 : BitVec 32 := Scf.iv c0_i32_25 c1_i32_26 k1_t2
  let c16_i32_315 : BitVec 32 := 16#32
  let v659 : BitVec 32 := Scalar.muli arg15 c16_i32_315
  let v660 : BitVec 32 := Scalar.addi c0_i32_316 v659
  let c15_i32 : BitVec 32 := 15#32
  let v661 : BitVec 32 := Scalar.addi v660 c15_i32
  let v666 : Index := Scalar.indexCast v661
  let c64_i32_317 : BitVec 32 := 64#32
  let v664 : BitVec 32 := Scalar.muli v663 c64_i32_317
  let v665 : BitVec 32 := Scalar.addi v664 c0_i32_318
  let v667 : Index := Scalar.indexCast v665
  ![v666.toNat, v667.toNat]

def k1_chk16 (k1_t2 : Fin k1_t2_loop.trips) (v663 : BitVec 32) : Prop :=
  (∀ (r : Fin 4), ∀ a, (k1_off34 k1_t2 v663 (BitVec.ofNat 32 (16 * r.val))) a + S1x16.size a ≤ S512x128.size a)
theorem k1_off34_inb : ∀ (k1_t2 : Fin k1_t2_loop.trips) (v663 : BitVec 32) (k1_hw16 : k1_chk16 k1_t2 v663), ∀ (r : Fin 4), ∀ a, (k1_off34 k1_t2 v663 (BitVec.ofNat 32 (16 * r.val))) a + S1x16.size a ≤ S512x128.size a := fun k1_t2 v663 k1_hw16 r => k1_hw16 r

def k1_off35 (k1_t2 : Fin k1_t2_loop.trips) (c0_i32_320 : BitVec 32) : Fin 1 → Nat :=
  let c0_i32_316 : BitVec 32 := 0#32
  let c0_i32_25 : BitVec 32 := 0#32
  let c1_i32_26 : BitVec 32 := 1#32
  let arg15 : BitVec 32 := Scf.iv c0_i32_25 c1_i32_26 k1_t2
  let c16_i32_315 : BitVec 32 := 16#32
  let v659 : BitVec 32 := Scalar.muli arg15 c16_i32_315
  let v660 : BitVec 32 := Scalar.addi c0_i32_316 v659
  let c15_i32 : BitVec 32 := 15#32
  let v661 : BitVec 32 := Scalar.addi v660 c15_i32
  let c64_i32_319 : BitVec 32 := 64#32
  let v669 : BitVec 32 := Scalar.muli v661 c64_i32_319
  let v670 : BitVec 32 := Scalar.addi v669 c0_i32_320
  let v671 : Index := Scalar.indexCast v670
  ![v671.toNat]
def k1_off36 (i : grid1.Coords) (c0_i32_28 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v22 : BitVec 32 := Scalar.addi v2 c0_i32_28
  let c64_i32 : BitVec 32 := 64#32
  let v23 : BitVec 32 := Scalar.muli v22 c64_i32
  ![v23.toNat]
@[reducible] def k1_t3_loop : Scf.Loop 32 :=
  let c0_i32_37 : BitVec 32 := 0#32
  let c8_i32_38 : BitVec 32 := 8#32
  let v31 : BitVec 32 := Scalar.addi c0_i32_37 c8_i32_38
  let c1_i32_39 : BitVec 32 := 1#32
  ⟨c0_i32_37, v31, c1_i32_39⟩
def k1_off37 (k1_t3 : Fin k1_t3_loop.trips) : Fin 1 → Nat :=
  let c128_i32_86 : BitVec 32 := 128#32
  let c0_i32_37 : BitVec 32 := 0#32
  let c1_i32_39 : BitVec 32 := 1#32
  let arg15 : BitVec 32 := Scf.iv c0_i32_37 c1_i32_39 k1_t3
  let c16_i32 : BitVec 32 := 16#32
  let v85 : BitVec 32 := Scalar.muli arg15 c16_i32
  let v86 : BitVec 32 := Scalar.addi c128_i32_86 v85
  let v87 : Index := Scalar.indexCast v86
  ![v87.toNat]
def k1_off38 (k1_t3 : Fin k1_t3_loop.trips) (v93 : BitVec 32) (c0_i32_91 : BitVec 32) : Fin 2 → Nat :=
  let c128_i32_88 : BitVec 32 := 128#32
  let c0_i32_37 : BitVec 32 := 0#32
  let c1_i32_39 : BitVec 32 := 1#32
  let arg15 : BitVec 32 := Scf.iv c0_i32_37 c1_i32_39 k1_t3
  let c16_i32_87 : BitVec 32 := 16#32
  let v89 : BitVec 32 := Scalar.muli arg15 c16_i32_87
  let v90 : BitVec 32 := Scalar.addi c128_i32_88 v89
  let c0_i32_89 : BitVec 32 := 0#32
  let v91 : BitVec 32 := Scalar.addi v90 c0_i32_89
  let v96 : Index := Scalar.indexCast v91
  let c64_i32_90 : BitVec 32 := 64#32
  let v94 : BitVec 32 := Scalar.muli v93 c64_i32_90
  let v95 : BitVec 32 := Scalar.addi v94 c0_i32_91
  let v97 : Index := Scalar.indexCast v95
  ![v96.toNat, v97.toNat]

def k1_chk17 (k1_t3 : Fin k1_t3_loop.trips) (v93 : BitVec 32) : Prop :=
  (∀ (r : Fin 4), ∀ a, (k1_off38 k1_t3 v93 (BitVec.ofNat 32 (16 * r.val))) a + S1x16.size a ≤ S512x128.size a)
theorem k1_off38_inb : ∀ (k1_t3 : Fin k1_t3_loop.trips) (v93 : BitVec 32) (k1_hw17 : k1_chk17 k1_t3 v93), ∀ (r : Fin 4), ∀ a, (k1_off38 k1_t3 v93 (BitVec.ofNat 32 (16 * r.val))) a + S1x16.size a ≤ S512x128.size a := fun k1_t3 v93 k1_hw17 r => k1_hw17 r

def k1_off39 (k1_t3 : Fin k1_t3_loop.trips) (c0_i32_93 : BitVec 32) : Fin 1 → Nat :=
  let c128_i32_88 : BitVec 32 := 128#32
  let c0_i32_37 : BitVec 32 := 0#32
  let c1_i32_39 : BitVec 32 := 1#32
  let arg15 : BitVec 32 := Scf.iv c0_i32_37 c1_i32_39 k1_t3
  let c16_i32_87 : BitVec 32 := 16#32
  let v89 : BitVec 32 := Scalar.muli arg15 c16_i32_87
  let v90 : BitVec 32 := Scalar.addi c128_i32_88 v89
  let c0_i32_89 : BitVec 32 := 0#32
  let v91 : BitVec 32 := Scalar.addi v90 c0_i32_89
  let c64_i32_92 : BitVec 32 := 64#32
  let v99 : BitVec 32 := Scalar.muli v91 c64_i32_92
  let v100 : BitVec 32 := Scalar.addi v99 c0_i32_93
  let v101 : Index := Scalar.indexCast v100
  ![v101.toNat]
def k1_off40 (k1_t3 : Fin k1_t3_loop.trips) (v131 : BitVec 32) (c0_i32_106 : BitVec 32) : Fin 2 → Nat :=
  let c128_i32_103 : BitVec 32 := 128#32
  let c0_i32_37 : BitVec 32 := 0#32
  let c1_i32_39 : BitVec 32 := 1#32
  let arg15 : BitVec 32 := Scf.iv c0_i32_37 c1_i32_39 k1_t3
  let c16_i32_102 : BitVec 32 := 16#32
  let v127 : BitVec 32 := Scalar.muli arg15 c16_i32_102
  let v128 : BitVec 32 := Scalar.addi c128_i32_103 v127
  let c1_i32_104 : BitVec 32 := 1#32
  let v129 : BitVec 32 := Scalar.addi v128 c1_i32_104
  let v134 : Index := Scalar.indexCast v129
  let c64_i32_105 : BitVec 32 := 64#32
  let v132 : BitVec 32 := Scalar.muli v131 c64_i32_105
  let v133 : BitVec 32 := Scalar.addi v132 c0_i32_106
  let v135 : Index := Scalar.indexCast v133
  ![v134.toNat, v135.toNat]

def k1_chk18 (k1_t3 : Fin k1_t3_loop.trips) (v131 : BitVec 32) : Prop :=
  (∀ (r : Fin 4), ∀ a, (k1_off40 k1_t3 v131 (BitVec.ofNat 32 (16 * r.val))) a + S1x16.size a ≤ S512x128.size a)
theorem k1_off40_inb : ∀ (k1_t3 : Fin k1_t3_loop.trips) (v131 : BitVec 32) (k1_hw18 : k1_chk18 k1_t3 v131), ∀ (r : Fin 4), ∀ a, (k1_off40 k1_t3 v131 (BitVec.ofNat 32 (16 * r.val))) a + S1x16.size a ≤ S512x128.size a := fun k1_t3 v131 k1_hw18 r => k1_hw18 r

def k1_off41 (k1_t3 : Fin k1_t3_loop.trips) (c0_i32_108 : BitVec 32) : Fin 1 → Nat :=
  let c128_i32_103 : BitVec 32 := 128#32
  let c0_i32_37 : BitVec 32 := 0#32
  let c1_i32_39 : BitVec 32 := 1#32
  let arg15 : BitVec 32 := Scf.iv c0_i32_37 c1_i32_39 k1_t3
  let c16_i32_102 : BitVec 32 := 16#32
  let v127 : BitVec 32 := Scalar.muli arg15 c16_i32_102
  let v128 : BitVec 32 := Scalar.addi c128_i32_103 v127
  let c1_i32_104 : BitVec 32 := 1#32
  let v129 : BitVec 32 := Scalar.addi v128 c1_i32_104
  let c64_i32_107 : BitVec 32 := 64#32
  let v137 : BitVec 32 := Scalar.muli v129 c64_i32_107
  let v138 : BitVec 32 := Scalar.addi v137 c0_i32_108
  let v139 : Index := Scalar.indexCast v138
  ![v139.toNat]
def k1_off42 (k1_t3 : Fin k1_t3_loop.trips) (v169 : BitVec 32) (c0_i32_122 : BitVec 32) : Fin 2 → Nat :=
  let c128_i32_119 : BitVec 32 := 128#32
  let c0_i32_37 : BitVec 32 := 0#32
  let c1_i32_39 : BitVec 32 := 1#32
  let arg15 : BitVec 32 := Scf.iv c0_i32_37 c1_i32_39 k1_t3
  let c16_i32_118 : BitVec 32 := 16#32
  let v165 : BitVec 32 := Scalar.muli arg15 c16_i32_118
  let v166 : BitVec 32 := Scalar.addi c128_i32_119 v165
  let c2_i32_120 : BitVec 32 := 2#32
  let v167 : BitVec 32 := Scalar.addi v166 c2_i32_120
  let v172 : Index := Scalar.indexCast v167
  let c64_i32_121 : BitVec 32 := 64#32
  let v170 : BitVec 32 := Scalar.muli v169 c64_i32_121
  let v171 : BitVec 32 := Scalar.addi v170 c0_i32_122
  let v173 : Index := Scalar.indexCast v171
  ![v172.toNat, v173.toNat]

def k1_chk19 (k1_t3 : Fin k1_t3_loop.trips) (v169 : BitVec 32) : Prop :=
  (∀ (r : Fin 4), ∀ a, (k1_off42 k1_t3 v169 (BitVec.ofNat 32 (16 * r.val))) a + S1x16.size a ≤ S512x128.size a)
theorem k1_off42_inb : ∀ (k1_t3 : Fin k1_t3_loop.trips) (v169 : BitVec 32) (k1_hw19 : k1_chk19 k1_t3 v169), ∀ (r : Fin 4), ∀ a, (k1_off42 k1_t3 v169 (BitVec.ofNat 32 (16 * r.val))) a + S1x16.size a ≤ S512x128.size a := fun k1_t3 v169 k1_hw19 r => k1_hw19 r

def k1_off43 (k1_t3 : Fin k1_t3_loop.trips) (c0_i32_124 : BitVec 32) : Fin 1 → Nat :=
  let c128_i32_119 : BitVec 32 := 128#32
  let c0_i32_37 : BitVec 32 := 0#32
  let c1_i32_39 : BitVec 32 := 1#32
  let arg15 : BitVec 32 := Scf.iv c0_i32_37 c1_i32_39 k1_t3
  let c16_i32_118 : BitVec 32 := 16#32
  let v165 : BitVec 32 := Scalar.muli arg15 c16_i32_118
  let v166 : BitVec 32 := Scalar.addi c128_i32_119 v165
  let c2_i32_120 : BitVec 32 := 2#32
  let v167 : BitVec 32 := Scalar.addi v166 c2_i32_120
  let c64_i32_123 : BitVec 32 := 64#32
  let v175 : BitVec 32 := Scalar.muli v167 c64_i32_123
  let v176 : BitVec 32 := Scalar.addi v175 c0_i32_124
  let v177 : Index := Scalar.indexCast v176
  ![v177.toNat]
def k1_off44 (k1_t3 : Fin k1_t3_loop.trips) (v207 : BitVec 32) (c0_i32_137 : BitVec 32) : Fin 2 → Nat :=
  let c128_i32_135 : BitVec 32 := 128#32
  let c0_i32_37 : BitVec 32 := 0#32
  let c1_i32_39 : BitVec 32 := 1#32
  let arg15 : BitVec 32 := Scf.iv c0_i32_37 c1_i32_39 k1_t3
  let c16_i32_134 : BitVec 32 := 16#32
  let v203 : BitVec 32 := Scalar.muli arg15 c16_i32_134
  let v204 : BitVec 32 := Scalar.addi c128_i32_135 v203
  let c3_i32 : BitVec 32 := 3#32
  let v205 : BitVec 32 := Scalar.addi v204 c3_i32
  let v210 : Index := Scalar.indexCast v205
  let c64_i32_136 : BitVec 32 := 64#32
  let v208 : BitVec 32 := Scalar.muli v207 c64_i32_136
  let v209 : BitVec 32 := Scalar.addi v208 c0_i32_137
  let v211 : Index := Scalar.indexCast v209
  ![v210.toNat, v211.toNat]

def k1_chk20 (k1_t3 : Fin k1_t3_loop.trips) (v207 : BitVec 32) : Prop :=
  (∀ (r : Fin 4), ∀ a, (k1_off44 k1_t3 v207 (BitVec.ofNat 32 (16 * r.val))) a + S1x16.size a ≤ S512x128.size a)
theorem k1_off44_inb : ∀ (k1_t3 : Fin k1_t3_loop.trips) (v207 : BitVec 32) (k1_hw20 : k1_chk20 k1_t3 v207), ∀ (r : Fin 4), ∀ a, (k1_off44 k1_t3 v207 (BitVec.ofNat 32 (16 * r.val))) a + S1x16.size a ≤ S512x128.size a := fun k1_t3 v207 k1_hw20 r => k1_hw20 r

def k1_off45 (k1_t3 : Fin k1_t3_loop.trips) (c0_i32_139 : BitVec 32) : Fin 1 → Nat :=
  let c128_i32_135 : BitVec 32 := 128#32
  let c0_i32_37 : BitVec 32 := 0#32
  let c1_i32_39 : BitVec 32 := 1#32
  let arg15 : BitVec 32 := Scf.iv c0_i32_37 c1_i32_39 k1_t3
  let c16_i32_134 : BitVec 32 := 16#32
  let v203 : BitVec 32 := Scalar.muli arg15 c16_i32_134
  let v204 : BitVec 32 := Scalar.addi c128_i32_135 v203
  let c3_i32 : BitVec 32 := 3#32
  let v205 : BitVec 32 := Scalar.addi v204 c3_i32
  let c64_i32_138 : BitVec 32 := 64#32
  let v213 : BitVec 32 := Scalar.muli v205 c64_i32_138
  let v214 : BitVec 32 := Scalar.addi v213 c0_i32_139
  let v215 : Index := Scalar.indexCast v214
  ![v215.toNat]
def k1_off46 (k1_t3 : Fin k1_t3_loop.trips) (v245 : BitVec 32) (c0_i32_152 : BitVec 32) : Fin 2 → Nat :=
  let c128_i32_150 : BitVec 32 := 128#32
  let c0_i32_37 : BitVec 32 := 0#32
  let c1_i32_39 : BitVec 32 := 1#32
  let arg15 : BitVec 32 := Scf.iv c0_i32_37 c1_i32_39 k1_t3
  let c16_i32_149 : BitVec 32 := 16#32
  let v241 : BitVec 32 := Scalar.muli arg15 c16_i32_149
  let v242 : BitVec 32 := Scalar.addi c128_i32_150 v241
  let c4_i32 : BitVec 32 := 4#32
  let v243 : BitVec 32 := Scalar.addi v242 c4_i32
  let v248 : Index := Scalar.indexCast v243
  let c64_i32_151 : BitVec 32 := 64#32
  let v246 : BitVec 32 := Scalar.muli v245 c64_i32_151
  let v247 : BitVec 32 := Scalar.addi v246 c0_i32_152
  let v249 : Index := Scalar.indexCast v247
  ![v248.toNat, v249.toNat]

def k1_chk21 (k1_t3 : Fin k1_t3_loop.trips) (v245 : BitVec 32) : Prop :=
  (∀ (r : Fin 4), ∀ a, (k1_off46 k1_t3 v245 (BitVec.ofNat 32 (16 * r.val))) a + S1x16.size a ≤ S512x128.size a)
theorem k1_off46_inb : ∀ (k1_t3 : Fin k1_t3_loop.trips) (v245 : BitVec 32) (k1_hw21 : k1_chk21 k1_t3 v245), ∀ (r : Fin 4), ∀ a, (k1_off46 k1_t3 v245 (BitVec.ofNat 32 (16 * r.val))) a + S1x16.size a ≤ S512x128.size a := fun k1_t3 v245 k1_hw21 r => k1_hw21 r

def k1_off47 (k1_t3 : Fin k1_t3_loop.trips) (c0_i32_154 : BitVec 32) : Fin 1 → Nat :=
  let c128_i32_150 : BitVec 32 := 128#32
  let c0_i32_37 : BitVec 32 := 0#32
  let c1_i32_39 : BitVec 32 := 1#32
  let arg15 : BitVec 32 := Scf.iv c0_i32_37 c1_i32_39 k1_t3
  let c16_i32_149 : BitVec 32 := 16#32
  let v241 : BitVec 32 := Scalar.muli arg15 c16_i32_149
  let v242 : BitVec 32 := Scalar.addi c128_i32_150 v241
  let c4_i32 : BitVec 32 := 4#32
  let v243 : BitVec 32 := Scalar.addi v242 c4_i32
  let c64_i32_153 : BitVec 32 := 64#32
  let v251 : BitVec 32 := Scalar.muli v243 c64_i32_153
  let v252 : BitVec 32 := Scalar.addi v251 c0_i32_154
  let v253 : Index := Scalar.indexCast v252
  ![v253.toNat]
def k1_off48 (k1_t3 : Fin k1_t3_loop.trips) (v283 : BitVec 32) (c0_i32_167 : BitVec 32) : Fin 2 → Nat :=
  let c128_i32_165 : BitVec 32 := 128#32
  let c0_i32_37 : BitVec 32 := 0#32
  let c1_i32_39 : BitVec 32 := 1#32
  let arg15 : BitVec 32 := Scf.iv c0_i32_37 c1_i32_39 k1_t3
  let c16_i32_164 : BitVec 32 := 16#32
  let v279 : BitVec 32 := Scalar.muli arg15 c16_i32_164
  let v280 : BitVec 32 := Scalar.addi c128_i32_165 v279
  let c5_i32 : BitVec 32 := 5#32
  let v281 : BitVec 32 := Scalar.addi v280 c5_i32
  let v286 : Index := Scalar.indexCast v281
  let c64_i32_166 : BitVec 32 := 64#32
  let v284 : BitVec 32 := Scalar.muli v283 c64_i32_166
  let v285 : BitVec 32 := Scalar.addi v284 c0_i32_167
  let v287 : Index := Scalar.indexCast v285
  ![v286.toNat, v287.toNat]

def k1_chk22 (k1_t3 : Fin k1_t3_loop.trips) (v283 : BitVec 32) : Prop :=
  (∀ (r : Fin 4), ∀ a, (k1_off48 k1_t3 v283 (BitVec.ofNat 32 (16 * r.val))) a + S1x16.size a ≤ S512x128.size a)
theorem k1_off48_inb : ∀ (k1_t3 : Fin k1_t3_loop.trips) (v283 : BitVec 32) (k1_hw22 : k1_chk22 k1_t3 v283), ∀ (r : Fin 4), ∀ a, (k1_off48 k1_t3 v283 (BitVec.ofNat 32 (16 * r.val))) a + S1x16.size a ≤ S512x128.size a := fun k1_t3 v283 k1_hw22 r => k1_hw22 r

def k1_off49 (k1_t3 : Fin k1_t3_loop.trips) (c0_i32_169 : BitVec 32) : Fin 1 → Nat :=
  let c128_i32_165 : BitVec 32 := 128#32
  let c0_i32_37 : BitVec 32 := 0#32
  let c1_i32_39 : BitVec 32 := 1#32
  let arg15 : BitVec 32 := Scf.iv c0_i32_37 c1_i32_39 k1_t3
  let c16_i32_164 : BitVec 32 := 16#32
  let v279 : BitVec 32 := Scalar.muli arg15 c16_i32_164
  let v280 : BitVec 32 := Scalar.addi c128_i32_165 v279
  let c5_i32 : BitVec 32 := 5#32
  let v281 : BitVec 32 := Scalar.addi v280 c5_i32
  let c64_i32_168 : BitVec 32 := 64#32
  let v289 : BitVec 32 := Scalar.muli v281 c64_i32_168
  let v290 : BitVec 32 := Scalar.addi v289 c0_i32_169
  let v291 : Index := Scalar.indexCast v290
  ![v291.toNat]
def k1_off50 (k1_t3 : Fin k1_t3_loop.trips) (v321 : BitVec 32) (c0_i32_182 : BitVec 32) : Fin 2 → Nat :=
  let c128_i32_180 : BitVec 32 := 128#32
  let c0_i32_37 : BitVec 32 := 0#32
  let c1_i32_39 : BitVec 32 := 1#32
  let arg15 : BitVec 32 := Scf.iv c0_i32_37 c1_i32_39 k1_t3
  let c16_i32_179 : BitVec 32 := 16#32
  let v317 : BitVec 32 := Scalar.muli arg15 c16_i32_179
  let v318 : BitVec 32 := Scalar.addi c128_i32_180 v317
  let c6_i32 : BitVec 32 := 6#32
  let v319 : BitVec 32 := Scalar.addi v318 c6_i32
  let v324 : Index := Scalar.indexCast v319
  let c64_i32_181 : BitVec 32 := 64#32
  let v322 : BitVec 32 := Scalar.muli v321 c64_i32_181
  let v323 : BitVec 32 := Scalar.addi v322 c0_i32_182
  let v325 : Index := Scalar.indexCast v323
  ![v324.toNat, v325.toNat]

def k1_chk23 (k1_t3 : Fin k1_t3_loop.trips) (v321 : BitVec 32) : Prop :=
  (∀ (r : Fin 4), ∀ a, (k1_off50 k1_t3 v321 (BitVec.ofNat 32 (16 * r.val))) a + S1x16.size a ≤ S512x128.size a)
theorem k1_off50_inb : ∀ (k1_t3 : Fin k1_t3_loop.trips) (v321 : BitVec 32) (k1_hw23 : k1_chk23 k1_t3 v321), ∀ (r : Fin 4), ∀ a, (k1_off50 k1_t3 v321 (BitVec.ofNat 32 (16 * r.val))) a + S1x16.size a ≤ S512x128.size a := fun k1_t3 v321 k1_hw23 r => k1_hw23 r

def k1_off51 (k1_t3 : Fin k1_t3_loop.trips) (c0_i32_184 : BitVec 32) : Fin 1 → Nat :=
  let c128_i32_180 : BitVec 32 := 128#32
  let c0_i32_37 : BitVec 32 := 0#32
  let c1_i32_39 : BitVec 32 := 1#32
  let arg15 : BitVec 32 := Scf.iv c0_i32_37 c1_i32_39 k1_t3
  let c16_i32_179 : BitVec 32 := 16#32
  let v317 : BitVec 32 := Scalar.muli arg15 c16_i32_179
  let v318 : BitVec 32 := Scalar.addi c128_i32_180 v317
  let c6_i32 : BitVec 32 := 6#32
  let v319 : BitVec 32 := Scalar.addi v318 c6_i32
  let c64_i32_183 : BitVec 32 := 64#32
  let v327 : BitVec 32 := Scalar.muli v319 c64_i32_183
  let v328 : BitVec 32 := Scalar.addi v327 c0_i32_184
  let v329 : Index := Scalar.indexCast v328
  ![v329.toNat]
def k1_off52 (k1_t3 : Fin k1_t3_loop.trips) (v359 : BitVec 32) (c0_i32_197 : BitVec 32) : Fin 2 → Nat :=
  let c128_i32_195 : BitVec 32 := 128#32
  let c0_i32_37 : BitVec 32 := 0#32
  let c1_i32_39 : BitVec 32 := 1#32
  let arg15 : BitVec 32 := Scf.iv c0_i32_37 c1_i32_39 k1_t3
  let c16_i32_194 : BitVec 32 := 16#32
  let v355 : BitVec 32 := Scalar.muli arg15 c16_i32_194
  let v356 : BitVec 32 := Scalar.addi c128_i32_195 v355
  let c7_i32 : BitVec 32 := 7#32
  let v357 : BitVec 32 := Scalar.addi v356 c7_i32
  let v362 : Index := Scalar.indexCast v357
  let c64_i32_196 : BitVec 32 := 64#32
  let v360 : BitVec 32 := Scalar.muli v359 c64_i32_196
  let v361 : BitVec 32 := Scalar.addi v360 c0_i32_197
  let v363 : Index := Scalar.indexCast v361
  ![v362.toNat, v363.toNat]

def k1_chk24 (k1_t3 : Fin k1_t3_loop.trips) (v359 : BitVec 32) : Prop :=
  (∀ (r : Fin 4), ∀ a, (k1_off52 k1_t3 v359 (BitVec.ofNat 32 (16 * r.val))) a + S1x16.size a ≤ S512x128.size a)
theorem k1_off52_inb : ∀ (k1_t3 : Fin k1_t3_loop.trips) (v359 : BitVec 32) (k1_hw24 : k1_chk24 k1_t3 v359), ∀ (r : Fin 4), ∀ a, (k1_off52 k1_t3 v359 (BitVec.ofNat 32 (16 * r.val))) a + S1x16.size a ≤ S512x128.size a := fun k1_t3 v359 k1_hw24 r => k1_hw24 r

def k1_off53 (k1_t3 : Fin k1_t3_loop.trips) (c0_i32_199 : BitVec 32) : Fin 1 → Nat :=
  let c128_i32_195 : BitVec 32 := 128#32
  let c0_i32_37 : BitVec 32 := 0#32
  let c1_i32_39 : BitVec 32 := 1#32
  let arg15 : BitVec 32 := Scf.iv c0_i32_37 c1_i32_39 k1_t3
  let c16_i32_194 : BitVec 32 := 16#32
  let v355 : BitVec 32 := Scalar.muli arg15 c16_i32_194
  let v356 : BitVec 32 := Scalar.addi c128_i32_195 v355
  let c7_i32 : BitVec 32 := 7#32
  let v357 : BitVec 32 := Scalar.addi v356 c7_i32
  let c64_i32_198 : BitVec 32 := 64#32
  let v365 : BitVec 32 := Scalar.muli v357 c64_i32_198
  let v366 : BitVec 32 := Scalar.addi v365 c0_i32_199
  let v367 : Index := Scalar.indexCast v366
  ![v367.toNat]
def k1_off54 (k1_t3 : Fin k1_t3_loop.trips) (v397 : BitVec 32) (c0_i32_213 : BitVec 32) : Fin 2 → Nat :=
  let c128_i32_210 : BitVec 32 := 128#32
  let c0_i32_37 : BitVec 32 := 0#32
  let c1_i32_39 : BitVec 32 := 1#32
  let arg15 : BitVec 32 := Scf.iv c0_i32_37 c1_i32_39 k1_t3
  let c16_i32_209 : BitVec 32 := 16#32
  let v393 : BitVec 32 := Scalar.muli arg15 c16_i32_209
  let v394 : BitVec 32 := Scalar.addi c128_i32_210 v393
  let c8_i32_211 : BitVec 32 := 8#32
  let v395 : BitVec 32 := Scalar.addi v394 c8_i32_211
  let v400 : Index := Scalar.indexCast v395
  let c64_i32_212 : BitVec 32 := 64#32
  let v398 : BitVec 32 := Scalar.muli v397 c64_i32_212
  let v399 : BitVec 32 := Scalar.addi v398 c0_i32_213
  let v401 : Index := Scalar.indexCast v399
  ![v400.toNat, v401.toNat]

def k1_chk25 (k1_t3 : Fin k1_t3_loop.trips) (v397 : BitVec 32) : Prop :=
  (∀ (r : Fin 4), ∀ a, (k1_off54 k1_t3 v397 (BitVec.ofNat 32 (16 * r.val))) a + S1x16.size a ≤ S512x128.size a)
theorem k1_off54_inb : ∀ (k1_t3 : Fin k1_t3_loop.trips) (v397 : BitVec 32) (k1_hw25 : k1_chk25 k1_t3 v397), ∀ (r : Fin 4), ∀ a, (k1_off54 k1_t3 v397 (BitVec.ofNat 32 (16 * r.val))) a + S1x16.size a ≤ S512x128.size a := fun k1_t3 v397 k1_hw25 r => k1_hw25 r

def k1_off55 (k1_t3 : Fin k1_t3_loop.trips) (c0_i32_215 : BitVec 32) : Fin 1 → Nat :=
  let c128_i32_210 : BitVec 32 := 128#32
  let c0_i32_37 : BitVec 32 := 0#32
  let c1_i32_39 : BitVec 32 := 1#32
  let arg15 : BitVec 32 := Scf.iv c0_i32_37 c1_i32_39 k1_t3
  let c16_i32_209 : BitVec 32 := 16#32
  let v393 : BitVec 32 := Scalar.muli arg15 c16_i32_209
  let v394 : BitVec 32 := Scalar.addi c128_i32_210 v393
  let c8_i32_211 : BitVec 32 := 8#32
  let v395 : BitVec 32 := Scalar.addi v394 c8_i32_211
  let c64_i32_214 : BitVec 32 := 64#32
  let v403 : BitVec 32 := Scalar.muli v395 c64_i32_214
  let v404 : BitVec 32 := Scalar.addi v403 c0_i32_215
  let v405 : Index := Scalar.indexCast v404
  ![v405.toNat]
def k1_off56 (k1_t3 : Fin k1_t3_loop.trips) (v435 : BitVec 32) (c0_i32_228 : BitVec 32) : Fin 2 → Nat :=
  let c128_i32_226 : BitVec 32 := 128#32
  let c0_i32_37 : BitVec 32 := 0#32
  let c1_i32_39 : BitVec 32 := 1#32
  let arg15 : BitVec 32 := Scf.iv c0_i32_37 c1_i32_39 k1_t3
  let c16_i32_225 : BitVec 32 := 16#32
  let v431 : BitVec 32 := Scalar.muli arg15 c16_i32_225
  let v432 : BitVec 32 := Scalar.addi c128_i32_226 v431
  let c9_i32 : BitVec 32 := 9#32
  let v433 : BitVec 32 := Scalar.addi v432 c9_i32
  let v438 : Index := Scalar.indexCast v433
  let c64_i32_227 : BitVec 32 := 64#32
  let v436 : BitVec 32 := Scalar.muli v435 c64_i32_227
  let v437 : BitVec 32 := Scalar.addi v436 c0_i32_228
  let v439 : Index := Scalar.indexCast v437
  ![v438.toNat, v439.toNat]

def k1_chk26 (k1_t3 : Fin k1_t3_loop.trips) (v435 : BitVec 32) : Prop :=
  (∀ (r : Fin 4), ∀ a, (k1_off56 k1_t3 v435 (BitVec.ofNat 32 (16 * r.val))) a + S1x16.size a ≤ S512x128.size a)
theorem k1_off56_inb : ∀ (k1_t3 : Fin k1_t3_loop.trips) (v435 : BitVec 32) (k1_hw26 : k1_chk26 k1_t3 v435), ∀ (r : Fin 4), ∀ a, (k1_off56 k1_t3 v435 (BitVec.ofNat 32 (16 * r.val))) a + S1x16.size a ≤ S512x128.size a := fun k1_t3 v435 k1_hw26 r => k1_hw26 r

def k1_off57 (k1_t3 : Fin k1_t3_loop.trips) (c0_i32_230 : BitVec 32) : Fin 1 → Nat :=
  let c128_i32_226 : BitVec 32 := 128#32
  let c0_i32_37 : BitVec 32 := 0#32
  let c1_i32_39 : BitVec 32 := 1#32
  let arg15 : BitVec 32 := Scf.iv c0_i32_37 c1_i32_39 k1_t3
  let c16_i32_225 : BitVec 32 := 16#32
  let v431 : BitVec 32 := Scalar.muli arg15 c16_i32_225
  let v432 : BitVec 32 := Scalar.addi c128_i32_226 v431
  let c9_i32 : BitVec 32 := 9#32
  let v433 : BitVec 32 := Scalar.addi v432 c9_i32
  let c64_i32_229 : BitVec 32 := 64#32
  let v441 : BitVec 32 := Scalar.muli v433 c64_i32_229
  let v442 : BitVec 32 := Scalar.addi v441 c0_i32_230
  let v443 : Index := Scalar.indexCast v442
  ![v443.toNat]
def k1_off58 (k1_t3 : Fin k1_t3_loop.trips) (v473 : BitVec 32) (c0_i32_243 : BitVec 32) : Fin 2 → Nat :=
  let c128_i32_241 : BitVec 32 := 128#32
  let c0_i32_37 : BitVec 32 := 0#32
  let c1_i32_39 : BitVec 32 := 1#32
  let arg15 : BitVec 32 := Scf.iv c0_i32_37 c1_i32_39 k1_t3
  let c16_i32_240 : BitVec 32 := 16#32
  let v469 : BitVec 32 := Scalar.muli arg15 c16_i32_240
  let v470 : BitVec 32 := Scalar.addi c128_i32_241 v469
  let c10_i32 : BitVec 32 := 10#32
  let v471 : BitVec 32 := Scalar.addi v470 c10_i32
  let v476 : Index := Scalar.indexCast v471
  let c64_i32_242 : BitVec 32 := 64#32
  let v474 : BitVec 32 := Scalar.muli v473 c64_i32_242
  let v475 : BitVec 32 := Scalar.addi v474 c0_i32_243
  let v477 : Index := Scalar.indexCast v475
  ![v476.toNat, v477.toNat]

def k1_chk27 (k1_t3 : Fin k1_t3_loop.trips) (v473 : BitVec 32) : Prop :=
  (∀ (r : Fin 4), ∀ a, (k1_off58 k1_t3 v473 (BitVec.ofNat 32 (16 * r.val))) a + S1x16.size a ≤ S512x128.size a)
theorem k1_off58_inb : ∀ (k1_t3 : Fin k1_t3_loop.trips) (v473 : BitVec 32) (k1_hw27 : k1_chk27 k1_t3 v473), ∀ (r : Fin 4), ∀ a, (k1_off58 k1_t3 v473 (BitVec.ofNat 32 (16 * r.val))) a + S1x16.size a ≤ S512x128.size a := fun k1_t3 v473 k1_hw27 r => k1_hw27 r

def k1_off59 (k1_t3 : Fin k1_t3_loop.trips) (c0_i32_245 : BitVec 32) : Fin 1 → Nat :=
  let c128_i32_241 : BitVec 32 := 128#32
  let c0_i32_37 : BitVec 32 := 0#32
  let c1_i32_39 : BitVec 32 := 1#32
  let arg15 : BitVec 32 := Scf.iv c0_i32_37 c1_i32_39 k1_t3
  let c16_i32_240 : BitVec 32 := 16#32
  let v469 : BitVec 32 := Scalar.muli arg15 c16_i32_240
  let v470 : BitVec 32 := Scalar.addi c128_i32_241 v469
  let c10_i32 : BitVec 32 := 10#32
  let v471 : BitVec 32 := Scalar.addi v470 c10_i32
  let c64_i32_244 : BitVec 32 := 64#32
  let v479 : BitVec 32 := Scalar.muli v471 c64_i32_244
  let v480 : BitVec 32 := Scalar.addi v479 c0_i32_245
  let v481 : Index := Scalar.indexCast v480
  ![v481.toNat]
def k1_off60 (k1_t3 : Fin k1_t3_loop.trips) (v511 : BitVec 32) (c0_i32_258 : BitVec 32) : Fin 2 → Nat :=
  let c128_i32_256 : BitVec 32 := 128#32
  let c0_i32_37 : BitVec 32 := 0#32
  let c1_i32_39 : BitVec 32 := 1#32
  let arg15 : BitVec 32 := Scf.iv c0_i32_37 c1_i32_39 k1_t3
  let c16_i32_255 : BitVec 32 := 16#32
  let v507 : BitVec 32 := Scalar.muli arg15 c16_i32_255
  let v508 : BitVec 32 := Scalar.addi c128_i32_256 v507
  let c11_i32 : BitVec 32 := 11#32
  let v509 : BitVec 32 := Scalar.addi v508 c11_i32
  let v514 : Index := Scalar.indexCast v509
  let c64_i32_257 : BitVec 32 := 64#32
  let v512 : BitVec 32 := Scalar.muli v511 c64_i32_257
  let v513 : BitVec 32 := Scalar.addi v512 c0_i32_258
  let v515 : Index := Scalar.indexCast v513
  ![v514.toNat, v515.toNat]

def k1_chk28 (k1_t3 : Fin k1_t3_loop.trips) (v511 : BitVec 32) : Prop :=
  (∀ (r : Fin 4), ∀ a, (k1_off60 k1_t3 v511 (BitVec.ofNat 32 (16 * r.val))) a + S1x16.size a ≤ S512x128.size a)
theorem k1_off60_inb : ∀ (k1_t3 : Fin k1_t3_loop.trips) (v511 : BitVec 32) (k1_hw28 : k1_chk28 k1_t3 v511), ∀ (r : Fin 4), ∀ a, (k1_off60 k1_t3 v511 (BitVec.ofNat 32 (16 * r.val))) a + S1x16.size a ≤ S512x128.size a := fun k1_t3 v511 k1_hw28 r => k1_hw28 r

def k1_off61 (k1_t3 : Fin k1_t3_loop.trips) (c0_i32_260 : BitVec 32) : Fin 1 → Nat :=
  let c128_i32_256 : BitVec 32 := 128#32
  let c0_i32_37 : BitVec 32 := 0#32
  let c1_i32_39 : BitVec 32 := 1#32
  let arg15 : BitVec 32 := Scf.iv c0_i32_37 c1_i32_39 k1_t3
  let c16_i32_255 : BitVec 32 := 16#32
  let v507 : BitVec 32 := Scalar.muli arg15 c16_i32_255
  let v508 : BitVec 32 := Scalar.addi c128_i32_256 v507
  let c11_i32 : BitVec 32 := 11#32
  let v509 : BitVec 32 := Scalar.addi v508 c11_i32
  let c64_i32_259 : BitVec 32 := 64#32
  let v517 : BitVec 32 := Scalar.muli v509 c64_i32_259
  let v518 : BitVec 32 := Scalar.addi v517 c0_i32_260
  let v519 : Index := Scalar.indexCast v518
  ![v519.toNat]
def k1_off62 (k1_t3 : Fin k1_t3_loop.trips) (v549 : BitVec 32) (c0_i32_273 : BitVec 32) : Fin 2 → Nat :=
  let c128_i32_271 : BitVec 32 := 128#32
  let c0_i32_37 : BitVec 32 := 0#32
  let c1_i32_39 : BitVec 32 := 1#32
  let arg15 : BitVec 32 := Scf.iv c0_i32_37 c1_i32_39 k1_t3
  let c16_i32_270 : BitVec 32 := 16#32
  let v545 : BitVec 32 := Scalar.muli arg15 c16_i32_270
  let v546 : BitVec 32 := Scalar.addi c128_i32_271 v545
  let c12_i32 : BitVec 32 := 12#32
  let v547 : BitVec 32 := Scalar.addi v546 c12_i32
  let v552 : Index := Scalar.indexCast v547
  let c64_i32_272 : BitVec 32 := 64#32
  let v550 : BitVec 32 := Scalar.muli v549 c64_i32_272
  let v551 : BitVec 32 := Scalar.addi v550 c0_i32_273
  let v553 : Index := Scalar.indexCast v551
  ![v552.toNat, v553.toNat]

def k1_chk29 (k1_t3 : Fin k1_t3_loop.trips) (v549 : BitVec 32) : Prop :=
  (∀ (r : Fin 4), ∀ a, (k1_off62 k1_t3 v549 (BitVec.ofNat 32 (16 * r.val))) a + S1x16.size a ≤ S512x128.size a)
theorem k1_off62_inb : ∀ (k1_t3 : Fin k1_t3_loop.trips) (v549 : BitVec 32) (k1_hw29 : k1_chk29 k1_t3 v549), ∀ (r : Fin 4), ∀ a, (k1_off62 k1_t3 v549 (BitVec.ofNat 32 (16 * r.val))) a + S1x16.size a ≤ S512x128.size a := fun k1_t3 v549 k1_hw29 r => k1_hw29 r

def k1_off63 (k1_t3 : Fin k1_t3_loop.trips) (c0_i32_275 : BitVec 32) : Fin 1 → Nat :=
  let c128_i32_271 : BitVec 32 := 128#32
  let c0_i32_37 : BitVec 32 := 0#32
  let c1_i32_39 : BitVec 32 := 1#32
  let arg15 : BitVec 32 := Scf.iv c0_i32_37 c1_i32_39 k1_t3
  let c16_i32_270 : BitVec 32 := 16#32
  let v545 : BitVec 32 := Scalar.muli arg15 c16_i32_270
  let v546 : BitVec 32 := Scalar.addi c128_i32_271 v545
  let c12_i32 : BitVec 32 := 12#32
  let v547 : BitVec 32 := Scalar.addi v546 c12_i32
  let c64_i32_274 : BitVec 32 := 64#32
  let v555 : BitVec 32 := Scalar.muli v547 c64_i32_274
  let v556 : BitVec 32 := Scalar.addi v555 c0_i32_275
  let v557 : Index := Scalar.indexCast v556
  ![v557.toNat]
def k1_off64 (k1_t3 : Fin k1_t3_loop.trips) (v587 : BitVec 32) (c0_i32_288 : BitVec 32) : Fin 2 → Nat :=
  let c128_i32_286 : BitVec 32 := 128#32
  let c0_i32_37 : BitVec 32 := 0#32
  let c1_i32_39 : BitVec 32 := 1#32
  let arg15 : BitVec 32 := Scf.iv c0_i32_37 c1_i32_39 k1_t3
  let c16_i32_285 : BitVec 32 := 16#32
  let v583 : BitVec 32 := Scalar.muli arg15 c16_i32_285
  let v584 : BitVec 32 := Scalar.addi c128_i32_286 v583
  let c13_i32 : BitVec 32 := 13#32
  let v585 : BitVec 32 := Scalar.addi v584 c13_i32
  let v590 : Index := Scalar.indexCast v585
  let c64_i32_287 : BitVec 32 := 64#32
  let v588 : BitVec 32 := Scalar.muli v587 c64_i32_287
  let v589 : BitVec 32 := Scalar.addi v588 c0_i32_288
  let v591 : Index := Scalar.indexCast v589
  ![v590.toNat, v591.toNat]

def k1_chk30 (k1_t3 : Fin k1_t3_loop.trips) (v587 : BitVec 32) : Prop :=
  (∀ (r : Fin 4), ∀ a, (k1_off64 k1_t3 v587 (BitVec.ofNat 32 (16 * r.val))) a + S1x16.size a ≤ S512x128.size a)
theorem k1_off64_inb : ∀ (k1_t3 : Fin k1_t3_loop.trips) (v587 : BitVec 32) (k1_hw30 : k1_chk30 k1_t3 v587), ∀ (r : Fin 4), ∀ a, (k1_off64 k1_t3 v587 (BitVec.ofNat 32 (16 * r.val))) a + S1x16.size a ≤ S512x128.size a := fun k1_t3 v587 k1_hw30 r => k1_hw30 r

def k1_off65 (k1_t3 : Fin k1_t3_loop.trips) (c0_i32_290 : BitVec 32) : Fin 1 → Nat :=
  let c128_i32_286 : BitVec 32 := 128#32
  let c0_i32_37 : BitVec 32 := 0#32
  let c1_i32_39 : BitVec 32 := 1#32
  let arg15 : BitVec 32 := Scf.iv c0_i32_37 c1_i32_39 k1_t3
  let c16_i32_285 : BitVec 32 := 16#32
  let v583 : BitVec 32 := Scalar.muli arg15 c16_i32_285
  let v584 : BitVec 32 := Scalar.addi c128_i32_286 v583
  let c13_i32 : BitVec 32 := 13#32
  let v585 : BitVec 32 := Scalar.addi v584 c13_i32
  let c64_i32_289 : BitVec 32 := 64#32
  let v593 : BitVec 32 := Scalar.muli v585 c64_i32_289
  let v594 : BitVec 32 := Scalar.addi v593 c0_i32_290
  let v595 : Index := Scalar.indexCast v594
  ![v595.toNat]
def k1_off66 (k1_t3 : Fin k1_t3_loop.trips) (v625 : BitVec 32) (c0_i32_303 : BitVec 32) : Fin 2 → Nat :=
  let c128_i32_301 : BitVec 32 := 128#32
  let c0_i32_37 : BitVec 32 := 0#32
  let c1_i32_39 : BitVec 32 := 1#32
  let arg15 : BitVec 32 := Scf.iv c0_i32_37 c1_i32_39 k1_t3
  let c16_i32_300 : BitVec 32 := 16#32
  let v621 : BitVec 32 := Scalar.muli arg15 c16_i32_300
  let v622 : BitVec 32 := Scalar.addi c128_i32_301 v621
  let c14_i32 : BitVec 32 := 14#32
  let v623 : BitVec 32 := Scalar.addi v622 c14_i32
  let v628 : Index := Scalar.indexCast v623
  let c64_i32_302 : BitVec 32 := 64#32
  let v626 : BitVec 32 := Scalar.muli v625 c64_i32_302
  let v627 : BitVec 32 := Scalar.addi v626 c0_i32_303
  let v629 : Index := Scalar.indexCast v627
  ![v628.toNat, v629.toNat]

def k1_chk31 (k1_t3 : Fin k1_t3_loop.trips) (v625 : BitVec 32) : Prop :=
  (∀ (r : Fin 4), ∀ a, (k1_off66 k1_t3 v625 (BitVec.ofNat 32 (16 * r.val))) a + S1x16.size a ≤ S512x128.size a)
theorem k1_off66_inb : ∀ (k1_t3 : Fin k1_t3_loop.trips) (v625 : BitVec 32) (k1_hw31 : k1_chk31 k1_t3 v625), ∀ (r : Fin 4), ∀ a, (k1_off66 k1_t3 v625 (BitVec.ofNat 32 (16 * r.val))) a + S1x16.size a ≤ S512x128.size a := fun k1_t3 v625 k1_hw31 r => k1_hw31 r

def k1_off67 (k1_t3 : Fin k1_t3_loop.trips) (c0_i32_305 : BitVec 32) : Fin 1 → Nat :=
  let c128_i32_301 : BitVec 32 := 128#32
  let c0_i32_37 : BitVec 32 := 0#32
  let c1_i32_39 : BitVec 32 := 1#32
  let arg15 : BitVec 32 := Scf.iv c0_i32_37 c1_i32_39 k1_t3
  let c16_i32_300 : BitVec 32 := 16#32
  let v621 : BitVec 32 := Scalar.muli arg15 c16_i32_300
  let v622 : BitVec 32 := Scalar.addi c128_i32_301 v621
  let c14_i32 : BitVec 32 := 14#32
  let v623 : BitVec 32 := Scalar.addi v622 c14_i32
  let c64_i32_304 : BitVec 32 := 64#32
  let v631 : BitVec 32 := Scalar.muli v623 c64_i32_304
  let v632 : BitVec 32 := Scalar.addi v631 c0_i32_305
  let v633 : Index := Scalar.indexCast v632
  ![v633.toNat]
def k1_off68 (k1_t3 : Fin k1_t3_loop.trips) (v663 : BitVec 32) (c0_i32_318 : BitVec 32) : Fin 2 → Nat :=
  let c128_i32_316 : BitVec 32 := 128#32
  let c0_i32_37 : BitVec 32 := 0#32
  let c1_i32_39 : BitVec 32 := 1#32
  let arg15 : BitVec 32 := Scf.iv c0_i32_37 c1_i32_39 k1_t3
  let c16_i32_315 : BitVec 32 := 16#32
  let v659 : BitVec 32 := Scalar.muli arg15 c16_i32_315
  let v660 : BitVec 32 := Scalar.addi c128_i32_316 v659
  let c15_i32 : BitVec 32 := 15#32
  let v661 : BitVec 32 := Scalar.addi v660 c15_i32
  let v666 : Index := Scalar.indexCast v661
  let c64_i32_317 : BitVec 32 := 64#32
  let v664 : BitVec 32 := Scalar.muli v663 c64_i32_317
  let v665 : BitVec 32 := Scalar.addi v664 c0_i32_318
  let v667 : Index := Scalar.indexCast v665
  ![v666.toNat, v667.toNat]

def k1_chk32 (k1_t3 : Fin k1_t3_loop.trips) (v663 : BitVec 32) : Prop :=
  (∀ (r : Fin 4), ∀ a, (k1_off68 k1_t3 v663 (BitVec.ofNat 32 (16 * r.val))) a + S1x16.size a ≤ S512x128.size a)
theorem k1_off68_inb : ∀ (k1_t3 : Fin k1_t3_loop.trips) (v663 : BitVec 32) (k1_hw32 : k1_chk32 k1_t3 v663), ∀ (r : Fin 4), ∀ a, (k1_off68 k1_t3 v663 (BitVec.ofNat 32 (16 * r.val))) a + S1x16.size a ≤ S512x128.size a := fun k1_t3 v663 k1_hw32 r => k1_hw32 r

def k1_off69 (k1_t3 : Fin k1_t3_loop.trips) (c0_i32_320 : BitVec 32) : Fin 1 → Nat :=
  let c128_i32_316 : BitVec 32 := 128#32
  let c0_i32_37 : BitVec 32 := 0#32
  let c1_i32_39 : BitVec 32 := 1#32
  let arg15 : BitVec 32 := Scf.iv c0_i32_37 c1_i32_39 k1_t3
  let c16_i32_315 : BitVec 32 := 16#32
  let v659 : BitVec 32 := Scalar.muli arg15 c16_i32_315
  let v660 : BitVec 32 := Scalar.addi c128_i32_316 v659
  let c15_i32 : BitVec 32 := 15#32
  let v661 : BitVec 32 := Scalar.addi v660 c15_i32
  let c64_i32_319 : BitVec 32 := 64#32
  let v669 : BitVec 32 := Scalar.muli v661 c64_i32_319
  let v670 : BitVec 32 := Scalar.addi v669 c0_i32_320
  let v671 : Index := Scalar.indexCast v670
  ![v671.toNat]
@[reducible] def k1_t4_loop : Scf.Loop 32 :=
  let c0_i32_50 : BitVec 32 := 0#32
  let c8_i32_51 : BitVec 32 := 8#32
  let v42 : BitVec 32 := Scalar.addi c0_i32_50 c8_i32_51
  let c1_i32_52 : BitVec 32 := 1#32
  ⟨c0_i32_50, v42, c1_i32_52⟩
def k1_off70 (k1_t4 : Fin k1_t4_loop.trips) : Fin 1 → Nat :=
  let c256_i32_86 : BitVec 32 := 256#32
  let c0_i32_50 : BitVec 32 := 0#32
  let c1_i32_52 : BitVec 32 := 1#32
  let arg15 : BitVec 32 := Scf.iv c0_i32_50 c1_i32_52 k1_t4
  let c16_i32 : BitVec 32 := 16#32
  let v85 : BitVec 32 := Scalar.muli arg15 c16_i32
  let v86 : BitVec 32 := Scalar.addi c256_i32_86 v85
  let v87 : Index := Scalar.indexCast v86
  ![v87.toNat]
def k1_off71 (k1_t4 : Fin k1_t4_loop.trips) (v93 : BitVec 32) (c0_i32_91 : BitVec 32) : Fin 2 → Nat :=
  let c256_i32_88 : BitVec 32 := 256#32
  let c0_i32_50 : BitVec 32 := 0#32
  let c1_i32_52 : BitVec 32 := 1#32
  let arg15 : BitVec 32 := Scf.iv c0_i32_50 c1_i32_52 k1_t4
  let c16_i32_87 : BitVec 32 := 16#32
  let v89 : BitVec 32 := Scalar.muli arg15 c16_i32_87
  let v90 : BitVec 32 := Scalar.addi c256_i32_88 v89
  let c0_i32_89 : BitVec 32 := 0#32
  let v91 : BitVec 32 := Scalar.addi v90 c0_i32_89
  let v96 : Index := Scalar.indexCast v91
  let c64_i32_90 : BitVec 32 := 64#32
  let v94 : BitVec 32 := Scalar.muli v93 c64_i32_90
  let v95 : BitVec 32 := Scalar.addi v94 c0_i32_91
  let v97 : Index := Scalar.indexCast v95
  ![v96.toNat, v97.toNat]

def k1_chk33 (k1_t4 : Fin k1_t4_loop.trips) (v93 : BitVec 32) : Prop :=
  (∀ (r : Fin 4), ∀ a, (k1_off71 k1_t4 v93 (BitVec.ofNat 32 (16 * r.val))) a + S1x16.size a ≤ S512x128.size a)
theorem k1_off71_inb : ∀ (k1_t4 : Fin k1_t4_loop.trips) (v93 : BitVec 32) (k1_hw33 : k1_chk33 k1_t4 v93), ∀ (r : Fin 4), ∀ a, (k1_off71 k1_t4 v93 (BitVec.ofNat 32 (16 * r.val))) a + S1x16.size a ≤ S512x128.size a := fun k1_t4 v93 k1_hw33 r => k1_hw33 r

def k1_off72 (k1_t4 : Fin k1_t4_loop.trips) (c0_i32_93 : BitVec 32) : Fin 1 → Nat :=
  let c256_i32_88 : BitVec 32 := 256#32
  let c0_i32_50 : BitVec 32 := 0#32
  let c1_i32_52 : BitVec 32 := 1#32
  let arg15 : BitVec 32 := Scf.iv c0_i32_50 c1_i32_52 k1_t4
  let c16_i32_87 : BitVec 32 := 16#32
  let v89 : BitVec 32 := Scalar.muli arg15 c16_i32_87
  let v90 : BitVec 32 := Scalar.addi c256_i32_88 v89
  let c0_i32_89 : BitVec 32 := 0#32
  let v91 : BitVec 32 := Scalar.addi v90 c0_i32_89
  let c64_i32_92 : BitVec 32 := 64#32
  let v99 : BitVec 32 := Scalar.muli v91 c64_i32_92
  let v100 : BitVec 32 := Scalar.addi v99 c0_i32_93
  let v101 : Index := Scalar.indexCast v100
  ![v101.toNat]
def k1_off73 (k1_t4 : Fin k1_t4_loop.trips) (v131 : BitVec 32) (c0_i32_106 : BitVec 32) : Fin 2 → Nat :=
  let c256_i32_103 : BitVec 32 := 256#32
  let c0_i32_50 : BitVec 32 := 0#32
  let c1_i32_52 : BitVec 32 := 1#32
  let arg15 : BitVec 32 := Scf.iv c0_i32_50 c1_i32_52 k1_t4
  let c16_i32_102 : BitVec 32 := 16#32
  let v127 : BitVec 32 := Scalar.muli arg15 c16_i32_102
  let v128 : BitVec 32 := Scalar.addi c256_i32_103 v127
  let c1_i32_104 : BitVec 32 := 1#32
  let v129 : BitVec 32 := Scalar.addi v128 c1_i32_104
  let v134 : Index := Scalar.indexCast v129
  let c64_i32_105 : BitVec 32 := 64#32
  let v132 : BitVec 32 := Scalar.muli v131 c64_i32_105
  let v133 : BitVec 32 := Scalar.addi v132 c0_i32_106
  let v135 : Index := Scalar.indexCast v133
  ![v134.toNat, v135.toNat]

def k1_chk34 (k1_t4 : Fin k1_t4_loop.trips) (v131 : BitVec 32) : Prop :=
  (∀ (r : Fin 4), ∀ a, (k1_off73 k1_t4 v131 (BitVec.ofNat 32 (16 * r.val))) a + S1x16.size a ≤ S512x128.size a)
theorem k1_off73_inb : ∀ (k1_t4 : Fin k1_t4_loop.trips) (v131 : BitVec 32) (k1_hw34 : k1_chk34 k1_t4 v131), ∀ (r : Fin 4), ∀ a, (k1_off73 k1_t4 v131 (BitVec.ofNat 32 (16 * r.val))) a + S1x16.size a ≤ S512x128.size a := fun k1_t4 v131 k1_hw34 r => k1_hw34 r

def k1_off74 (k1_t4 : Fin k1_t4_loop.trips) (c0_i32_108 : BitVec 32) : Fin 1 → Nat :=
  let c256_i32_103 : BitVec 32 := 256#32
  let c0_i32_50 : BitVec 32 := 0#32
  let c1_i32_52 : BitVec 32 := 1#32
  let arg15 : BitVec 32 := Scf.iv c0_i32_50 c1_i32_52 k1_t4
  let c16_i32_102 : BitVec 32 := 16#32
  let v127 : BitVec 32 := Scalar.muli arg15 c16_i32_102
  let v128 : BitVec 32 := Scalar.addi c256_i32_103 v127
  let c1_i32_104 : BitVec 32 := 1#32
  let v129 : BitVec 32 := Scalar.addi v128 c1_i32_104
  let c64_i32_107 : BitVec 32 := 64#32
  let v137 : BitVec 32 := Scalar.muli v129 c64_i32_107
  let v138 : BitVec 32 := Scalar.addi v137 c0_i32_108
  let v139 : Index := Scalar.indexCast v138
  ![v139.toNat]
def k1_off75 (k1_t4 : Fin k1_t4_loop.trips) (v169 : BitVec 32) (c0_i32_122 : BitVec 32) : Fin 2 → Nat :=
  let c256_i32_119 : BitVec 32 := 256#32
  let c0_i32_50 : BitVec 32 := 0#32
  let c1_i32_52 : BitVec 32 := 1#32
  let arg15 : BitVec 32 := Scf.iv c0_i32_50 c1_i32_52 k1_t4
  let c16_i32_118 : BitVec 32 := 16#32
  let v165 : BitVec 32 := Scalar.muli arg15 c16_i32_118
  let v166 : BitVec 32 := Scalar.addi c256_i32_119 v165
  let c2_i32_120 : BitVec 32 := 2#32
  let v167 : BitVec 32 := Scalar.addi v166 c2_i32_120
  let v172 : Index := Scalar.indexCast v167
  let c64_i32_121 : BitVec 32 := 64#32
  let v170 : BitVec 32 := Scalar.muli v169 c64_i32_121
  let v171 : BitVec 32 := Scalar.addi v170 c0_i32_122
  let v173 : Index := Scalar.indexCast v171
  ![v172.toNat, v173.toNat]

def k1_chk35 (k1_t4 : Fin k1_t4_loop.trips) (v169 : BitVec 32) : Prop :=
  (∀ (r : Fin 4), ∀ a, (k1_off75 k1_t4 v169 (BitVec.ofNat 32 (16 * r.val))) a + S1x16.size a ≤ S512x128.size a)
theorem k1_off75_inb : ∀ (k1_t4 : Fin k1_t4_loop.trips) (v169 : BitVec 32) (k1_hw35 : k1_chk35 k1_t4 v169), ∀ (r : Fin 4), ∀ a, (k1_off75 k1_t4 v169 (BitVec.ofNat 32 (16 * r.val))) a + S1x16.size a ≤ S512x128.size a := fun k1_t4 v169 k1_hw35 r => k1_hw35 r

def k1_off76 (k1_t4 : Fin k1_t4_loop.trips) (c0_i32_124 : BitVec 32) : Fin 1 → Nat :=
  let c256_i32_119 : BitVec 32 := 256#32
  let c0_i32_50 : BitVec 32 := 0#32
  let c1_i32_52 : BitVec 32 := 1#32
  let arg15 : BitVec 32 := Scf.iv c0_i32_50 c1_i32_52 k1_t4
  let c16_i32_118 : BitVec 32 := 16#32
  let v165 : BitVec 32 := Scalar.muli arg15 c16_i32_118
  let v166 : BitVec 32 := Scalar.addi c256_i32_119 v165
  let c2_i32_120 : BitVec 32 := 2#32
  let v167 : BitVec 32 := Scalar.addi v166 c2_i32_120
  let c64_i32_123 : BitVec 32 := 64#32
  let v175 : BitVec 32 := Scalar.muli v167 c64_i32_123
  let v176 : BitVec 32 := Scalar.addi v175 c0_i32_124
  let v177 : Index := Scalar.indexCast v176
  ![v177.toNat]
def k1_off77 (k1_t4 : Fin k1_t4_loop.trips) (v207 : BitVec 32) (c0_i32_137 : BitVec 32) : Fin 2 → Nat :=
  let c256_i32_135 : BitVec 32 := 256#32
  let c0_i32_50 : BitVec 32 := 0#32
  let c1_i32_52 : BitVec 32 := 1#32
  let arg15 : BitVec 32 := Scf.iv c0_i32_50 c1_i32_52 k1_t4
  let c16_i32_134 : BitVec 32 := 16#32
  let v203 : BitVec 32 := Scalar.muli arg15 c16_i32_134
  let v204 : BitVec 32 := Scalar.addi c256_i32_135 v203
  let c3_i32 : BitVec 32 := 3#32
  let v205 : BitVec 32 := Scalar.addi v204 c3_i32
  let v210 : Index := Scalar.indexCast v205
  let c64_i32_136 : BitVec 32 := 64#32
  let v208 : BitVec 32 := Scalar.muli v207 c64_i32_136
  let v209 : BitVec 32 := Scalar.addi v208 c0_i32_137
  let v211 : Index := Scalar.indexCast v209
  ![v210.toNat, v211.toNat]

def k1_chk36 (k1_t4 : Fin k1_t4_loop.trips) (v207 : BitVec 32) : Prop :=
  (∀ (r : Fin 4), ∀ a, (k1_off77 k1_t4 v207 (BitVec.ofNat 32 (16 * r.val))) a + S1x16.size a ≤ S512x128.size a)
theorem k1_off77_inb : ∀ (k1_t4 : Fin k1_t4_loop.trips) (v207 : BitVec 32) (k1_hw36 : k1_chk36 k1_t4 v207), ∀ (r : Fin 4), ∀ a, (k1_off77 k1_t4 v207 (BitVec.ofNat 32 (16 * r.val))) a + S1x16.size a ≤ S512x128.size a := fun k1_t4 v207 k1_hw36 r => k1_hw36 r

def k1_off78 (k1_t4 : Fin k1_t4_loop.trips) (c0_i32_139 : BitVec 32) : Fin 1 → Nat :=
  let c256_i32_135 : BitVec 32 := 256#32
  let c0_i32_50 : BitVec 32 := 0#32
  let c1_i32_52 : BitVec 32 := 1#32
  let arg15 : BitVec 32 := Scf.iv c0_i32_50 c1_i32_52 k1_t4
  let c16_i32_134 : BitVec 32 := 16#32
  let v203 : BitVec 32 := Scalar.muli arg15 c16_i32_134
  let v204 : BitVec 32 := Scalar.addi c256_i32_135 v203
  let c3_i32 : BitVec 32 := 3#32
  let v205 : BitVec 32 := Scalar.addi v204 c3_i32
  let c64_i32_138 : BitVec 32 := 64#32
  let v213 : BitVec 32 := Scalar.muli v205 c64_i32_138
  let v214 : BitVec 32 := Scalar.addi v213 c0_i32_139
  let v215 : Index := Scalar.indexCast v214
  ![v215.toNat]
def k1_off79 (k1_t4 : Fin k1_t4_loop.trips) (v245 : BitVec 32) (c0_i32_152 : BitVec 32) : Fin 2 → Nat :=
  let c256_i32_150 : BitVec 32 := 256#32
  let c0_i32_50 : BitVec 32 := 0#32
  let c1_i32_52 : BitVec 32 := 1#32
  let arg15 : BitVec 32 := Scf.iv c0_i32_50 c1_i32_52 k1_t4
  let c16_i32_149 : BitVec 32 := 16#32
  let v241 : BitVec 32 := Scalar.muli arg15 c16_i32_149
  let v242 : BitVec 32 := Scalar.addi c256_i32_150 v241
  let c4_i32 : BitVec 32 := 4#32
  let v243 : BitVec 32 := Scalar.addi v242 c4_i32
  let v248 : Index := Scalar.indexCast v243
  let c64_i32_151 : BitVec 32 := 64#32
  let v246 : BitVec 32 := Scalar.muli v245 c64_i32_151
  let v247 : BitVec 32 := Scalar.addi v246 c0_i32_152
  let v249 : Index := Scalar.indexCast v247
  ![v248.toNat, v249.toNat]

def k1_chk37 (k1_t4 : Fin k1_t4_loop.trips) (v245 : BitVec 32) : Prop :=
  (∀ (r : Fin 4), ∀ a, (k1_off79 k1_t4 v245 (BitVec.ofNat 32 (16 * r.val))) a + S1x16.size a ≤ S512x128.size a)
theorem k1_off79_inb : ∀ (k1_t4 : Fin k1_t4_loop.trips) (v245 : BitVec 32) (k1_hw37 : k1_chk37 k1_t4 v245), ∀ (r : Fin 4), ∀ a, (k1_off79 k1_t4 v245 (BitVec.ofNat 32 (16 * r.val))) a + S1x16.size a ≤ S512x128.size a := fun k1_t4 v245 k1_hw37 r => k1_hw37 r

def k1_off80 (k1_t4 : Fin k1_t4_loop.trips) (c0_i32_154 : BitVec 32) : Fin 1 → Nat :=
  let c256_i32_150 : BitVec 32 := 256#32
  let c0_i32_50 : BitVec 32 := 0#32
  let c1_i32_52 : BitVec 32 := 1#32
  let arg15 : BitVec 32 := Scf.iv c0_i32_50 c1_i32_52 k1_t4
  let c16_i32_149 : BitVec 32 := 16#32
  let v241 : BitVec 32 := Scalar.muli arg15 c16_i32_149
  let v242 : BitVec 32 := Scalar.addi c256_i32_150 v241
  let c4_i32 : BitVec 32 := 4#32
  let v243 : BitVec 32 := Scalar.addi v242 c4_i32
  let c64_i32_153 : BitVec 32 := 64#32
  let v251 : BitVec 32 := Scalar.muli v243 c64_i32_153
  let v252 : BitVec 32 := Scalar.addi v251 c0_i32_154
  let v253 : Index := Scalar.indexCast v252
  ![v253.toNat]
def k1_off81 (k1_t4 : Fin k1_t4_loop.trips) (v283 : BitVec 32) (c0_i32_167 : BitVec 32) : Fin 2 → Nat :=
  let c256_i32_165 : BitVec 32 := 256#32
  let c0_i32_50 : BitVec 32 := 0#32
  let c1_i32_52 : BitVec 32 := 1#32
  let arg15 : BitVec 32 := Scf.iv c0_i32_50 c1_i32_52 k1_t4
  let c16_i32_164 : BitVec 32 := 16#32
  let v279 : BitVec 32 := Scalar.muli arg15 c16_i32_164
  let v280 : BitVec 32 := Scalar.addi c256_i32_165 v279
  let c5_i32 : BitVec 32 := 5#32
  let v281 : BitVec 32 := Scalar.addi v280 c5_i32
  let v286 : Index := Scalar.indexCast v281
  let c64_i32_166 : BitVec 32 := 64#32
  let v284 : BitVec 32 := Scalar.muli v283 c64_i32_166
  let v285 : BitVec 32 := Scalar.addi v284 c0_i32_167
  let v287 : Index := Scalar.indexCast v285
  ![v286.toNat, v287.toNat]

def k1_chk38 (k1_t4 : Fin k1_t4_loop.trips) (v283 : BitVec 32) : Prop :=
  (∀ (r : Fin 4), ∀ a, (k1_off81 k1_t4 v283 (BitVec.ofNat 32 (16 * r.val))) a + S1x16.size a ≤ S512x128.size a)
theorem k1_off81_inb : ∀ (k1_t4 : Fin k1_t4_loop.trips) (v283 : BitVec 32) (k1_hw38 : k1_chk38 k1_t4 v283), ∀ (r : Fin 4), ∀ a, (k1_off81 k1_t4 v283 (BitVec.ofNat 32 (16 * r.val))) a + S1x16.size a ≤ S512x128.size a := fun k1_t4 v283 k1_hw38 r => k1_hw38 r

def k1_off82 (k1_t4 : Fin k1_t4_loop.trips) (c0_i32_169 : BitVec 32) : Fin 1 → Nat :=
  let c256_i32_165 : BitVec 32 := 256#32
  let c0_i32_50 : BitVec 32 := 0#32
  let c1_i32_52 : BitVec 32 := 1#32
  let arg15 : BitVec 32 := Scf.iv c0_i32_50 c1_i32_52 k1_t4
  let c16_i32_164 : BitVec 32 := 16#32
  let v279 : BitVec 32 := Scalar.muli arg15 c16_i32_164
  let v280 : BitVec 32 := Scalar.addi c256_i32_165 v279
  let c5_i32 : BitVec 32 := 5#32
  let v281 : BitVec 32 := Scalar.addi v280 c5_i32
  let c64_i32_168 : BitVec 32 := 64#32
  let v289 : BitVec 32 := Scalar.muli v281 c64_i32_168
  let v290 : BitVec 32 := Scalar.addi v289 c0_i32_169
  let v291 : Index := Scalar.indexCast v290
  ![v291.toNat]
def k1_off83 (k1_t4 : Fin k1_t4_loop.trips) (v321 : BitVec 32) (c0_i32_182 : BitVec 32) : Fin 2 → Nat :=
  let c256_i32_180 : BitVec 32 := 256#32
  let c0_i32_50 : BitVec 32 := 0#32
  let c1_i32_52 : BitVec 32 := 1#32
  let arg15 : BitVec 32 := Scf.iv c0_i32_50 c1_i32_52 k1_t4
  let c16_i32_179 : BitVec 32 := 16#32
  let v317 : BitVec 32 := Scalar.muli arg15 c16_i32_179
  let v318 : BitVec 32 := Scalar.addi c256_i32_180 v317
  let c6_i32 : BitVec 32 := 6#32
  let v319 : BitVec 32 := Scalar.addi v318 c6_i32
  let v324 : Index := Scalar.indexCast v319
  let c64_i32_181 : BitVec 32 := 64#32
  let v322 : BitVec 32 := Scalar.muli v321 c64_i32_181
  let v323 : BitVec 32 := Scalar.addi v322 c0_i32_182
  let v325 : Index := Scalar.indexCast v323
  ![v324.toNat, v325.toNat]

def k1_chk39 (k1_t4 : Fin k1_t4_loop.trips) (v321 : BitVec 32) : Prop :=
  (∀ (r : Fin 4), ∀ a, (k1_off83 k1_t4 v321 (BitVec.ofNat 32 (16 * r.val))) a + S1x16.size a ≤ S512x128.size a)
theorem k1_off83_inb : ∀ (k1_t4 : Fin k1_t4_loop.trips) (v321 : BitVec 32) (k1_hw39 : k1_chk39 k1_t4 v321), ∀ (r : Fin 4), ∀ a, (k1_off83 k1_t4 v321 (BitVec.ofNat 32 (16 * r.val))) a + S1x16.size a ≤ S512x128.size a := fun k1_t4 v321 k1_hw39 r => k1_hw39 r

def k1_off84 (k1_t4 : Fin k1_t4_loop.trips) (c0_i32_184 : BitVec 32) : Fin 1 → Nat :=
  let c256_i32_180 : BitVec 32 := 256#32
  let c0_i32_50 : BitVec 32 := 0#32
  let c1_i32_52 : BitVec 32 := 1#32
  let arg15 : BitVec 32 := Scf.iv c0_i32_50 c1_i32_52 k1_t4
  let c16_i32_179 : BitVec 32 := 16#32
  let v317 : BitVec 32 := Scalar.muli arg15 c16_i32_179
  let v318 : BitVec 32 := Scalar.addi c256_i32_180 v317
  let c6_i32 : BitVec 32 := 6#32
  let v319 : BitVec 32 := Scalar.addi v318 c6_i32
  let c64_i32_183 : BitVec 32 := 64#32
  let v327 : BitVec 32 := Scalar.muli v319 c64_i32_183
  let v328 : BitVec 32 := Scalar.addi v327 c0_i32_184
  let v329 : Index := Scalar.indexCast v328
  ![v329.toNat]
def k1_off85 (k1_t4 : Fin k1_t4_loop.trips) (v359 : BitVec 32) (c0_i32_197 : BitVec 32) : Fin 2 → Nat :=
  let c256_i32_195 : BitVec 32 := 256#32
  let c0_i32_50 : BitVec 32 := 0#32
  let c1_i32_52 : BitVec 32 := 1#32
  let arg15 : BitVec 32 := Scf.iv c0_i32_50 c1_i32_52 k1_t4
  let c16_i32_194 : BitVec 32 := 16#32
  let v355 : BitVec 32 := Scalar.muli arg15 c16_i32_194
  let v356 : BitVec 32 := Scalar.addi c256_i32_195 v355
  let c7_i32 : BitVec 32 := 7#32
  let v357 : BitVec 32 := Scalar.addi v356 c7_i32
  let v362 : Index := Scalar.indexCast v357
  let c64_i32_196 : BitVec 32 := 64#32
  let v360 : BitVec 32 := Scalar.muli v359 c64_i32_196
  let v361 : BitVec 32 := Scalar.addi v360 c0_i32_197
  let v363 : Index := Scalar.indexCast v361
  ![v362.toNat, v363.toNat]

def k1_chk40 (k1_t4 : Fin k1_t4_loop.trips) (v359 : BitVec 32) : Prop :=
  (∀ (r : Fin 4), ∀ a, (k1_off85 k1_t4 v359 (BitVec.ofNat 32 (16 * r.val))) a + S1x16.size a ≤ S512x128.size a)
theorem k1_off85_inb : ∀ (k1_t4 : Fin k1_t4_loop.trips) (v359 : BitVec 32) (k1_hw40 : k1_chk40 k1_t4 v359), ∀ (r : Fin 4), ∀ a, (k1_off85 k1_t4 v359 (BitVec.ofNat 32 (16 * r.val))) a + S1x16.size a ≤ S512x128.size a := fun k1_t4 v359 k1_hw40 r => k1_hw40 r

def k1_off86 (k1_t4 : Fin k1_t4_loop.trips) (c0_i32_199 : BitVec 32) : Fin 1 → Nat :=
  let c256_i32_195 : BitVec 32 := 256#32
  let c0_i32_50 : BitVec 32 := 0#32
  let c1_i32_52 : BitVec 32 := 1#32
  let arg15 : BitVec 32 := Scf.iv c0_i32_50 c1_i32_52 k1_t4
  let c16_i32_194 : BitVec 32 := 16#32
  let v355 : BitVec 32 := Scalar.muli arg15 c16_i32_194
  let v356 : BitVec 32 := Scalar.addi c256_i32_195 v355
  let c7_i32 : BitVec 32 := 7#32
  let v357 : BitVec 32 := Scalar.addi v356 c7_i32
  let c64_i32_198 : BitVec 32 := 64#32
  let v365 : BitVec 32 := Scalar.muli v357 c64_i32_198
  let v366 : BitVec 32 := Scalar.addi v365 c0_i32_199
  let v367 : Index := Scalar.indexCast v366
  ![v367.toNat]
def k1_off87 (k1_t4 : Fin k1_t4_loop.trips) (v397 : BitVec 32) (c0_i32_213 : BitVec 32) : Fin 2 → Nat :=
  let c256_i32_210 : BitVec 32 := 256#32
  let c0_i32_50 : BitVec 32 := 0#32
  let c1_i32_52 : BitVec 32 := 1#32
  let arg15 : BitVec 32 := Scf.iv c0_i32_50 c1_i32_52 k1_t4
  let c16_i32_209 : BitVec 32 := 16#32
  let v393 : BitVec 32 := Scalar.muli arg15 c16_i32_209
  let v394 : BitVec 32 := Scalar.addi c256_i32_210 v393
  let c8_i32_211 : BitVec 32 := 8#32
  let v395 : BitVec 32 := Scalar.addi v394 c8_i32_211
  let v400 : Index := Scalar.indexCast v395
  let c64_i32_212 : BitVec 32 := 64#32
  let v398 : BitVec 32 := Scalar.muli v397 c64_i32_212
  let v399 : BitVec 32 := Scalar.addi v398 c0_i32_213
  let v401 : Index := Scalar.indexCast v399
  ![v400.toNat, v401.toNat]

def k1_chk41 (k1_t4 : Fin k1_t4_loop.trips) (v397 : BitVec 32) : Prop :=
  (∀ (r : Fin 4), ∀ a, (k1_off87 k1_t4 v397 (BitVec.ofNat 32 (16 * r.val))) a + S1x16.size a ≤ S512x128.size a)
theorem k1_off87_inb : ∀ (k1_t4 : Fin k1_t4_loop.trips) (v397 : BitVec 32) (k1_hw41 : k1_chk41 k1_t4 v397), ∀ (r : Fin 4), ∀ a, (k1_off87 k1_t4 v397 (BitVec.ofNat 32 (16 * r.val))) a + S1x16.size a ≤ S512x128.size a := fun k1_t4 v397 k1_hw41 r => k1_hw41 r

def k1_off88 (k1_t4 : Fin k1_t4_loop.trips) (c0_i32_215 : BitVec 32) : Fin 1 → Nat :=
  let c256_i32_210 : BitVec 32 := 256#32
  let c0_i32_50 : BitVec 32 := 0#32
  let c1_i32_52 : BitVec 32 := 1#32
  let arg15 : BitVec 32 := Scf.iv c0_i32_50 c1_i32_52 k1_t4
  let c16_i32_209 : BitVec 32 := 16#32
  let v393 : BitVec 32 := Scalar.muli arg15 c16_i32_209
  let v394 : BitVec 32 := Scalar.addi c256_i32_210 v393
  let c8_i32_211 : BitVec 32 := 8#32
  let v395 : BitVec 32 := Scalar.addi v394 c8_i32_211
  let c64_i32_214 : BitVec 32 := 64#32
  let v403 : BitVec 32 := Scalar.muli v395 c64_i32_214
  let v404 : BitVec 32 := Scalar.addi v403 c0_i32_215
  let v405 : Index := Scalar.indexCast v404
  ![v405.toNat]
def k1_off89 (k1_t4 : Fin k1_t4_loop.trips) (v435 : BitVec 32) (c0_i32_228 : BitVec 32) : Fin 2 → Nat :=
  let c256_i32_226 : BitVec 32 := 256#32
  let c0_i32_50 : BitVec 32 := 0#32
  let c1_i32_52 : BitVec 32 := 1#32
  let arg15 : BitVec 32 := Scf.iv c0_i32_50 c1_i32_52 k1_t4
  let c16_i32_225 : BitVec 32 := 16#32
  let v431 : BitVec 32 := Scalar.muli arg15 c16_i32_225
  let v432 : BitVec 32 := Scalar.addi c256_i32_226 v431
  let c9_i32 : BitVec 32 := 9#32
  let v433 : BitVec 32 := Scalar.addi v432 c9_i32
  let v438 : Index := Scalar.indexCast v433
  let c64_i32_227 : BitVec 32 := 64#32
  let v436 : BitVec 32 := Scalar.muli v435 c64_i32_227
  let v437 : BitVec 32 := Scalar.addi v436 c0_i32_228
  let v439 : Index := Scalar.indexCast v437
  ![v438.toNat, v439.toNat]

def k1_chk42 (k1_t4 : Fin k1_t4_loop.trips) (v435 : BitVec 32) : Prop :=
  (∀ (r : Fin 4), ∀ a, (k1_off89 k1_t4 v435 (BitVec.ofNat 32 (16 * r.val))) a + S1x16.size a ≤ S512x128.size a)
theorem k1_off89_inb : ∀ (k1_t4 : Fin k1_t4_loop.trips) (v435 : BitVec 32) (k1_hw42 : k1_chk42 k1_t4 v435), ∀ (r : Fin 4), ∀ a, (k1_off89 k1_t4 v435 (BitVec.ofNat 32 (16 * r.val))) a + S1x16.size a ≤ S512x128.size a := fun k1_t4 v435 k1_hw42 r => k1_hw42 r

def k1_off90 (k1_t4 : Fin k1_t4_loop.trips) (c0_i32_230 : BitVec 32) : Fin 1 → Nat :=
  let c256_i32_226 : BitVec 32 := 256#32
  let c0_i32_50 : BitVec 32 := 0#32
  let c1_i32_52 : BitVec 32 := 1#32
  let arg15 : BitVec 32 := Scf.iv c0_i32_50 c1_i32_52 k1_t4
  let c16_i32_225 : BitVec 32 := 16#32
  let v431 : BitVec 32 := Scalar.muli arg15 c16_i32_225
  let v432 : BitVec 32 := Scalar.addi c256_i32_226 v431
  let c9_i32 : BitVec 32 := 9#32
  let v433 : BitVec 32 := Scalar.addi v432 c9_i32
  let c64_i32_229 : BitVec 32 := 64#32
  let v441 : BitVec 32 := Scalar.muli v433 c64_i32_229
  let v442 : BitVec 32 := Scalar.addi v441 c0_i32_230
  let v443 : Index := Scalar.indexCast v442
  ![v443.toNat]
def k1_off91 (k1_t4 : Fin k1_t4_loop.trips) (v473 : BitVec 32) (c0_i32_243 : BitVec 32) : Fin 2 → Nat :=
  let c256_i32_241 : BitVec 32 := 256#32
  let c0_i32_50 : BitVec 32 := 0#32
  let c1_i32_52 : BitVec 32 := 1#32
  let arg15 : BitVec 32 := Scf.iv c0_i32_50 c1_i32_52 k1_t4
  let c16_i32_240 : BitVec 32 := 16#32
  let v469 : BitVec 32 := Scalar.muli arg15 c16_i32_240
  let v470 : BitVec 32 := Scalar.addi c256_i32_241 v469
  let c10_i32 : BitVec 32 := 10#32
  let v471 : BitVec 32 := Scalar.addi v470 c10_i32
  let v476 : Index := Scalar.indexCast v471
  let c64_i32_242 : BitVec 32 := 64#32
  let v474 : BitVec 32 := Scalar.muli v473 c64_i32_242
  let v475 : BitVec 32 := Scalar.addi v474 c0_i32_243
  let v477 : Index := Scalar.indexCast v475
  ![v476.toNat, v477.toNat]

def k1_chk43 (k1_t4 : Fin k1_t4_loop.trips) (v473 : BitVec 32) : Prop :=
  (∀ (r : Fin 4), ∀ a, (k1_off91 k1_t4 v473 (BitVec.ofNat 32 (16 * r.val))) a + S1x16.size a ≤ S512x128.size a)
theorem k1_off91_inb : ∀ (k1_t4 : Fin k1_t4_loop.trips) (v473 : BitVec 32) (k1_hw43 : k1_chk43 k1_t4 v473), ∀ (r : Fin 4), ∀ a, (k1_off91 k1_t4 v473 (BitVec.ofNat 32 (16 * r.val))) a + S1x16.size a ≤ S512x128.size a := fun k1_t4 v473 k1_hw43 r => k1_hw43 r

def k1_off92 (k1_t4 : Fin k1_t4_loop.trips) (c0_i32_245 : BitVec 32) : Fin 1 → Nat :=
  let c256_i32_241 : BitVec 32 := 256#32
  let c0_i32_50 : BitVec 32 := 0#32
  let c1_i32_52 : BitVec 32 := 1#32
  let arg15 : BitVec 32 := Scf.iv c0_i32_50 c1_i32_52 k1_t4
  let c16_i32_240 : BitVec 32 := 16#32
  let v469 : BitVec 32 := Scalar.muli arg15 c16_i32_240
  let v470 : BitVec 32 := Scalar.addi c256_i32_241 v469
  let c10_i32 : BitVec 32 := 10#32
  let v471 : BitVec 32 := Scalar.addi v470 c10_i32
  let c64_i32_244 : BitVec 32 := 64#32
  let v479 : BitVec 32 := Scalar.muli v471 c64_i32_244
  let v480 : BitVec 32 := Scalar.addi v479 c0_i32_245
  let v481 : Index := Scalar.indexCast v480
  ![v481.toNat]
def k1_off93 (k1_t4 : Fin k1_t4_loop.trips) (v511 : BitVec 32) (c0_i32_258 : BitVec 32) : Fin 2 → Nat :=
  let c256_i32_256 : BitVec 32 := 256#32
  let c0_i32_50 : BitVec 32 := 0#32
  let c1_i32_52 : BitVec 32 := 1#32
  let arg15 : BitVec 32 := Scf.iv c0_i32_50 c1_i32_52 k1_t4
  let c16_i32_255 : BitVec 32 := 16#32
  let v507 : BitVec 32 := Scalar.muli arg15 c16_i32_255
  let v508 : BitVec 32 := Scalar.addi c256_i32_256 v507
  let c11_i32 : BitVec 32 := 11#32
  let v509 : BitVec 32 := Scalar.addi v508 c11_i32
  let v514 : Index := Scalar.indexCast v509
  let c64_i32_257 : BitVec 32 := 64#32
  let v512 : BitVec 32 := Scalar.muli v511 c64_i32_257
  let v513 : BitVec 32 := Scalar.addi v512 c0_i32_258
  let v515 : Index := Scalar.indexCast v513
  ![v514.toNat, v515.toNat]

def k1_chk44 (k1_t4 : Fin k1_t4_loop.trips) (v511 : BitVec 32) : Prop :=
  (∀ (r : Fin 4), ∀ a, (k1_off93 k1_t4 v511 (BitVec.ofNat 32 (16 * r.val))) a + S1x16.size a ≤ S512x128.size a)
theorem k1_off93_inb : ∀ (k1_t4 : Fin k1_t4_loop.trips) (v511 : BitVec 32) (k1_hw44 : k1_chk44 k1_t4 v511), ∀ (r : Fin 4), ∀ a, (k1_off93 k1_t4 v511 (BitVec.ofNat 32 (16 * r.val))) a + S1x16.size a ≤ S512x128.size a := fun k1_t4 v511 k1_hw44 r => k1_hw44 r

def k1_off94 (k1_t4 : Fin k1_t4_loop.trips) (c0_i32_260 : BitVec 32) : Fin 1 → Nat :=
  let c256_i32_256 : BitVec 32 := 256#32
  let c0_i32_50 : BitVec 32 := 0#32
  let c1_i32_52 : BitVec 32 := 1#32
  let arg15 : BitVec 32 := Scf.iv c0_i32_50 c1_i32_52 k1_t4
  let c16_i32_255 : BitVec 32 := 16#32
  let v507 : BitVec 32 := Scalar.muli arg15 c16_i32_255
  let v508 : BitVec 32 := Scalar.addi c256_i32_256 v507
  let c11_i32 : BitVec 32 := 11#32
  let v509 : BitVec 32 := Scalar.addi v508 c11_i32
  let c64_i32_259 : BitVec 32 := 64#32
  let v517 : BitVec 32 := Scalar.muli v509 c64_i32_259
  let v518 : BitVec 32 := Scalar.addi v517 c0_i32_260
  let v519 : Index := Scalar.indexCast v518
  ![v519.toNat]
def k1_off95 (k1_t4 : Fin k1_t4_loop.trips) (v549 : BitVec 32) (c0_i32_273 : BitVec 32) : Fin 2 → Nat :=
  let c256_i32_271 : BitVec 32 := 256#32
  let c0_i32_50 : BitVec 32 := 0#32
  let c1_i32_52 : BitVec 32 := 1#32
  let arg15 : BitVec 32 := Scf.iv c0_i32_50 c1_i32_52 k1_t4
  let c16_i32_270 : BitVec 32 := 16#32
  let v545 : BitVec 32 := Scalar.muli arg15 c16_i32_270
  let v546 : BitVec 32 := Scalar.addi c256_i32_271 v545
  let c12_i32 : BitVec 32 := 12#32
  let v547 : BitVec 32 := Scalar.addi v546 c12_i32
  let v552 : Index := Scalar.indexCast v547
  let c64_i32_272 : BitVec 32 := 64#32
  let v550 : BitVec 32 := Scalar.muli v549 c64_i32_272
  let v551 : BitVec 32 := Scalar.addi v550 c0_i32_273
  let v553 : Index := Scalar.indexCast v551
  ![v552.toNat, v553.toNat]

def k1_chk45 (k1_t4 : Fin k1_t4_loop.trips) (v549 : BitVec 32) : Prop :=
  (∀ (r : Fin 4), ∀ a, (k1_off95 k1_t4 v549 (BitVec.ofNat 32 (16 * r.val))) a + S1x16.size a ≤ S512x128.size a)
theorem k1_off95_inb : ∀ (k1_t4 : Fin k1_t4_loop.trips) (v549 : BitVec 32) (k1_hw45 : k1_chk45 k1_t4 v549), ∀ (r : Fin 4), ∀ a, (k1_off95 k1_t4 v549 (BitVec.ofNat 32 (16 * r.val))) a + S1x16.size a ≤ S512x128.size a := fun k1_t4 v549 k1_hw45 r => k1_hw45 r

def k1_off96 (k1_t4 : Fin k1_t4_loop.trips) (c0_i32_275 : BitVec 32) : Fin 1 → Nat :=
  let c256_i32_271 : BitVec 32 := 256#32
  let c0_i32_50 : BitVec 32 := 0#32
  let c1_i32_52 : BitVec 32 := 1#32
  let arg15 : BitVec 32 := Scf.iv c0_i32_50 c1_i32_52 k1_t4
  let c16_i32_270 : BitVec 32 := 16#32
  let v545 : BitVec 32 := Scalar.muli arg15 c16_i32_270
  let v546 : BitVec 32 := Scalar.addi c256_i32_271 v545
  let c12_i32 : BitVec 32 := 12#32
  let v547 : BitVec 32 := Scalar.addi v546 c12_i32
  let c64_i32_274 : BitVec 32 := 64#32
  let v555 : BitVec 32 := Scalar.muli v547 c64_i32_274
  let v556 : BitVec 32 := Scalar.addi v555 c0_i32_275
  let v557 : Index := Scalar.indexCast v556
  ![v557.toNat]
def k1_off97 (k1_t4 : Fin k1_t4_loop.trips) (v587 : BitVec 32) (c0_i32_288 : BitVec 32) : Fin 2 → Nat :=
  let c256_i32_286 : BitVec 32 := 256#32
  let c0_i32_50 : BitVec 32 := 0#32
  let c1_i32_52 : BitVec 32 := 1#32
  let arg15 : BitVec 32 := Scf.iv c0_i32_50 c1_i32_52 k1_t4
  let c16_i32_285 : BitVec 32 := 16#32
  let v583 : BitVec 32 := Scalar.muli arg15 c16_i32_285
  let v584 : BitVec 32 := Scalar.addi c256_i32_286 v583
  let c13_i32 : BitVec 32 := 13#32
  let v585 : BitVec 32 := Scalar.addi v584 c13_i32
  let v590 : Index := Scalar.indexCast v585
  let c64_i32_287 : BitVec 32 := 64#32
  let v588 : BitVec 32 := Scalar.muli v587 c64_i32_287
  let v589 : BitVec 32 := Scalar.addi v588 c0_i32_288
  let v591 : Index := Scalar.indexCast v589
  ![v590.toNat, v591.toNat]

def k1_chk46 (k1_t4 : Fin k1_t4_loop.trips) (v587 : BitVec 32) : Prop :=
  (∀ (r : Fin 4), ∀ a, (k1_off97 k1_t4 v587 (BitVec.ofNat 32 (16 * r.val))) a + S1x16.size a ≤ S512x128.size a)
theorem k1_off97_inb : ∀ (k1_t4 : Fin k1_t4_loop.trips) (v587 : BitVec 32) (k1_hw46 : k1_chk46 k1_t4 v587), ∀ (r : Fin 4), ∀ a, (k1_off97 k1_t4 v587 (BitVec.ofNat 32 (16 * r.val))) a + S1x16.size a ≤ S512x128.size a := fun k1_t4 v587 k1_hw46 r => k1_hw46 r

def k1_off98 (k1_t4 : Fin k1_t4_loop.trips) (c0_i32_290 : BitVec 32) : Fin 1 → Nat :=
  let c256_i32_286 : BitVec 32 := 256#32
  let c0_i32_50 : BitVec 32 := 0#32
  let c1_i32_52 : BitVec 32 := 1#32
  let arg15 : BitVec 32 := Scf.iv c0_i32_50 c1_i32_52 k1_t4
  let c16_i32_285 : BitVec 32 := 16#32
  let v583 : BitVec 32 := Scalar.muli arg15 c16_i32_285
  let v584 : BitVec 32 := Scalar.addi c256_i32_286 v583
  let c13_i32 : BitVec 32 := 13#32
  let v585 : BitVec 32 := Scalar.addi v584 c13_i32
  let c64_i32_289 : BitVec 32 := 64#32
  let v593 : BitVec 32 := Scalar.muli v585 c64_i32_289
  let v594 : BitVec 32 := Scalar.addi v593 c0_i32_290
  let v595 : Index := Scalar.indexCast v594
  ![v595.toNat]
def k1_off99 (k1_t4 : Fin k1_t4_loop.trips) (v625 : BitVec 32) (c0_i32_303 : BitVec 32) : Fin 2 → Nat :=
  let c256_i32_301 : BitVec 32 := 256#32
  let c0_i32_50 : BitVec 32 := 0#32
  let c1_i32_52 : BitVec 32 := 1#32
  let arg15 : BitVec 32 := Scf.iv c0_i32_50 c1_i32_52 k1_t4
  let c16_i32_300 : BitVec 32 := 16#32
  let v621 : BitVec 32 := Scalar.muli arg15 c16_i32_300
  let v622 : BitVec 32 := Scalar.addi c256_i32_301 v621
  let c14_i32 : BitVec 32 := 14#32
  let v623 : BitVec 32 := Scalar.addi v622 c14_i32
  let v628 : Index := Scalar.indexCast v623
  let c64_i32_302 : BitVec 32 := 64#32
  let v626 : BitVec 32 := Scalar.muli v625 c64_i32_302
  let v627 : BitVec 32 := Scalar.addi v626 c0_i32_303
  let v629 : Index := Scalar.indexCast v627
  ![v628.toNat, v629.toNat]

def k1_chk47 (k1_t4 : Fin k1_t4_loop.trips) (v625 : BitVec 32) : Prop :=
  (∀ (r : Fin 4), ∀ a, (k1_off99 k1_t4 v625 (BitVec.ofNat 32 (16 * r.val))) a + S1x16.size a ≤ S512x128.size a)
theorem k1_off99_inb : ∀ (k1_t4 : Fin k1_t4_loop.trips) (v625 : BitVec 32) (k1_hw47 : k1_chk47 k1_t4 v625), ∀ (r : Fin 4), ∀ a, (k1_off99 k1_t4 v625 (BitVec.ofNat 32 (16 * r.val))) a + S1x16.size a ≤ S512x128.size a := fun k1_t4 v625 k1_hw47 r => k1_hw47 r

def k1_off100 (k1_t4 : Fin k1_t4_loop.trips) (c0_i32_305 : BitVec 32) : Fin 1 → Nat :=
  let c256_i32_301 : BitVec 32 := 256#32
  let c0_i32_50 : BitVec 32 := 0#32
  let c1_i32_52 : BitVec 32 := 1#32
  let arg15 : BitVec 32 := Scf.iv c0_i32_50 c1_i32_52 k1_t4
  let c16_i32_300 : BitVec 32 := 16#32
  let v621 : BitVec 32 := Scalar.muli arg15 c16_i32_300
  let v622 : BitVec 32 := Scalar.addi c256_i32_301 v621
  let c14_i32 : BitVec 32 := 14#32
  let v623 : BitVec 32 := Scalar.addi v622 c14_i32
  let c64_i32_304 : BitVec 32 := 64#32
  let v631 : BitVec 32 := Scalar.muli v623 c64_i32_304
  let v632 : BitVec 32 := Scalar.addi v631 c0_i32_305
  let v633 : Index := Scalar.indexCast v632
  ![v633.toNat]
def k1_off101 (k1_t4 : Fin k1_t4_loop.trips) (v663 : BitVec 32) (c0_i32_318 : BitVec 32) : Fin 2 → Nat :=
  let c256_i32_316 : BitVec 32 := 256#32
  let c0_i32_50 : BitVec 32 := 0#32
  let c1_i32_52 : BitVec 32 := 1#32
  let arg15 : BitVec 32 := Scf.iv c0_i32_50 c1_i32_52 k1_t4
  let c16_i32_315 : BitVec 32 := 16#32
  let v659 : BitVec 32 := Scalar.muli arg15 c16_i32_315
  let v660 : BitVec 32 := Scalar.addi c256_i32_316 v659
  let c15_i32 : BitVec 32 := 15#32
  let v661 : BitVec 32 := Scalar.addi v660 c15_i32
  let v666 : Index := Scalar.indexCast v661
  let c64_i32_317 : BitVec 32 := 64#32
  let v664 : BitVec 32 := Scalar.muli v663 c64_i32_317
  let v665 : BitVec 32 := Scalar.addi v664 c0_i32_318
  let v667 : Index := Scalar.indexCast v665
  ![v666.toNat, v667.toNat]

def k1_chk48 (k1_t4 : Fin k1_t4_loop.trips) (v663 : BitVec 32) : Prop :=
  (∀ (r : Fin 4), ∀ a, (k1_off101 k1_t4 v663 (BitVec.ofNat 32 (16 * r.val))) a + S1x16.size a ≤ S512x128.size a)
theorem k1_off101_inb : ∀ (k1_t4 : Fin k1_t4_loop.trips) (v663 : BitVec 32) (k1_hw48 : k1_chk48 k1_t4 v663), ∀ (r : Fin 4), ∀ a, (k1_off101 k1_t4 v663 (BitVec.ofNat 32 (16 * r.val))) a + S1x16.size a ≤ S512x128.size a := fun k1_t4 v663 k1_hw48 r => k1_hw48 r

def k1_off102 (k1_t4 : Fin k1_t4_loop.trips) (c0_i32_320 : BitVec 32) : Fin 1 → Nat :=
  let c256_i32_316 : BitVec 32 := 256#32
  let c0_i32_50 : BitVec 32 := 0#32
  let c1_i32_52 : BitVec 32 := 1#32
  let arg15 : BitVec 32 := Scf.iv c0_i32_50 c1_i32_52 k1_t4
  let c16_i32_315 : BitVec 32 := 16#32
  let v659 : BitVec 32 := Scalar.muli arg15 c16_i32_315
  let v660 : BitVec 32 := Scalar.addi c256_i32_316 v659
  let c15_i32 : BitVec 32 := 15#32
  let v661 : BitVec 32 := Scalar.addi v660 c15_i32
  let c64_i32_319 : BitVec 32 := 64#32
  let v669 : BitVec 32 := Scalar.muli v661 c64_i32_319
  let v670 : BitVec 32 := Scalar.addi v669 c0_i32_320
  let v671 : Index := Scalar.indexCast v670
  ![v671.toNat]
@[reducible] def k1_t5_loop : Scf.Loop 32 :=
  let c0_i32_63 : BitVec 32 := 0#32
  let c8_i32_64 : BitVec 32 := 8#32
  let v53 : BitVec 32 := Scalar.addi c0_i32_63 c8_i32_64
  let c1_i32_65 : BitVec 32 := 1#32
  ⟨c0_i32_63, v53, c1_i32_65⟩
def k1_off103 (k1_t5 : Fin k1_t5_loop.trips) : Fin 1 → Nat :=
  let c384_i32_86 : BitVec 32 := 384#32
  let c0_i32_63 : BitVec 32 := 0#32
  let c1_i32_65 : BitVec 32 := 1#32
  let arg15 : BitVec 32 := Scf.iv c0_i32_63 c1_i32_65 k1_t5
  let c16_i32 : BitVec 32 := 16#32
  let v85 : BitVec 32 := Scalar.muli arg15 c16_i32
  let v86 : BitVec 32 := Scalar.addi c384_i32_86 v85
  let v87 : Index := Scalar.indexCast v86
  ![v87.toNat]
def k1_off104 (k1_t5 : Fin k1_t5_loop.trips) (v93 : BitVec 32) (c0_i32_91 : BitVec 32) : Fin 2 → Nat :=
  let c384_i32_88 : BitVec 32 := 384#32
  let c0_i32_63 : BitVec 32 := 0#32
  let c1_i32_65 : BitVec 32 := 1#32
  let arg15 : BitVec 32 := Scf.iv c0_i32_63 c1_i32_65 k1_t5
  let c16_i32_87 : BitVec 32 := 16#32
  let v89 : BitVec 32 := Scalar.muli arg15 c16_i32_87
  let v90 : BitVec 32 := Scalar.addi c384_i32_88 v89
  let c0_i32_89 : BitVec 32 := 0#32
  let v91 : BitVec 32 := Scalar.addi v90 c0_i32_89
  let v96 : Index := Scalar.indexCast v91
  let c64_i32_90 : BitVec 32 := 64#32
  let v94 : BitVec 32 := Scalar.muli v93 c64_i32_90
  let v95 : BitVec 32 := Scalar.addi v94 c0_i32_91
  let v97 : Index := Scalar.indexCast v95
  ![v96.toNat, v97.toNat]

def k1_chk49 (k1_t5 : Fin k1_t5_loop.trips) (v93 : BitVec 32) : Prop :=
  (∀ (r : Fin 4), ∀ a, (k1_off104 k1_t5 v93 (BitVec.ofNat 32 (16 * r.val))) a + S1x16.size a ≤ S512x128.size a)
theorem k1_off104_inb : ∀ (k1_t5 : Fin k1_t5_loop.trips) (v93 : BitVec 32) (k1_hw49 : k1_chk49 k1_t5 v93), ∀ (r : Fin 4), ∀ a, (k1_off104 k1_t5 v93 (BitVec.ofNat 32 (16 * r.val))) a + S1x16.size a ≤ S512x128.size a := fun k1_t5 v93 k1_hw49 r => k1_hw49 r

def k1_off105 (k1_t5 : Fin k1_t5_loop.trips) (c0_i32_93 : BitVec 32) : Fin 1 → Nat :=
  let c384_i32_88 : BitVec 32 := 384#32
  let c0_i32_63 : BitVec 32 := 0#32
  let c1_i32_65 : BitVec 32 := 1#32
  let arg15 : BitVec 32 := Scf.iv c0_i32_63 c1_i32_65 k1_t5
  let c16_i32_87 : BitVec 32 := 16#32
  let v89 : BitVec 32 := Scalar.muli arg15 c16_i32_87
  let v90 : BitVec 32 := Scalar.addi c384_i32_88 v89
  let c0_i32_89 : BitVec 32 := 0#32
  let v91 : BitVec 32 := Scalar.addi v90 c0_i32_89
  let c64_i32_92 : BitVec 32 := 64#32
  let v99 : BitVec 32 := Scalar.muli v91 c64_i32_92
  let v100 : BitVec 32 := Scalar.addi v99 c0_i32_93
  let v101 : Index := Scalar.indexCast v100
  ![v101.toNat]
def k1_off106 (k1_t5 : Fin k1_t5_loop.trips) (v131 : BitVec 32) (c0_i32_106 : BitVec 32) : Fin 2 → Nat :=
  let c384_i32_103 : BitVec 32 := 384#32
  let c0_i32_63 : BitVec 32 := 0#32
  let c1_i32_65 : BitVec 32 := 1#32
  let arg15 : BitVec 32 := Scf.iv c0_i32_63 c1_i32_65 k1_t5
  let c16_i32_102 : BitVec 32 := 16#32
  let v127 : BitVec 32 := Scalar.muli arg15 c16_i32_102
  let v128 : BitVec 32 := Scalar.addi c384_i32_103 v127
  let c1_i32_104 : BitVec 32 := 1#32
  let v129 : BitVec 32 := Scalar.addi v128 c1_i32_104
  let v134 : Index := Scalar.indexCast v129
  let c64_i32_105 : BitVec 32 := 64#32
  let v132 : BitVec 32 := Scalar.muli v131 c64_i32_105
  let v133 : BitVec 32 := Scalar.addi v132 c0_i32_106
  let v135 : Index := Scalar.indexCast v133
  ![v134.toNat, v135.toNat]

def k1_chk50 (k1_t5 : Fin k1_t5_loop.trips) (v131 : BitVec 32) : Prop :=
  (∀ (r : Fin 4), ∀ a, (k1_off106 k1_t5 v131 (BitVec.ofNat 32 (16 * r.val))) a + S1x16.size a ≤ S512x128.size a)
theorem k1_off106_inb : ∀ (k1_t5 : Fin k1_t5_loop.trips) (v131 : BitVec 32) (k1_hw50 : k1_chk50 k1_t5 v131), ∀ (r : Fin 4), ∀ a, (k1_off106 k1_t5 v131 (BitVec.ofNat 32 (16 * r.val))) a + S1x16.size a ≤ S512x128.size a := fun k1_t5 v131 k1_hw50 r => k1_hw50 r

def k1_off107 (k1_t5 : Fin k1_t5_loop.trips) (c0_i32_108 : BitVec 32) : Fin 1 → Nat :=
  let c384_i32_103 : BitVec 32 := 384#32
  let c0_i32_63 : BitVec 32 := 0#32
  let c1_i32_65 : BitVec 32 := 1#32
  let arg15 : BitVec 32 := Scf.iv c0_i32_63 c1_i32_65 k1_t5
  let c16_i32_102 : BitVec 32 := 16#32
  let v127 : BitVec 32 := Scalar.muli arg15 c16_i32_102
  let v128 : BitVec 32 := Scalar.addi c384_i32_103 v127
  let c1_i32_104 : BitVec 32 := 1#32
  let v129 : BitVec 32 := Scalar.addi v128 c1_i32_104
  let c64_i32_107 : BitVec 32 := 64#32
  let v137 : BitVec 32 := Scalar.muli v129 c64_i32_107
  let v138 : BitVec 32 := Scalar.addi v137 c0_i32_108
  let v139 : Index := Scalar.indexCast v138
  ![v139.toNat]
def k1_off108 (k1_t5 : Fin k1_t5_loop.trips) (v169 : BitVec 32) (c0_i32_122 : BitVec 32) : Fin 2 → Nat :=
  let c384_i32_119 : BitVec 32 := 384#32
  let c0_i32_63 : BitVec 32 := 0#32
  let c1_i32_65 : BitVec 32 := 1#32
  let arg15 : BitVec 32 := Scf.iv c0_i32_63 c1_i32_65 k1_t5
  let c16_i32_118 : BitVec 32 := 16#32
  let v165 : BitVec 32 := Scalar.muli arg15 c16_i32_118
  let v166 : BitVec 32 := Scalar.addi c384_i32_119 v165
  let c2_i32_120 : BitVec 32 := 2#32
  let v167 : BitVec 32 := Scalar.addi v166 c2_i32_120
  let v172 : Index := Scalar.indexCast v167
  let c64_i32_121 : BitVec 32 := 64#32
  let v170 : BitVec 32 := Scalar.muli v169 c64_i32_121
  let v171 : BitVec 32 := Scalar.addi v170 c0_i32_122
  let v173 : Index := Scalar.indexCast v171
  ![v172.toNat, v173.toNat]

def k1_chk51 (k1_t5 : Fin k1_t5_loop.trips) (v169 : BitVec 32) : Prop :=
  (∀ (r : Fin 4), ∀ a, (k1_off108 k1_t5 v169 (BitVec.ofNat 32 (16 * r.val))) a + S1x16.size a ≤ S512x128.size a)
theorem k1_off108_inb : ∀ (k1_t5 : Fin k1_t5_loop.trips) (v169 : BitVec 32) (k1_hw51 : k1_chk51 k1_t5 v169), ∀ (r : Fin 4), ∀ a, (k1_off108 k1_t5 v169 (BitVec.ofNat 32 (16 * r.val))) a + S1x16.size a ≤ S512x128.size a := fun k1_t5 v169 k1_hw51 r => k1_hw51 r

def k1_off109 (k1_t5 : Fin k1_t5_loop.trips) (c0_i32_124 : BitVec 32) : Fin 1 → Nat :=
  let c384_i32_119 : BitVec 32 := 384#32
  let c0_i32_63 : BitVec 32 := 0#32
  let c1_i32_65 : BitVec 32 := 1#32
  let arg15 : BitVec 32 := Scf.iv c0_i32_63 c1_i32_65 k1_t5
  let c16_i32_118 : BitVec 32 := 16#32
  let v165 : BitVec 32 := Scalar.muli arg15 c16_i32_118
  let v166 : BitVec 32 := Scalar.addi c384_i32_119 v165
  let c2_i32_120 : BitVec 32 := 2#32
  let v167 : BitVec 32 := Scalar.addi v166 c2_i32_120
  let c64_i32_123 : BitVec 32 := 64#32
  let v175 : BitVec 32 := Scalar.muli v167 c64_i32_123
  let v176 : BitVec 32 := Scalar.addi v175 c0_i32_124
  let v177 : Index := Scalar.indexCast v176
  ![v177.toNat]
def k1_off110 (k1_t5 : Fin k1_t5_loop.trips) (v207 : BitVec 32) (c0_i32_137 : BitVec 32) : Fin 2 → Nat :=
  let c384_i32_135 : BitVec 32 := 384#32
  let c0_i32_63 : BitVec 32 := 0#32
  let c1_i32_65 : BitVec 32 := 1#32
  let arg15 : BitVec 32 := Scf.iv c0_i32_63 c1_i32_65 k1_t5
  let c16_i32_134 : BitVec 32 := 16#32
  let v203 : BitVec 32 := Scalar.muli arg15 c16_i32_134
  let v204 : BitVec 32 := Scalar.addi c384_i32_135 v203
  let c3_i32 : BitVec 32 := 3#32
  let v205 : BitVec 32 := Scalar.addi v204 c3_i32
  let v210 : Index := Scalar.indexCast v205
  let c64_i32_136 : BitVec 32 := 64#32
  let v208 : BitVec 32 := Scalar.muli v207 c64_i32_136
  let v209 : BitVec 32 := Scalar.addi v208 c0_i32_137
  let v211 : Index := Scalar.indexCast v209
  ![v210.toNat, v211.toNat]

def k1_chk52 (k1_t5 : Fin k1_t5_loop.trips) (v207 : BitVec 32) : Prop :=
  (∀ (r : Fin 4), ∀ a, (k1_off110 k1_t5 v207 (BitVec.ofNat 32 (16 * r.val))) a + S1x16.size a ≤ S512x128.size a)
theorem k1_off110_inb : ∀ (k1_t5 : Fin k1_t5_loop.trips) (v207 : BitVec 32) (k1_hw52 : k1_chk52 k1_t5 v207), ∀ (r : Fin 4), ∀ a, (k1_off110 k1_t5 v207 (BitVec.ofNat 32 (16 * r.val))) a + S1x16.size a ≤ S512x128.size a := fun k1_t5 v207 k1_hw52 r => k1_hw52 r

def k1_off111 (k1_t5 : Fin k1_t5_loop.trips) (c0_i32_139 : BitVec 32) : Fin 1 → Nat :=
  let c384_i32_135 : BitVec 32 := 384#32
  let c0_i32_63 : BitVec 32 := 0#32
  let c1_i32_65 : BitVec 32 := 1#32
  let arg15 : BitVec 32 := Scf.iv c0_i32_63 c1_i32_65 k1_t5
  let c16_i32_134 : BitVec 32 := 16#32
  let v203 : BitVec 32 := Scalar.muli arg15 c16_i32_134
  let v204 : BitVec 32 := Scalar.addi c384_i32_135 v203
  let c3_i32 : BitVec 32 := 3#32
  let v205 : BitVec 32 := Scalar.addi v204 c3_i32
  let c64_i32_138 : BitVec 32 := 64#32
  let v213 : BitVec 32 := Scalar.muli v205 c64_i32_138
  let v214 : BitVec 32 := Scalar.addi v213 c0_i32_139
  let v215 : Index := Scalar.indexCast v214
  ![v215.toNat]
def k1_off112 (k1_t5 : Fin k1_t5_loop.trips) (v245 : BitVec 32) (c0_i32_152 : BitVec 32) : Fin 2 → Nat :=
  let c384_i32_150 : BitVec 32 := 384#32
  let c0_i32_63 : BitVec 32 := 0#32
  let c1_i32_65 : BitVec 32 := 1#32
  let arg15 : BitVec 32 := Scf.iv c0_i32_63 c1_i32_65 k1_t5
  let c16_i32_149 : BitVec 32 := 16#32
  let v241 : BitVec 32 := Scalar.muli arg15 c16_i32_149
  let v242 : BitVec 32 := Scalar.addi c384_i32_150 v241
  let c4_i32 : BitVec 32 := 4#32
  let v243 : BitVec 32 := Scalar.addi v242 c4_i32
  let v248 : Index := Scalar.indexCast v243
  let c64_i32_151 : BitVec 32 := 64#32
  let v246 : BitVec 32 := Scalar.muli v245 c64_i32_151
  let v247 : BitVec 32 := Scalar.addi v246 c0_i32_152
  let v249 : Index := Scalar.indexCast v247
  ![v248.toNat, v249.toNat]

def k1_chk53 (k1_t5 : Fin k1_t5_loop.trips) (v245 : BitVec 32) : Prop :=
  (∀ (r : Fin 4), ∀ a, (k1_off112 k1_t5 v245 (BitVec.ofNat 32 (16 * r.val))) a + S1x16.size a ≤ S512x128.size a)
theorem k1_off112_inb : ∀ (k1_t5 : Fin k1_t5_loop.trips) (v245 : BitVec 32) (k1_hw53 : k1_chk53 k1_t5 v245), ∀ (r : Fin 4), ∀ a, (k1_off112 k1_t5 v245 (BitVec.ofNat 32 (16 * r.val))) a + S1x16.size a ≤ S512x128.size a := fun k1_t5 v245 k1_hw53 r => k1_hw53 r

def k1_off113 (k1_t5 : Fin k1_t5_loop.trips) (c0_i32_154 : BitVec 32) : Fin 1 → Nat :=
  let c384_i32_150 : BitVec 32 := 384#32
  let c0_i32_63 : BitVec 32 := 0#32
  let c1_i32_65 : BitVec 32 := 1#32
  let arg15 : BitVec 32 := Scf.iv c0_i32_63 c1_i32_65 k1_t5
  let c16_i32_149 : BitVec 32 := 16#32
  let v241 : BitVec 32 := Scalar.muli arg15 c16_i32_149
  let v242 : BitVec 32 := Scalar.addi c384_i32_150 v241
  let c4_i32 : BitVec 32 := 4#32
  let v243 : BitVec 32 := Scalar.addi v242 c4_i32
  let c64_i32_153 : BitVec 32 := 64#32
  let v251 : BitVec 32 := Scalar.muli v243 c64_i32_153
  let v252 : BitVec 32 := Scalar.addi v251 c0_i32_154
  let v253 : Index := Scalar.indexCast v252
  ![v253.toNat]
def k1_off114 (k1_t5 : Fin k1_t5_loop.trips) (v283 : BitVec 32) (c0_i32_167 : BitVec 32) : Fin 2 → Nat :=
  let c384_i32_165 : BitVec 32 := 384#32
  let c0_i32_63 : BitVec 32 := 0#32
  let c1_i32_65 : BitVec 32 := 1#32
  let arg15 : BitVec 32 := Scf.iv c0_i32_63 c1_i32_65 k1_t5
  let c16_i32_164 : BitVec 32 := 16#32
  let v279 : BitVec 32 := Scalar.muli arg15 c16_i32_164
  let v280 : BitVec 32 := Scalar.addi c384_i32_165 v279
  let c5_i32 : BitVec 32 := 5#32
  let v281 : BitVec 32 := Scalar.addi v280 c5_i32
  let v286 : Index := Scalar.indexCast v281
  let c64_i32_166 : BitVec 32 := 64#32
  let v284 : BitVec 32 := Scalar.muli v283 c64_i32_166
  let v285 : BitVec 32 := Scalar.addi v284 c0_i32_167
  let v287 : Index := Scalar.indexCast v285
  ![v286.toNat, v287.toNat]

def k1_chk54 (k1_t5 : Fin k1_t5_loop.trips) (v283 : BitVec 32) : Prop :=
  (∀ (r : Fin 4), ∀ a, (k1_off114 k1_t5 v283 (BitVec.ofNat 32 (16 * r.val))) a + S1x16.size a ≤ S512x128.size a)
theorem k1_off114_inb : ∀ (k1_t5 : Fin k1_t5_loop.trips) (v283 : BitVec 32) (k1_hw54 : k1_chk54 k1_t5 v283), ∀ (r : Fin 4), ∀ a, (k1_off114 k1_t5 v283 (BitVec.ofNat 32 (16 * r.val))) a + S1x16.size a ≤ S512x128.size a := fun k1_t5 v283 k1_hw54 r => k1_hw54 r

def k1_off115 (k1_t5 : Fin k1_t5_loop.trips) (c0_i32_169 : BitVec 32) : Fin 1 → Nat :=
  let c384_i32_165 : BitVec 32 := 384#32
  let c0_i32_63 : BitVec 32 := 0#32
  let c1_i32_65 : BitVec 32 := 1#32
  let arg15 : BitVec 32 := Scf.iv c0_i32_63 c1_i32_65 k1_t5
  let c16_i32_164 : BitVec 32 := 16#32
  let v279 : BitVec 32 := Scalar.muli arg15 c16_i32_164
  let v280 : BitVec 32 := Scalar.addi c384_i32_165 v279
  let c5_i32 : BitVec 32 := 5#32
  let v281 : BitVec 32 := Scalar.addi v280 c5_i32
  let c64_i32_168 : BitVec 32 := 64#32
  let v289 : BitVec 32 := Scalar.muli v281 c64_i32_168
  let v290 : BitVec 32 := Scalar.addi v289 c0_i32_169
  let v291 : Index := Scalar.indexCast v290
  ![v291.toNat]
def k1_off116 (k1_t5 : Fin k1_t5_loop.trips) (v321 : BitVec 32) (c0_i32_182 : BitVec 32) : Fin 2 → Nat :=
  let c384_i32_180 : BitVec 32 := 384#32
  let c0_i32_63 : BitVec 32 := 0#32
  let c1_i32_65 : BitVec 32 := 1#32
  let arg15 : BitVec 32 := Scf.iv c0_i32_63 c1_i32_65 k1_t5
  let c16_i32_179 : BitVec 32 := 16#32
  let v317 : BitVec 32 := Scalar.muli arg15 c16_i32_179
  let v318 : BitVec 32 := Scalar.addi c384_i32_180 v317
  let c6_i32 : BitVec 32 := 6#32
  let v319 : BitVec 32 := Scalar.addi v318 c6_i32
  let v324 : Index := Scalar.indexCast v319
  let c64_i32_181 : BitVec 32 := 64#32
  let v322 : BitVec 32 := Scalar.muli v321 c64_i32_181
  let v323 : BitVec 32 := Scalar.addi v322 c0_i32_182
  let v325 : Index := Scalar.indexCast v323
  ![v324.toNat, v325.toNat]

def k1_chk55 (k1_t5 : Fin k1_t5_loop.trips) (v321 : BitVec 32) : Prop :=
  (∀ (r : Fin 4), ∀ a, (k1_off116 k1_t5 v321 (BitVec.ofNat 32 (16 * r.val))) a + S1x16.size a ≤ S512x128.size a)
theorem k1_off116_inb : ∀ (k1_t5 : Fin k1_t5_loop.trips) (v321 : BitVec 32) (k1_hw55 : k1_chk55 k1_t5 v321), ∀ (r : Fin 4), ∀ a, (k1_off116 k1_t5 v321 (BitVec.ofNat 32 (16 * r.val))) a + S1x16.size a ≤ S512x128.size a := fun k1_t5 v321 k1_hw55 r => k1_hw55 r

def k1_off117 (k1_t5 : Fin k1_t5_loop.trips) (c0_i32_184 : BitVec 32) : Fin 1 → Nat :=
  let c384_i32_180 : BitVec 32 := 384#32
  let c0_i32_63 : BitVec 32 := 0#32
  let c1_i32_65 : BitVec 32 := 1#32
  let arg15 : BitVec 32 := Scf.iv c0_i32_63 c1_i32_65 k1_t5
  let c16_i32_179 : BitVec 32 := 16#32
  let v317 : BitVec 32 := Scalar.muli arg15 c16_i32_179
  let v318 : BitVec 32 := Scalar.addi c384_i32_180 v317
  let c6_i32 : BitVec 32 := 6#32
  let v319 : BitVec 32 := Scalar.addi v318 c6_i32
  let c64_i32_183 : BitVec 32 := 64#32
  let v327 : BitVec 32 := Scalar.muli v319 c64_i32_183
  let v328 : BitVec 32 := Scalar.addi v327 c0_i32_184
  let v329 : Index := Scalar.indexCast v328
  ![v329.toNat]
def k1_off118 (k1_t5 : Fin k1_t5_loop.trips) (v359 : BitVec 32) (c0_i32_197 : BitVec 32) : Fin 2 → Nat :=
  let c384_i32_195 : BitVec 32 := 384#32
  let c0_i32_63 : BitVec 32 := 0#32
  let c1_i32_65 : BitVec 32 := 1#32
  let arg15 : BitVec 32 := Scf.iv c0_i32_63 c1_i32_65 k1_t5
  let c16_i32_194 : BitVec 32 := 16#32
  let v355 : BitVec 32 := Scalar.muli arg15 c16_i32_194
  let v356 : BitVec 32 := Scalar.addi c384_i32_195 v355
  let c7_i32 : BitVec 32 := 7#32
  let v357 : BitVec 32 := Scalar.addi v356 c7_i32
  let v362 : Index := Scalar.indexCast v357
  let c64_i32_196 : BitVec 32 := 64#32
  let v360 : BitVec 32 := Scalar.muli v359 c64_i32_196
  let v361 : BitVec 32 := Scalar.addi v360 c0_i32_197
  let v363 : Index := Scalar.indexCast v361
  ![v362.toNat, v363.toNat]

def k1_chk56 (k1_t5 : Fin k1_t5_loop.trips) (v359 : BitVec 32) : Prop :=
  (∀ (r : Fin 4), ∀ a, (k1_off118 k1_t5 v359 (BitVec.ofNat 32 (16 * r.val))) a + S1x16.size a ≤ S512x128.size a)
theorem k1_off118_inb : ∀ (k1_t5 : Fin k1_t5_loop.trips) (v359 : BitVec 32) (k1_hw56 : k1_chk56 k1_t5 v359), ∀ (r : Fin 4), ∀ a, (k1_off118 k1_t5 v359 (BitVec.ofNat 32 (16 * r.val))) a + S1x16.size a ≤ S512x128.size a := fun k1_t5 v359 k1_hw56 r => k1_hw56 r

def k1_off119 (k1_t5 : Fin k1_t5_loop.trips) (c0_i32_199 : BitVec 32) : Fin 1 → Nat :=
  let c384_i32_195 : BitVec 32 := 384#32
  let c0_i32_63 : BitVec 32 := 0#32
  let c1_i32_65 : BitVec 32 := 1#32
  let arg15 : BitVec 32 := Scf.iv c0_i32_63 c1_i32_65 k1_t5
  let c16_i32_194 : BitVec 32 := 16#32
  let v355 : BitVec 32 := Scalar.muli arg15 c16_i32_194
  let v356 : BitVec 32 := Scalar.addi c384_i32_195 v355
  let c7_i32 : BitVec 32 := 7#32
  let v357 : BitVec 32 := Scalar.addi v356 c7_i32
  let c64_i32_198 : BitVec 32 := 64#32
  let v365 : BitVec 32 := Scalar.muli v357 c64_i32_198
  let v366 : BitVec 32 := Scalar.addi v365 c0_i32_199
  let v367 : Index := Scalar.indexCast v366
  ![v367.toNat]
def k1_off120 (k1_t5 : Fin k1_t5_loop.trips) (v397 : BitVec 32) (c0_i32_213 : BitVec 32) : Fin 2 → Nat :=
  let c384_i32_210 : BitVec 32 := 384#32
  let c0_i32_63 : BitVec 32 := 0#32
  let c1_i32_65 : BitVec 32 := 1#32
  let arg15 : BitVec 32 := Scf.iv c0_i32_63 c1_i32_65 k1_t5
  let c16_i32_209 : BitVec 32 := 16#32
  let v393 : BitVec 32 := Scalar.muli arg15 c16_i32_209
  let v394 : BitVec 32 := Scalar.addi c384_i32_210 v393
  let c8_i32_211 : BitVec 32 := 8#32
  let v395 : BitVec 32 := Scalar.addi v394 c8_i32_211
  let v400 : Index := Scalar.indexCast v395
  let c64_i32_212 : BitVec 32 := 64#32
  let v398 : BitVec 32 := Scalar.muli v397 c64_i32_212
  let v399 : BitVec 32 := Scalar.addi v398 c0_i32_213
  let v401 : Index := Scalar.indexCast v399
  ![v400.toNat, v401.toNat]

def k1_chk57 (k1_t5 : Fin k1_t5_loop.trips) (v397 : BitVec 32) : Prop :=
  (∀ (r : Fin 4), ∀ a, (k1_off120 k1_t5 v397 (BitVec.ofNat 32 (16 * r.val))) a + S1x16.size a ≤ S512x128.size a)
theorem k1_off120_inb : ∀ (k1_t5 : Fin k1_t5_loop.trips) (v397 : BitVec 32) (k1_hw57 : k1_chk57 k1_t5 v397), ∀ (r : Fin 4), ∀ a, (k1_off120 k1_t5 v397 (BitVec.ofNat 32 (16 * r.val))) a + S1x16.size a ≤ S512x128.size a := fun k1_t5 v397 k1_hw57 r => k1_hw57 r

def k1_off121 (k1_t5 : Fin k1_t5_loop.trips) (c0_i32_215 : BitVec 32) : Fin 1 → Nat :=
  let c384_i32_210 : BitVec 32 := 384#32
  let c0_i32_63 : BitVec 32 := 0#32
  let c1_i32_65 : BitVec 32 := 1#32
  let arg15 : BitVec 32 := Scf.iv c0_i32_63 c1_i32_65 k1_t5
  let c16_i32_209 : BitVec 32 := 16#32
  let v393 : BitVec 32 := Scalar.muli arg15 c16_i32_209
  let v394 : BitVec 32 := Scalar.addi c384_i32_210 v393
  let c8_i32_211 : BitVec 32 := 8#32
  let v395 : BitVec 32 := Scalar.addi v394 c8_i32_211
  let c64_i32_214 : BitVec 32 := 64#32
  let v403 : BitVec 32 := Scalar.muli v395 c64_i32_214
  let v404 : BitVec 32 := Scalar.addi v403 c0_i32_215
  let v405 : Index := Scalar.indexCast v404
  ![v405.toNat]
def k1_off122 (k1_t5 : Fin k1_t5_loop.trips) (v435 : BitVec 32) (c0_i32_228 : BitVec 32) : Fin 2 → Nat :=
  let c384_i32_226 : BitVec 32 := 384#32
  let c0_i32_63 : BitVec 32 := 0#32
  let c1_i32_65 : BitVec 32 := 1#32
  let arg15 : BitVec 32 := Scf.iv c0_i32_63 c1_i32_65 k1_t5
  let c16_i32_225 : BitVec 32 := 16#32
  let v431 : BitVec 32 := Scalar.muli arg15 c16_i32_225
  let v432 : BitVec 32 := Scalar.addi c384_i32_226 v431
  let c9_i32 : BitVec 32 := 9#32
  let v433 : BitVec 32 := Scalar.addi v432 c9_i32
  let v438 : Index := Scalar.indexCast v433
  let c64_i32_227 : BitVec 32 := 64#32
  let v436 : BitVec 32 := Scalar.muli v435 c64_i32_227
  let v437 : BitVec 32 := Scalar.addi v436 c0_i32_228
  let v439 : Index := Scalar.indexCast v437
  ![v438.toNat, v439.toNat]

def k1_chk58 (k1_t5 : Fin k1_t5_loop.trips) (v435 : BitVec 32) : Prop :=
  (∀ (r : Fin 4), ∀ a, (k1_off122 k1_t5 v435 (BitVec.ofNat 32 (16 * r.val))) a + S1x16.size a ≤ S512x128.size a)
theorem k1_off122_inb : ∀ (k1_t5 : Fin k1_t5_loop.trips) (v435 : BitVec 32) (k1_hw58 : k1_chk58 k1_t5 v435), ∀ (r : Fin 4), ∀ a, (k1_off122 k1_t5 v435 (BitVec.ofNat 32 (16 * r.val))) a + S1x16.size a ≤ S512x128.size a := fun k1_t5 v435 k1_hw58 r => k1_hw58 r

def k1_off123 (k1_t5 : Fin k1_t5_loop.trips) (c0_i32_230 : BitVec 32) : Fin 1 → Nat :=
  let c384_i32_226 : BitVec 32 := 384#32
  let c0_i32_63 : BitVec 32 := 0#32
  let c1_i32_65 : BitVec 32 := 1#32
  let arg15 : BitVec 32 := Scf.iv c0_i32_63 c1_i32_65 k1_t5
  let c16_i32_225 : BitVec 32 := 16#32
  let v431 : BitVec 32 := Scalar.muli arg15 c16_i32_225
  let v432 : BitVec 32 := Scalar.addi c384_i32_226 v431
  let c9_i32 : BitVec 32 := 9#32
  let v433 : BitVec 32 := Scalar.addi v432 c9_i32
  let c64_i32_229 : BitVec 32 := 64#32
  let v441 : BitVec 32 := Scalar.muli v433 c64_i32_229
  let v442 : BitVec 32 := Scalar.addi v441 c0_i32_230
  let v443 : Index := Scalar.indexCast v442
  ![v443.toNat]
def k1_off124 (k1_t5 : Fin k1_t5_loop.trips) (v473 : BitVec 32) (c0_i32_243 : BitVec 32) : Fin 2 → Nat :=
  let c384_i32_241 : BitVec 32 := 384#32
  let c0_i32_63 : BitVec 32 := 0#32
  let c1_i32_65 : BitVec 32 := 1#32
  let arg15 : BitVec 32 := Scf.iv c0_i32_63 c1_i32_65 k1_t5
  let c16_i32_240 : BitVec 32 := 16#32
  let v469 : BitVec 32 := Scalar.muli arg15 c16_i32_240
  let v470 : BitVec 32 := Scalar.addi c384_i32_241 v469
  let c10_i32 : BitVec 32 := 10#32
  let v471 : BitVec 32 := Scalar.addi v470 c10_i32
  let v476 : Index := Scalar.indexCast v471
  let c64_i32_242 : BitVec 32 := 64#32
  let v474 : BitVec 32 := Scalar.muli v473 c64_i32_242
  let v475 : BitVec 32 := Scalar.addi v474 c0_i32_243
  let v477 : Index := Scalar.indexCast v475
  ![v476.toNat, v477.toNat]

def k1_chk59 (k1_t5 : Fin k1_t5_loop.trips) (v473 : BitVec 32) : Prop :=
  (∀ (r : Fin 4), ∀ a, (k1_off124 k1_t5 v473 (BitVec.ofNat 32 (16 * r.val))) a + S1x16.size a ≤ S512x128.size a)
theorem k1_off124_inb : ∀ (k1_t5 : Fin k1_t5_loop.trips) (v473 : BitVec 32) (k1_hw59 : k1_chk59 k1_t5 v473), ∀ (r : Fin 4), ∀ a, (k1_off124 k1_t5 v473 (BitVec.ofNat 32 (16 * r.val))) a + S1x16.size a ≤ S512x128.size a := fun k1_t5 v473 k1_hw59 r => k1_hw59 r

def k1_off125 (k1_t5 : Fin k1_t5_loop.trips) (c0_i32_245 : BitVec 32) : Fin 1 → Nat :=
  let c384_i32_241 : BitVec 32 := 384#32
  let c0_i32_63 : BitVec 32 := 0#32
  let c1_i32_65 : BitVec 32 := 1#32
  let arg15 : BitVec 32 := Scf.iv c0_i32_63 c1_i32_65 k1_t5
  let c16_i32_240 : BitVec 32 := 16#32
  let v469 : BitVec 32 := Scalar.muli arg15 c16_i32_240
  let v470 : BitVec 32 := Scalar.addi c384_i32_241 v469
  let c10_i32 : BitVec 32 := 10#32
  let v471 : BitVec 32 := Scalar.addi v470 c10_i32
  let c64_i32_244 : BitVec 32 := 64#32
  let v479 : BitVec 32 := Scalar.muli v471 c64_i32_244
  let v480 : BitVec 32 := Scalar.addi v479 c0_i32_245
  let v481 : Index := Scalar.indexCast v480
  ![v481.toNat]
def k1_off126 (k1_t5 : Fin k1_t5_loop.trips) (v511 : BitVec 32) (c0_i32_258 : BitVec 32) : Fin 2 → Nat :=
  let c384_i32_256 : BitVec 32 := 384#32
  let c0_i32_63 : BitVec 32 := 0#32
  let c1_i32_65 : BitVec 32 := 1#32
  let arg15 : BitVec 32 := Scf.iv c0_i32_63 c1_i32_65 k1_t5
  let c16_i32_255 : BitVec 32 := 16#32
  let v507 : BitVec 32 := Scalar.muli arg15 c16_i32_255
  let v508 : BitVec 32 := Scalar.addi c384_i32_256 v507
  let c11_i32 : BitVec 32 := 11#32
  let v509 : BitVec 32 := Scalar.addi v508 c11_i32
  let v514 : Index := Scalar.indexCast v509
  let c64_i32_257 : BitVec 32 := 64#32
  let v512 : BitVec 32 := Scalar.muli v511 c64_i32_257
  let v513 : BitVec 32 := Scalar.addi v512 c0_i32_258
  let v515 : Index := Scalar.indexCast v513
  ![v514.toNat, v515.toNat]

def k1_chk60 (k1_t5 : Fin k1_t5_loop.trips) (v511 : BitVec 32) : Prop :=
  (∀ (r : Fin 4), ∀ a, (k1_off126 k1_t5 v511 (BitVec.ofNat 32 (16 * r.val))) a + S1x16.size a ≤ S512x128.size a)
theorem k1_off126_inb : ∀ (k1_t5 : Fin k1_t5_loop.trips) (v511 : BitVec 32) (k1_hw60 : k1_chk60 k1_t5 v511), ∀ (r : Fin 4), ∀ a, (k1_off126 k1_t5 v511 (BitVec.ofNat 32 (16 * r.val))) a + S1x16.size a ≤ S512x128.size a := fun k1_t5 v511 k1_hw60 r => k1_hw60 r

def k1_off127 (k1_t5 : Fin k1_t5_loop.trips) (c0_i32_260 : BitVec 32) : Fin 1 → Nat :=
  let c384_i32_256 : BitVec 32 := 384#32
  let c0_i32_63 : BitVec 32 := 0#32
  let c1_i32_65 : BitVec 32 := 1#32
  let arg15 : BitVec 32 := Scf.iv c0_i32_63 c1_i32_65 k1_t5
  let c16_i32_255 : BitVec 32 := 16#32
  let v507 : BitVec 32 := Scalar.muli arg15 c16_i32_255
  let v508 : BitVec 32 := Scalar.addi c384_i32_256 v507
  let c11_i32 : BitVec 32 := 11#32
  let v509 : BitVec 32 := Scalar.addi v508 c11_i32
  let c64_i32_259 : BitVec 32 := 64#32
  let v517 : BitVec 32 := Scalar.muli v509 c64_i32_259
  let v518 : BitVec 32 := Scalar.addi v517 c0_i32_260
  let v519 : Index := Scalar.indexCast v518
  ![v519.toNat]
def k1_off128 (k1_t5 : Fin k1_t5_loop.trips) (v549 : BitVec 32) (c0_i32_273 : BitVec 32) : Fin 2 → Nat :=
  let c384_i32_271 : BitVec 32 := 384#32
  let c0_i32_63 : BitVec 32 := 0#32
  let c1_i32_65 : BitVec 32 := 1#32
  let arg15 : BitVec 32 := Scf.iv c0_i32_63 c1_i32_65 k1_t5
  let c16_i32_270 : BitVec 32 := 16#32
  let v545 : BitVec 32 := Scalar.muli arg15 c16_i32_270
  let v546 : BitVec 32 := Scalar.addi c384_i32_271 v545
  let c12_i32 : BitVec 32 := 12#32
  let v547 : BitVec 32 := Scalar.addi v546 c12_i32
  let v552 : Index := Scalar.indexCast v547
  let c64_i32_272 : BitVec 32 := 64#32
  let v550 : BitVec 32 := Scalar.muli v549 c64_i32_272
  let v551 : BitVec 32 := Scalar.addi v550 c0_i32_273
  let v553 : Index := Scalar.indexCast v551
  ![v552.toNat, v553.toNat]

def k1_chk61 (k1_t5 : Fin k1_t5_loop.trips) (v549 : BitVec 32) : Prop :=
  (∀ (r : Fin 4), ∀ a, (k1_off128 k1_t5 v549 (BitVec.ofNat 32 (16 * r.val))) a + S1x16.size a ≤ S512x128.size a)
theorem k1_off128_inb : ∀ (k1_t5 : Fin k1_t5_loop.trips) (v549 : BitVec 32) (k1_hw61 : k1_chk61 k1_t5 v549), ∀ (r : Fin 4), ∀ a, (k1_off128 k1_t5 v549 (BitVec.ofNat 32 (16 * r.val))) a + S1x16.size a ≤ S512x128.size a := fun k1_t5 v549 k1_hw61 r => k1_hw61 r

def k1_off129 (k1_t5 : Fin k1_t5_loop.trips) (c0_i32_275 : BitVec 32) : Fin 1 → Nat :=
  let c384_i32_271 : BitVec 32 := 384#32
  let c0_i32_63 : BitVec 32 := 0#32
  let c1_i32_65 : BitVec 32 := 1#32
  let arg15 : BitVec 32 := Scf.iv c0_i32_63 c1_i32_65 k1_t5
  let c16_i32_270 : BitVec 32 := 16#32
  let v545 : BitVec 32 := Scalar.muli arg15 c16_i32_270
  let v546 : BitVec 32 := Scalar.addi c384_i32_271 v545
  let c12_i32 : BitVec 32 := 12#32
  let v547 : BitVec 32 := Scalar.addi v546 c12_i32
  let c64_i32_274 : BitVec 32 := 64#32
  let v555 : BitVec 32 := Scalar.muli v547 c64_i32_274
  let v556 : BitVec 32 := Scalar.addi v555 c0_i32_275
  let v557 : Index := Scalar.indexCast v556
  ![v557.toNat]
def k1_off130 (k1_t5 : Fin k1_t5_loop.trips) (v587 : BitVec 32) (c0_i32_288 : BitVec 32) : Fin 2 → Nat :=
  let c384_i32_286 : BitVec 32 := 384#32
  let c0_i32_63 : BitVec 32 := 0#32
  let c1_i32_65 : BitVec 32 := 1#32
  let arg15 : BitVec 32 := Scf.iv c0_i32_63 c1_i32_65 k1_t5
  let c16_i32_285 : BitVec 32 := 16#32
  let v583 : BitVec 32 := Scalar.muli arg15 c16_i32_285
  let v584 : BitVec 32 := Scalar.addi c384_i32_286 v583
  let c13_i32 : BitVec 32 := 13#32
  let v585 : BitVec 32 := Scalar.addi v584 c13_i32
  let v590 : Index := Scalar.indexCast v585
  let c64_i32_287 : BitVec 32 := 64#32
  let v588 : BitVec 32 := Scalar.muli v587 c64_i32_287
  let v589 : BitVec 32 := Scalar.addi v588 c0_i32_288
  let v591 : Index := Scalar.indexCast v589
  ![v590.toNat, v591.toNat]

def k1_chk62 (k1_t5 : Fin k1_t5_loop.trips) (v587 : BitVec 32) : Prop :=
  (∀ (r : Fin 4), ∀ a, (k1_off130 k1_t5 v587 (BitVec.ofNat 32 (16 * r.val))) a + S1x16.size a ≤ S512x128.size a)
theorem k1_off130_inb : ∀ (k1_t5 : Fin k1_t5_loop.trips) (v587 : BitVec 32) (k1_hw62 : k1_chk62 k1_t5 v587), ∀ (r : Fin 4), ∀ a, (k1_off130 k1_t5 v587 (BitVec.ofNat 32 (16 * r.val))) a + S1x16.size a ≤ S512x128.size a := fun k1_t5 v587 k1_hw62 r => k1_hw62 r

def k1_off131 (k1_t5 : Fin k1_t5_loop.trips) (c0_i32_290 : BitVec 32) : Fin 1 → Nat :=
  let c384_i32_286 : BitVec 32 := 384#32
  let c0_i32_63 : BitVec 32 := 0#32
  let c1_i32_65 : BitVec 32 := 1#32
  let arg15 : BitVec 32 := Scf.iv c0_i32_63 c1_i32_65 k1_t5
  let c16_i32_285 : BitVec 32 := 16#32
  let v583 : BitVec 32 := Scalar.muli arg15 c16_i32_285
  let v584 : BitVec 32 := Scalar.addi c384_i32_286 v583
  let c13_i32 : BitVec 32 := 13#32
  let v585 : BitVec 32 := Scalar.addi v584 c13_i32
  let c64_i32_289 : BitVec 32 := 64#32
  let v593 : BitVec 32 := Scalar.muli v585 c64_i32_289
  let v594 : BitVec 32 := Scalar.addi v593 c0_i32_290
  let v595 : Index := Scalar.indexCast v594
  ![v595.toNat]
def k1_off132 (k1_t5 : Fin k1_t5_loop.trips) (v625 : BitVec 32) (c0_i32_303 : BitVec 32) : Fin 2 → Nat :=
  let c384_i32_301 : BitVec 32 := 384#32
  let c0_i32_63 : BitVec 32 := 0#32
  let c1_i32_65 : BitVec 32 := 1#32
  let arg15 : BitVec 32 := Scf.iv c0_i32_63 c1_i32_65 k1_t5
  let c16_i32_300 : BitVec 32 := 16#32
  let v621 : BitVec 32 := Scalar.muli arg15 c16_i32_300
  let v622 : BitVec 32 := Scalar.addi c384_i32_301 v621
  let c14_i32 : BitVec 32 := 14#32
  let v623 : BitVec 32 := Scalar.addi v622 c14_i32
  let v628 : Index := Scalar.indexCast v623
  let c64_i32_302 : BitVec 32 := 64#32
  let v626 : BitVec 32 := Scalar.muli v625 c64_i32_302
  let v627 : BitVec 32 := Scalar.addi v626 c0_i32_303
  let v629 : Index := Scalar.indexCast v627
  ![v628.toNat, v629.toNat]

def k1_chk63 (k1_t5 : Fin k1_t5_loop.trips) (v625 : BitVec 32) : Prop :=
  (∀ (r : Fin 4), ∀ a, (k1_off132 k1_t5 v625 (BitVec.ofNat 32 (16 * r.val))) a + S1x16.size a ≤ S512x128.size a)
theorem k1_off132_inb : ∀ (k1_t5 : Fin k1_t5_loop.trips) (v625 : BitVec 32) (k1_hw63 : k1_chk63 k1_t5 v625), ∀ (r : Fin 4), ∀ a, (k1_off132 k1_t5 v625 (BitVec.ofNat 32 (16 * r.val))) a + S1x16.size a ≤ S512x128.size a := fun k1_t5 v625 k1_hw63 r => k1_hw63 r

def k1_off133 (k1_t5 : Fin k1_t5_loop.trips) (c0_i32_305 : BitVec 32) : Fin 1 → Nat :=
  let c384_i32_301 : BitVec 32 := 384#32
  let c0_i32_63 : BitVec 32 := 0#32
  let c1_i32_65 : BitVec 32 := 1#32
  let arg15 : BitVec 32 := Scf.iv c0_i32_63 c1_i32_65 k1_t5
  let c16_i32_300 : BitVec 32 := 16#32
  let v621 : BitVec 32 := Scalar.muli arg15 c16_i32_300
  let v622 : BitVec 32 := Scalar.addi c384_i32_301 v621
  let c14_i32 : BitVec 32 := 14#32
  let v623 : BitVec 32 := Scalar.addi v622 c14_i32
  let c64_i32_304 : BitVec 32 := 64#32
  let v631 : BitVec 32 := Scalar.muli v623 c64_i32_304
  let v632 : BitVec 32 := Scalar.addi v631 c0_i32_305
  let v633 : Index := Scalar.indexCast v632
  ![v633.toNat]
def k1_off134 (k1_t5 : Fin k1_t5_loop.trips) (v663 : BitVec 32) (c0_i32_318 : BitVec 32) : Fin 2 → Nat :=
  let c384_i32_316 : BitVec 32 := 384#32
  let c0_i32_63 : BitVec 32 := 0#32
  let c1_i32_65 : BitVec 32 := 1#32
  let arg15 : BitVec 32 := Scf.iv c0_i32_63 c1_i32_65 k1_t5
  let c16_i32_315 : BitVec 32 := 16#32
  let v659 : BitVec 32 := Scalar.muli arg15 c16_i32_315
  let v660 : BitVec 32 := Scalar.addi c384_i32_316 v659
  let c15_i32 : BitVec 32 := 15#32
  let v661 : BitVec 32 := Scalar.addi v660 c15_i32
  let v666 : Index := Scalar.indexCast v661
  let c64_i32_317 : BitVec 32 := 64#32
  let v664 : BitVec 32 := Scalar.muli v663 c64_i32_317
  let v665 : BitVec 32 := Scalar.addi v664 c0_i32_318
  let v667 : Index := Scalar.indexCast v665
  ![v666.toNat, v667.toNat]

def k1_chk64 (k1_t5 : Fin k1_t5_loop.trips) (v663 : BitVec 32) : Prop :=
  (∀ (r : Fin 4), ∀ a, (k1_off134 k1_t5 v663 (BitVec.ofNat 32 (16 * r.val))) a + S1x16.size a ≤ S512x128.size a)
theorem k1_off134_inb : ∀ (k1_t5 : Fin k1_t5_loop.trips) (v663 : BitVec 32) (k1_hw64 : k1_chk64 k1_t5 v663), ∀ (r : Fin 4), ∀ a, (k1_off134 k1_t5 v663 (BitVec.ofNat 32 (16 * r.val))) a + S1x16.size a ≤ S512x128.size a := fun k1_t5 v663 k1_hw64 r => k1_hw64 r

def k1_off135 (k1_t5 : Fin k1_t5_loop.trips) (c0_i32_320 : BitVec 32) : Fin 1 → Nat :=
  let c384_i32_316 : BitVec 32 := 384#32
  let c0_i32_63 : BitVec 32 := 0#32
  let c1_i32_65 : BitVec 32 := 1#32
  let arg15 : BitVec 32 := Scf.iv c0_i32_63 c1_i32_65 k1_t5
  let c16_i32_315 : BitVec 32 := 16#32
  let v659 : BitVec 32 := Scalar.muli arg15 c16_i32_315
  let v660 : BitVec 32 := Scalar.addi c384_i32_316 v659
  let c15_i32 : BitVec 32 := 15#32
  let v661 : BitVec 32 := Scalar.addi v660 c15_i32
  let c64_i32_319 : BitVec 32 := 64#32
  let v669 : BitVec 32 := Scalar.muli v661 c64_i32_319
  let v670 : BitVec 32 := Scalar.addi v669 c0_i32_320
  let v671 : Index := Scalar.indexCast v670
  ![v671.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S64x1000000 : Shape := ⟨2, ![64, 1000000]⟩
abbrev S1000000x64 : Shape := ⟨2, ![1000000, 64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 26
  | .vmem => 0
  | .smem => 0
  | _ => 0

abbrev bufTy : (tb : Table) → Fin (tcTables nBuf tb) → BufTy
  | .hbm, ⟨0, _⟩ => ⟨S16384, .i32⟩
  | .hbm, ⟨1, _⟩ => ⟨S64x1000000, .f32⟩
  | .hbm, ⟨2, _⟩ => ⟨S1000000x64, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x64, .f32⟩
  | .hbm, ⟨22, _⟩ => ⟨S16384x64, .i1⟩
  | .hbm, ⟨23, _⟩ => ⟨S_, .f32⟩
  | .hbm, ⟨24, _⟩ => ⟨S16384x64, .f32⟩
  | .hbm, ⟨25, _⟩ => ⟨S16384x64, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Lanes.lean ====
/- One trip of the four loops that pick the halves out, as one program: the four printed loops differ only in the
   quarter of the tile's rows they handle, so a trip is written once over the quarter, the trip and the lane, and each
   printed loop's region is shown to be it. -/
module

public import proofs.«01_k».proof.Proof.Gen.KernelIdeal.Skeleton

@[expose] public section

noncomputable section

namespace Cert.KernelIdeal.Lanes

open Cert.KernelIdeal Cert.KernelIdeal.Gen Idealize.ShloMosaic Idealize.SL.Sem

variable {F : FTy → Type} [FloatOps F]

/-- The row a lane handles, as the kernel's word: quarter `q`, trip `k`, lane `l`. -/
def rowW (q : Fin 4) (k : Fin 8) (l : Fin 16) : BitVec 32 :=
  Scalar.addi (Scalar.addi (BitVec.ofNat 32 (128 * q.val)) (Scalar.muli (Scf.iv 0#32 1#32 k.val) 16#32)) (BitVec.ofNat 32 l.val)

/-- Where trip `k` of quarter `q` reads its sixteen half words. -/
def offH (q : Fin 4) (k : Fin 8) : Fin 1 → Nat :=
  ![(Scalar.indexCast (Scalar.addi (BitVec.ofNat 32 (128 * q.val)) (Scalar.muli (Scf.iv 0#32 1#32 k.val) 16#32))).toNat]

/-- Where a lane reads its piece `c` of the gathered row, the half word being `w`. -/
def offR (q : Fin 4) (k : Fin 8) (l : Fin 16) (w : BitVec 32) (c : BitVec 32) : Fin 2 → Nat :=
  ![(Scalar.indexCast (rowW q k l)).toNat, (Scalar.indexCast (Scalar.addi (Scalar.muli w 64#32) c)).toNat]

/-- Where a lane stores its piece `c`. -/
def offO (q : Fin 4) (k : Fin 8) (l : Fin 16) (c : BitVec 32) : Fin 1 → Nat :=
  ![(Scalar.indexCast (Scalar.addi (Scalar.muli (rowW q k l) 64#32) c)).toNat]

/-- The sixteen half words read lie inside the half words. -/
theorem offH_inb : ∀ (q : Fin 4) (k : Fin 8), ∀ a, offH q k a + S16.size a ≤ S512.size a := by decide +kernel

/-- Every piece stored lies inside the stage. -/
theorem offO_inb : ∀ (q : Fin 4) (k : Fin 8) (l : Fin 16) (r : Fin 4), ∀ a,
    offO q k l (BitVec.ofNat 32 (16 * r.val)) a + S16.size a ≤ S32768.size a := by decide +kernel

/-- The side condition of a lane: its four pieces lie inside the gathered rows. -/
def chk (q : Fin 4) (k : Fin 8) (l : Fin 16) (w : BitVec 32) : Prop :=
  ∀ (r : Fin 4), ∀ a, offR q k l w (BitVec.ofNat 32 (16 * r.val)) a + S1x16.size a ≤ S512x128.size a

/-- The side condition of a lane can be decided. -/
instance chk.dec (q : Fin 4) (k : Fin 8) (l : Fin 16) (w : BitVec 32) : Decidable (chk q k l w) :=
  decidable_of_iff' _ (Iff.of_eq (chk.eq_1 q k l w))

/-- A lane's word is one of the sixteen. -/
theorem slices (l : Fin 16) : S16.Slices ![l.val] S1 := by revert l; decide

variable (i : grid1.Coords)

/-- The vector subcore's effects at grid point `i`. -/
abbrev Eff : Type → Type := TpuEff nD τ sig (Elt F) Λ₀ (.scVector ((i 0).castLE hcore1) ((i 1).castLE hsub1))

/-- One piece of a lane: sixteen words of the gathered row are read and stored (the load of the target reads what
    nothing uses), and the program goes on. -/
def piece (arg8 : Memref sig .scVector .vmem S512x128 .f32) (arg9 : Memref sig .scVector .vmem S32768 .f32)
    (q : Fin 4) (k : Fin 8) (l : Fin 16) (w : BitVec 32) (h : chk q k l w) (j : Fin 4)
    (rest : Prog (Eff (F := F) i) (BitVec 32)) : Prog (Eff (F := F) i) (BitVec 32) := do
  let ld : Vec F S1x16 .f32 ← Prog.lift (.load arg8 (Rect.unit (s := S512x128) (offR q k l w (BitVec.ofNat 32 (16 * j.val))) S1x16.size (h j)).toLoadRect (View.loadsAt_vmem h_S1x16))
  let _old : Vec F S16 .f32 ← Prog.lift (.load arg9 (Rect.unit (s := S32768) (offO q k l (BitVec.ofNat 32 (16 * j.val))) S16.size (offO_inb q k l j)).toLoadRect (View.loadsAt_vmem h_S16))
  Prog.lift (.store arg9 (Rect.unit (s := S32768) (offO q k l (BitVec.ofNat 32 (16 * j.val))) S16.size (offO_inb q k l j)) (shapeCast S16 ld shapeCasts_S1x16_S16) Finset.univ (View.stores_vmem_bits_univ h_S16 rfl) (.inl rfl))
  rest

/-- One lane whose half word is `w`: the side condition is assumed, the four pieces moved. -/
def laneAt (arg8 : Memref sig .scVector .vmem S512x128 .f32) (arg9 : Memref sig .scVector .vmem S32768 .f32)
    (q : Fin 4) (k : Fin 8) (l : Fin 16) (w : BitVec 32)
    (rest : Prog (Eff (F := F) i) (BitVec 32)) : Prog (Eff (F := F) i) (BitVec 32) := do
  have h : chk q k l w := (← Prog.lift (TpuEff.assume (chk q k l w) (chk.dec q k l w))).down
  piece i arg8 arg9 q k l w h 0 (piece i arg8 arg9 q k l w h 1 (piece i arg8 arg9 q k l w h 2 (piece i arg8 arg9 q k l w h 3 rest)))

/-- One lane: its half word is taken out of the sixteen read. -/
def lane (arg8 : Memref sig .scVector .vmem S512x128 .f32) (arg9 : Memref sig .scVector .vmem S32768 .f32)
    (q : Fin 4) (k : Fin 8) (v : Vec F S16 .i32) (l : Fin 16)
    (rest : Prog (Eff (F := F) i) (BitVec 32)) : Prog (Eff (F := F) i) (BitVec 32) :=
  laneAt i arg8 arg9 q k l (extractAt ![0] (extractStridedSlice S1 ![l.val] v (slices l)) inpos_S1_p0) rest

/-- The sixteen lanes, in order. -/
def laneList : List (Fin 16) := [0, 1, 2, 3, 4, 5, 6, 7, 8, 9, 10, 11, 12, 13, 14, 15]

/-- One trip: the sixteen half words are read and the lanes run one after another. -/
def trip (arg7 : Memref sig .scVector .vmem S512 .i32) (arg8 : Memref sig .scVector .vmem S512x128 .f32)
    (arg9 : Memref sig .scVector .vmem S32768 .f32) (q : Fin 4) (k : Fin 8) : Prog (Eff (F := F) i) (BitVec 32) := do
  let v : Vec F S16 .i32 ← Prog.lift (.load arg7 (Rect.unit (s := S512) (offH q k) S16.size (offH_inb q k)).toLoadRect (View.loadsAt_vmem h_S16))
  laneList.foldr (fun l rest => lane i arg8 arg9 q k v l rest) (pure 0#32)

section
variable (arg2 : Memref sig .scVector .hbm S507904x128 .f32) (harg2 : arg2.IsWhole) (arg3 : Memref sig .scVector .hbm S16384 .i32) (harg3 : arg3.IsWhole) (arg4 : Memref sig .scVector .hbm S1048576 .f32) (harg4 : arg4.IsWhole) (arg5 : Memref sig .scVector .vmem S512 .i32) (harg5 : arg5.IsWhole) (arg6 : Memref sig .scVector .vmem S512 .i32) (harg6 : arg6.IsWhole) (arg7 : Memref sig .scVector .vmem S512 .i32) (harg7 : arg7.IsWhole) (arg8 : Memref sig .scVector .vmem S512x128 .f32) (harg8 : arg8.IsWhole) (arg9 : Memref sig .scVector .vmem S32768 .f32) (harg9 : arg9.IsWhole) (arg10 : DmaSems sig S_) (arg11 : DmaSems sig S_) (arg12 : DmaSems sig S_) (arg13 : DmaSems sig S_) (arg14 : DmaSems sig S_) (v85_r0 : DmaSems sig S_) (v2 : BitVec 32)

set_option maxRecDepth 65536 in
/-- The first loop's region is the trip of quarter 0. -/
theorem t2_body_eq (k : Fin k1_t2_loop.trips) (acc : BitVec 32) :
    k1_t2_body (F := F) i arg2 harg2 arg3 harg3 arg4 harg4 arg5 harg5 arg6 harg6 arg7 harg7 arg8 harg8 arg9 harg9 arg10 arg11 arg12 arg13 arg14 v85_r0 v2 k acc
      = trip i arg7 arg8 arg9 0 k := rfl

set_option maxRecDepth 65536 in
/-- The second loop's region is the trip of quarter 1. -/
theorem t3_body_eq (k : Fin k1_t3_loop.trips) (acc : BitVec 32) :
    k1_t3_body (F := F) i arg2 harg2 arg3 harg3 arg4 harg4 arg5 harg5 arg6 harg6 arg7 harg7 arg8 harg8 arg9 harg9 arg10 arg11 arg12 arg13 arg14 v85_r0 v2 k acc
      = trip i arg7 arg8 arg9 1 k := rfl

set_option maxRecDepth 65536 in
/-- The third loop's region is the trip of quarter 2. -/
theorem t4_body_eq (c0_i32_49 : BitVec 32) (k : Fin k1_t4_loop.trips) (acc : BitVec 32) :
    k1_t4_body (F := F) i arg2 harg2 arg3 harg3 arg4 harg4 arg5 harg5 arg6 harg6 arg7 harg7 arg8 harg8 arg9 harg9 arg10 arg11 arg12 arg13 arg14 v85_r0 v2 c0_i32_49 k acc
      = trip i arg7 arg8 arg9 2 k := rfl

set_option maxRecDepth 65536 in
/-- The fourth loop's region is the trip of quarter 3. -/
theorem t5_body_eq (c0_i32_49 : BitVec 32) (k : Fin k1_t5_loop.trips) (acc : BitVec 32) :
    k1_t5_body (F := F) i arg2 harg2 arg3 harg3 arg4 harg4 arg5 harg5 arg6 harg6 arg7 harg7 arg8 harg8 arg9 harg9 arg10 arg11 arg12 arg13 arg14 v85_r0 v2 c0_i32_49 k acc
      = trip i arg7 arg8 arg9 3 k := rfl

end

end Cert.KernelIdeal.Lanes
-- ==== Proof.Setup.lean ====
/- The names the proof of the kernel's run is written over: the program as the launch sees it, the ghost state, the
   buffers a tile works on, and what each array is to hold. -/
module

public import proofs.«01_k».proof.Proof.Lanes
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.KernelIdeal.Run

open Cert.KernelIdeal Cert.KernelIdeal.Gen Cert.KernelIdeal.Lanes
open Idealize.ShloMosaic Idealize.ShloMosaic.SparseCore.Cfg
open Idealize.SL Idealize.SL.RA Idealize.SL.BI Idealize.SL.Sem
open Idealize.ShloMosaic.Rounds

variable {F : FTy → Type}

/-! ## The program and its ghost state -/

/-- The labels of the TensorCore's pipelined region, under the SparseCore call. -/
abbrev ΛP : Labels := Pipeline.Sig Λ₀ (Fin 1) fun p => (pcfgs (F := F) p).Adm
/-- The SparseCore call. -/
abbrev K : SparseCore.Cfg τ sig (ΛP (F := F)) 1 := sc (F := F)
/-- The bodies under the SparseCore call: the region's and the two kernels'. -/
abbrev D [FloatOps F] : Defs nD τ sig (Elt F) (ΛP (F := F)) := Pipeline.defs pcfgs defs₀
/-- Nothing here recurses. -/
abbrev 𝒱₀ : Variants := Variants.none
abbrev 𝒱 : Variants := 𝒱₀.lift
abbrev v₀ : 𝒱.V := Sum.inl none

/-- The call runs on sixteen tiles of each core. -/
theorem nSub_zero : (K (F := F)).nSub 0 = 16 := rfl

/-- The SparseCore call's static side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The call's handshakes. -/
abbrev UH : Type := URounds (GSem nD τ sig) ℕ
/-- The region's staging handshakes. -/
abbrev UP : Type := URounds (GSem nD τ sig) Unit
/-- All of it, with the transfers' counters. -/
abbrev UU : Type := UH × (UP × Counters)

/-- The resources of the proof. -/
abbrev 𝕄 (F : FTy → Type) : Type := MT nD τ sig (HIx 1) (Elt F) ℕ UU ℕ

abbrev EH : Emb UH (𝕄 F) := embL
abbrev EP : Emb UP (𝕄 F) := (Emb.inl : Emb UP (UP × Counters)).trans embR

instance EP_landsIn : (EP (F := F)).LandsIn upEmb := by unfold EP embR; infer_instance

/-! ## A tile and its buffers -/

section Tile
variable (i : grid1.Coords)

/-- The SparseCore of a grid point. -/
abbrev cV : Fin τ.nSC := (i 0).castLE hcore1
/-- The tile of a grid point. -/
abbrev jV : Fin τ.nSub := (i 1).castLE hsub1
/-- The tile's thread on device `d`. -/
abbrev tile (d : Dev nD) : Thread nD τ := SparseCore.V d (cV i) (jV i)

end Tile

abbrev wtM : Memref sig .scVector .hbm S507904x128 .f32 := Memref.whole main_v0_scv
abbrev ixM : Memref sig .scVector .hbm S16384 .i32 := Memref.whole main_arg0_scv
abbrev outM : Memref sig .scVector .hbm S1048576 .f32 := Memref.whole main_v1_scv
abbrev idM : Memref sig .scVector .vmem S512 .i32 := Memref.whole cc1_scratch0
abbrev pwM : Memref sig .scVector .vmem S512 .i32 := Memref.whole cc1_scratch1
abbrev hwM : Memref sig .scVector .vmem S512 .i32 := Memref.whole cc1_scratch2
abbrev rowM : Memref sig .scVector .vmem S512x128 .f32 := Memref.whole cc1_scratch3
abbrev stgM : Memref sig .scVector .vmem S32768 .f32 := Memref.whole cc1_scratch4

/-! ## Positions -/

/-- Position `n` of a one-axis array. -/
abbrev at1 {a : Nat} (n : Nat) (h : n < a) : (⟨1, ![a]⟩ : Shape).Idx := fun x => match x with | ⟨0, _⟩ => ⟨n, h⟩
/-- Position (`n`, `c`) of a two-axis array. -/
abbrev at2 {a b : Nat} (n c : Nat) (h : n < a) (h' : c < b) : (⟨2, ![a, b]⟩ : Shape).Idx :=
  fun x => match x with | ⟨0, _⟩ => ⟨n, h⟩ | ⟨1, _⟩ => ⟨c, h'⟩

/-- Sixty-four words of each gathered row, the half `H` names: what a tile's stage holds in the end. -/
def pick (H : S512.Idx → BitVec 32) (R : S512x128.Idx → Elt F .f32) : S32768.Idx → Elt F .f32 := fun x =>
  have hx : (x 0).val < 32768 := (x 0).isLt
  R (at2 ((x 0).val / 64) ((H (at1 ((x 0).val / 64) (by omega))).toNat % 2 * 64 + (x 0).val % 64) (by omega) (by omega))

end Cert.KernelIdeal.Run
-- ==== Proof.Turn.lean ====
/- One point of the TensorCore's region: a block of the table's columns comes back turned, its two halves side by side. -/
module

public import proofs.«01_k».proof.Proof.Setup
public import proofs.«01_k».proof.Proof.Gen.KernelIdeal.Skeleton
public import Idealize.ShloMosaic.Lib.Pipeline.Value

@[expose] public section

noncomputable section

namespace Cert.KernelIdeal.Run

open Cert.KernelIdeal Cert.KernelIdeal.Gen Cert.KernelIdeal.Lanes
open Idealize.ShloMosaic Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## A load and a store at a memref held at named contents -/

/-- A load reads the contents under its rectangle. -/
theorem owns_load (d : Dev nD) {cs : CoreSpace} {s : Shape} {e : EltTy} (m : Memref sig .tc (.core cs) s e) (r : Rect s) (Y : s.Idx → Elt F e)
    {hl : m.view.LoadsAt r.toLoadRect} {k : (r.shape.Idx → Elt F e) → Prog (TpuEff nD τ sig (Elt F) Λ₀ .tc) PUnit} {Q : PUnit → sProp (𝕄 F)} :
    (ownsTc d m fullShare Y : sProp (𝕄 F))
      ⊢ iprop((ownsTc d m fullShare Y -∗ wp frame (wpE (defs₀ (F := F)) 𝒱₀ (SparseCore.T d) none) Set.univ (k fun x => Y (r.emb x)) Q)
        -∗ wp frame (wpE (defs₀ (F := F)) 𝒱₀ (SparseCore.T d) none) Set.univ (.op (.load m r.toLoadRect hl) k) Q) := by
  unfold ownsTc owns
  iintro ⟨%f, %hf, H⟩ Hk
  have hS : (m.access r).set ⊆ (show Finset (Idx ((m.access r).loc (SparseCore.T (τ := τ) d))) from m.view.set) := View.set_slice_subset m.view r
  iapply (wp_load_rect 𝒱₀ (SparseCore.T (τ := τ) d) none Set.univ (m := m) (r := r) (q := fullShare) (f := f) hS) $$ H
  iintro H
  rw [show (fun x => Y (r.emb x)) = (m.access r).read (Elt F) f from by rw [← hf]; rfl]
  iapply Hk
  iexists f
  isplitl []
  · ipureintro; exact hf
  iexact H

/-- A store changes the contents under its rectangle only, to what is stored. -/
theorem owns_store (d : Dev nD) {cs : CoreSpace} {s : Shape} {e : EltTy} (m : Memref sig .tc (.core cs) s e) (r : Rect s) (X : s.Idx → Elt F e)
    (w : r.shape.Idx → Elt F e) {hx : (m.access r).Stores Finset.univ} {hm : (Finset.univ : Finset r.shape.Idx) = Finset.univ ∨ ∀ a, r.stride a = 1}
    {k : PUnit → Prog (TpuEff nD τ sig (Elt F) Λ₀ .tc) PUnit} {Q : PUnit → sProp (𝕄 F)} :
    (ownsTc d m fullShare X : sProp (𝕄 F))
      ⊢ iprop((∀ X', ⌜(∀ x, X' (r.emb x) = w x) ∧ ∀ y, y ∉ r.set → X' y = X y⌝ -∗ ownsTc d m fullShare X'
            -∗ wp frame (wpE (defs₀ (F := F)) 𝒱₀ (SparseCore.T d) none) Set.univ (k ⟨⟩) Q)
        -∗ wp frame (wpE (defs₀ (F := F)) 𝒱₀ (SparseCore.T d) none) Set.univ (.op (.store m r w Finset.univ hx hm) k) Q) := by
  unfold ownsTc owns
  iintro ⟨%f, %hf, H⟩ Hk
  have hS : (m.access r).setOn Finset.univ ⊆ (show Finset (Idx ((m.access r).loc (SparseCore.T (τ := τ) d))) from m.view.set) := View.set_slice_subset m.view r
  iapply (wp_store 𝒱₀ (SparseCore.T (τ := τ) d) none Set.univ (m := m) (r := r) (w := w) (Mk := Finset.univ) (f := f) hS) $$ H
  iintro H
  ispecialize Hk $$ %(m.view.read (Elt F) ((m.access r).write (Elt F) f w Finset.univ)) []
  · ipureintro
    refine ⟨fun x => View.read_slice_write_emb r f w (Finset.mem_univ x), fun y hy => ?_⟩
    rw [← hf]
    exact View.read_slice_write_of_not_mem r f w Finset.univ fun hm => hy (by rwa [Rect.map_emb_univ] at hm)
  iapply Hk
  iexists ((m.access r).write (Elt F) f w Finset.univ)
  isplitl []
  · ipureintro; rfl
  iexact H

/-! ## The body -/

/-- The columns of the second block are filled from the rows of the first, below column `64 * n`: word `c` of half `h` of
    row `r` is word `16384 * h + r` of row `c`. -/
def Turned (Y : S64x32768.Idx → Elt F .f32) (X : S16384x128.Idx → Elt F .f32) (n : Nat) : Prop :=
  ∀ (r h c : Nat) (hr : r < 16384) (hh : h < 2) (hc : c < 64), h < n → X (at2 r (64 * h + c) hr (by omega)) = Y (at2 c (16384 * h + r) hc (by omega))

/-- A half, stored turned, adds its sixty-four columns to those filled. -/
theorem turn_half (h : Nat) (hh : h < 2)
    (inb1 : ∀ a, (![0, 16384 * h] : Fin 2 → Nat) a + S64x16384.size a ≤ S64x32768.size a)
    (inb2 : ∀ a, (![0, 64 * h] : Fin 2 → Nat) a + S16384x64.size a ≤ S16384x128.size a)
    (Y : S64x32768.Idx → Elt F .f32) (X X' : S16384x128.Idx → Elt F .f32)
    (H : Turned Y X h)
    (hX : (∀ x, X' ((Rect.unit (s := S16384x128) ![0, 64 * h] S16384x64.size inb2).emb x)
        = transpose S16384x64 [1, 0] (fun x => Y ((Rect.unit (s := S64x32768) ![0, 16384 * h] S64x16384.size inb1).emb x)) transposes_S64x16384_p1_0_S16384x64 x)
      ∧ ∀ y, y ∉ (Rect.unit (s := S16384x128) ![0, 64 * h] S16384x64.size inb2).set → X' y = X y) :
    Turned Y X' (h + 1) := by
  intro r k c hr hk hc hlt
  by_cases e : k = h
  · subst e
    have hx : (at2 r (64 * k + c) hr (by omega) : S16384x128.Idx)
        = (Rect.unit (s := S16384x128) ![0, 64 * k] S16384x64.size inb2).emb (at2 r c hr hc : S16384x64.Idx) := by
      funext a
      match a with
      | ⟨0, _⟩ => exact Fin.ext (by show r = 0 + 1 * r; omega)
      | ⟨1, _⟩ => exact Fin.ext (by show 64 * k + c = 64 * k + 1 * c; omega)
    rw [hx]
    refine (hX.1 _).trans ?_
    rw [transpose_apply [1, 0] _ transposes_S64x16384_p1_0_S16384x64 (at2 r c hr hc : S16384x64.Idx) (at2 c r hc hr : S64x16384.Idx)
      (fun b => match b with | ⟨0, _⟩ => rfl | ⟨1, _⟩ => rfl)]
    congr 1
    funext a
    match a with
    | ⟨0, _⟩ => exact Fin.ext (by show 0 + 1 * c = c; omega)
    | ⟨1, _⟩ => exact Fin.ext (by show 16384 * k + 1 * r = 16384 * k + r; omega)
  · refine (hX.2 _ ?_).trans (H r k c hr hk hc (by omega))
    intro hm
    rw [Rect.mem_set_unit] at hm
    have h1 : 64 * h ≤ 64 * k + c := (hm 1).1
    omega

/-- The body of the region at any point: what it finds in the first staging buffer stays, the second holds it turned. -/
theorem wp_turn (d : Dev nD) (i : grid0.Coords) (m1 : Memref sig .tc .vmem S64x32768 .f32) (h1 : m1.IsWhole)
    (m2 : Memref sig .tc .vmem S16384x128 .f32) (h2 : m2.IsWhole) (Y : S64x32768.Idx → Elt F .f32) (X : S16384x128.Idx → Elt F .f32) (Q : PUnit → sProp (𝕄 F)) :
    iprop(ownsTc d m1 fullShare Y ∗ ownsTc d m2 fullShare X
        ∗ (∀ X', ⌜Turned Y X' 2⌝ -∗ ownsTc d m1 fullShare Y -∗ ownsTc d m2 fullShare X' -∗ Q ⟨⟩))
      ⊢ wp frame (wpE (defs₀ (F := F)) 𝒱₀ (SparseCore.T d) none) Set.univ (cc0__tc_transpose_body (F := F) i m1 h1 m2 h2) Q := by
  rw [cc0__tc_transpose_body_eq_skeleton]
  unfold cc0__tc_transpose_body_skel
  simp only [Prog.lift, Prog.bind_op, Prog.bind_ret]
  have t0 : Turned Y X 0 := fun r h c hr hh hc hlt => absurd hlt (Nat.not_lt_zero _)
  iintro ⟨H1, H2, Hk⟩
  iapply (owns_load d m1 _ Y) $$ H1
  iintro H1
  iapply (owns_load d m2 _ X) $$ H2
  iintro H2
  iapply (owns_store d m2 _ X) $$ H2
  iintro %X1 %hX1 H2
  have t1 := turn_half 0 (by decide) inb_S64x32768_S64x16384_0_0 inb_S16384x128_S16384x64_0_0 Y X X1 t0 hX1
  iapply (owns_load d m1 _ Y) $$ H1
  iintro H1
  iapply (owns_load d m2 _ X1) $$ H2
  iintro H2
  iapply (owns_store d m2 _ X1) $$ H2
  iintro %X2 %hX2 H2
  have t2 := turn_half 1 (by decide) inb_S64x32768_S64x16384_0_16384 inb_S16384x128_S16384x64_0_64 Y X1 X2 t1 hX2
  rw [wp_pure]
  imodintro
  iapply Hk $$ %X2 [] H1 H2
  ipureintro; exact t2

end Cert.KernelIdeal.Run
-- ==== Proof.Trip.lean ====
/- One trip of the loops that pick the halves out: sixteen rows of a quarter of the stage come to hold the half each
   row's half word names. -/
module

public import proofs.«01_k».proof.Proof.Setup
public import Idealize.ShloMosaic.Lib.Pipeline.Value
public import Idealize.ShloMosaic.Lib.Pointwise.ShapeOpsCore

@[expose] public section

noncomputable section

namespace Cert.KernelIdeal.Run

open Cert.KernelIdeal Cert.KernelIdeal.Gen Cert.KernelIdeal.Lanes
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-! ## The quarters -/

theorem rowQ_inb (q : Fin 4) : ∀ a, (![128 * q.val, 0] : Fin 2 → Nat) a + S128x128.size a ≤ S512x128.size a := by
  revert q; decide
/-- A quarter of the stage lies inside it. -/
theorem stgQ_inb (q : Fin 4) : ∀ a, (![8192 * q.val] : Fin 1 → Nat) a + S8192.size a ≤ S32768.size a := by
  revert q; decide

/-- A quarter of the gathered rows. -/
abbrev rowQ (q : Fin 4) : Rect S512x128 := Rect.unit (s := S512x128) ![128 * q.val, 0] S128x128.size (rowQ_inb q)
/-- A quarter of the stage. -/
abbrev stgQ (q : Fin 4) : Rect S32768 := Rect.unit (s := S32768) ![8192 * q.val] S8192.size (stgQ_inb q)

/-! ## The words' arithmetic -/

theorem offH_eq : ∀ (q : Fin 4) (k : Fin 8), offH q k = ![128 * q.val + 16 * k.val] := by decide +kernel
/-- Where a lane stores its pieces, as numbers. -/
theorem offO_eq : ∀ (q : Fin 4) (k : Fin 8) (l : Fin 16) (j : Fin 4),
    offO q k l (BitVec.ofNat 32 (16 * j.val)) = ![64 * (128 * q.val + 16 * k.val + l.val) + 16 * j.val] := by decide +kernel
/-- Where a lane reads its pieces, as numbers. -/
theorem offR_eq : ∀ (q : Fin 4) (k : Fin 8) (l : Fin 16) (b : Fin 2) (j : Fin 4),
    offR q k l (BitVec.ofNat 32 b.val) (BitVec.ofNat 32 (16 * j.val)) = ![128 * q.val + 16 * k.val + l.val, 64 * b.val + 16 * j.val] := by
  decide +kernel

/-- A half word is 0 or 1, so the four pieces lie inside the rows. -/
theorem chk_of_lt (q : Fin 4) (k : Fin 8) (l : Fin 16) (b : Fin 2) : chk q k l (BitVec.ofNat 32 b.val) := by
  intro r a
  rw [offR_eq]
  have := q.isLt; have := k.isLt; have := l.isLt; have := b.isLt; have := r.isLt
  match a with
  | ⟨0, _⟩ => show 128 * q.val + 16 * k.val + l.val + 1 ≤ 512; omega
  | ⟨1, _⟩ => show 64 * b.val + 16 * r.val + 16 ≤ 128; omega

/-! ## The stage filled from its start -/

section
variable (d : Dev nD) (i : grid1.Coords) [FloatOps F]

/-- Quarter `q` of the stage holds what it should up to word `e`. -/
def filled (q : Fin 4) (H : S512.Idx → BitVec 32) (R : S512x128.Idx → Elt F .f32) (e : Nat) : sProp (𝕄 F) :=
  iprop(∃ f : S32768.Idx → Elt F .f32, ⌜∀ x, 8192 * q.val ≤ (x 0).val → (x 0).val < e → f x = pick H R x⌝
    ∗ (tile i d).loc cc1_scratch4 ↦[(stgQ q).set]{fullShare} f)

/-- Writing the sixteen words of a piece carries the filled part sixteen words on. -/
theorem fill_piece (q : Fin 4) (k : Fin 8) (l : Fin 16) (b : Fin 2) (j : Fin 4) (h : chk q k l (BitVec.ofNat 32 b.val))
    (H : S512.Idx → BitVec 32) (R : S512x128.Idx → Elt F .f32) (f : S32768.Idx → Elt F .f32)
    (hb : ∀ hn, (H (at1 (128 * q.val + 16 * k.val + l.val) hn)).toNat % 2 = b.val)
    (hf : ∀ x, 8192 * q.val ≤ (x 0).val → (x 0).val < 64 * (128 * q.val + 16 * k.val + l.val) + 16 * j.val → f x = pick H R x)
    (x : S32768.Idx) (hx : 8192 * q.val ≤ (x 0).val) (hx' : (x 0).val < 64 * (128 * q.val + 16 * k.val + l.val) + 16 * (j.val + 1)) :
    (stgM.access (Rect.unit (s := S32768) (offO q k l (BitVec.ofNat 32 (16 * j.val))) S16.size (offO_inb q k l j))).write (Elt F) f
      (shapeCast S16 ((rowM.access (Rect.unit (s := S512x128) (offR q k l (BitVec.ofNat 32 b.val) (BitVec.ofNat 32 (16 * j.val))) S1x16.size (h j))).read (Elt F) R)
        shapeCasts_S1x16_S16) Finset.univ x = pick H R x := by
  have := q.isLt; have := k.isLt; have := l.isLt; have := b.isLt; have := j.isLt
  by_cases hlt : (x 0).val < 64 * (128 * q.val + 16 * k.val + l.val) + 16 * j.val
  · rw [View.write_of_not_mem, hf x hx hlt]
    intro hm
    rw [View.setOn_univ, View.set_slice_whole, Rect.mem_set_unit] at hm
    have := (hm 0).1
    rw [offO_eq] at this
    simp at this
    omega
  · have hy : (x 0).val - (64 * (128 * q.val + 16 * k.val + l.val) + 16 * j.val) < 16 := by omega
    have e : x = (stgM.access (Rect.unit (s := S32768) (offO q k l (BitVec.ofNat 32 (16 * j.val))) S16.size (offO_inb q k l j))).emb
        (at1 ((x 0).val - (64 * (128 * q.val + 16 * k.val + l.val) + 16 * j.val)) hy) := by
      funext a
      match a with
      | ⟨0, _⟩ =>
        refine Fin.ext ?_
        show (x 0).val = (offO q k l (BitVec.ofNat 32 (16 * j.val))) 0 + 1 * ((x 0).val - (64 * (128 * q.val + 16 * k.val + l.val) + 16 * j.val))
        rw [offO_eq]
        simp
        omega
    conv_lhs => rw [e]
    rw [View.write_emb_of_mem _ _ (Finset.mem_univ _)]
    rw [cast_eq]
    refine (Idealize.ShloMosaic.shapeCast_dropUnit_apply ![16] _ _ _).trans ?_
    rw [View.read_apply, cast_eq]
    unfold pick
    congr 1
    have hrow : (x 0).val / 64 = 128 * q.val + 16 * k.val + l.val := by omega
    funext a
    match a with
    | ⟨0, _⟩ =>
      refine Fin.ext ?_
      show (offR q k l (BitVec.ofNat 32 b.val) (BitVec.ofNat 32 (16 * j.val))) 0 + 1 * 0 = (x 0).val / 64
      rw [offR_eq, hrow]; simp
    | ⟨1, _⟩ =>
      refine Fin.ext ?_
      show (offR q k l (BitVec.ofNat 32 b.val) (BitVec.ofNat 32 (16 * j.val))) 1 + 1 * ((x 0).val - (64 * (128 * q.val + 16 * k.val + l.val) + 16 * j.val))
        = (H (at1 ((x 0).val / 64) _)).toNat % 2 * 64 + (x 0).val % 64
      rw [offR_eq]
      have hb' : (H (at1 ((x 0).val / 64) (by omega))).toNat % 2 = b.val := by
        have hat : ∀ (n n' : Nat) (hn : n < 512) (hn' : n' < 512), n = n' → H (at1 n hn) = H (at1 n' hn') := by
          rintro n _ _ _ rfl; rfl
        rw [hat _ _ _ (by omega) hrow]
        exact hb (by omega)
      rw [hb']
      simp
      omega

/-- The rows a piece reads lie in its quarter. -/
theorem piece_rows (q : Fin 4) (k : Fin 8) (l : Fin 16) (b : Fin 2) (j : Fin 4) (h : chk q k l (BitVec.ofNat 32 b.val)) :
    (rowM.access (Rect.unit (s := S512x128) (offR q k l (BitVec.ofNat 32 b.val) (BitVec.ofNat 32 (16 * j.val))) S1x16.size (h j))).set ⊆ (rowQ q).set := by
  intro x hx
  rw [View.set_slice_whole, Rect.mem_set_unit, offR_eq] at hx
  rw [Rect.mem_set_unit]
  have := q.isLt; have := k.isLt; have := l.isLt; have := b.isLt; have := j.isLt
  have h0 := hx 0; have h1 := (x 1).isLt
  intro a
  match a with
  | ⟨0, _⟩ =>
    simp at h0
    show 128 * q.val ≤ (x 0).val ∧ (x 0).val < 128 * q.val + 128
    omega
  | ⟨1, _⟩ =>
    show 0 ≤ (x 1).val ∧ (x 1).val < 0 + 128
    exact ⟨Nat.zero_le _, by rw [Nat.zero_add]; exact h1⟩

/-- The words a piece stores lie in its quarter of the stage. -/
theorem piece_stage (q : Fin 4) (k : Fin 8) (l : Fin 16) (j : Fin 4) :
    (stgM.access (Rect.unit (s := S32768) (offO q k l (BitVec.ofNat 32 (16 * j.val))) S16.size (offO_inb q k l j))).set ⊆ (stgQ q).set := by
  intro x hx
  rw [View.set_slice_whole, Rect.mem_set_unit, offO_eq] at hx
  rw [Rect.mem_set_unit]
  have := q.isLt; have := k.isLt; have := l.isLt; have := j.isLt
  have h0 := hx 0
  intro a
  match a with
  | ⟨0, _⟩ =>
    simp at h0
    show 8192 * q.val ≤ (x 0).val ∧ (x 0).val < 8192 * q.val + 8192
    omega

/-- A piece reads its words of the row and carries the filled part on. -/
theorem wp_piece (q : Fin 4) (k : Fin 8) (l : Fin 16) (b : Fin 2) (j : Fin 4) (h : chk q k l (BitVec.ofNat 32 b.val))
    (H : S512.Idx → BitVec 32) (R : S512x128.Idx → Elt F .f32)
    (hb : ∀ hn, (H (at1 (128 * q.val + 16 * k.val + l.val) hn)).toNat % 2 = b.val)
    (rest : Prog (Eff (F := F) i) (BitVec 32)) (Q : BitVec 32 → sProp (𝕄 F)) :
    iprop(((tile i d).loc cc1_scratch3 ↦[(rowQ q).set]{fullShare} R)
        ∗ filled d i q H R (64 * (128 * q.val + 16 * k.val + l.val) + 16 * j.val)
        ∗ (((tile i d).loc cc1_scratch3 ↦[(rowQ q).set]{fullShare} R)
            -∗ filled d i q H R (64 * (128 * q.val + 16 * k.val + l.val) + 16 * (j.val + 1))
            -∗ wp frame (wpE (defs₀ (F := F)) 𝒱₀ (tile i d) none) Set.univ rest Q))
      ⊢ wp frame (wpE (defs₀ (F := F)) 𝒱₀ (tile i d) none) Set.univ (Lanes.piece i rowM stgM q k l (BitVec.ofNat 32 b.val) h j rest) Q := by
  unfold filled
  iintro ⟨Hr, ⟨%f, %hf, Hs⟩, Hk⟩
  unfold Lanes.piece
  iapply (wp_load_rect 𝒱₀ (tile i d) none Set.univ (m := rowM) (piece_rows q k l b j h)) $$ Hr
  iintro Hr
  iapply (wp_load_rect 𝒱₀ (tile i d) none Set.univ (m := stgM) (piece_stage q k l j)) $$ Hs
  iintro Hs
  iapply (wp_store 𝒱₀ (tile i d) none Set.univ (m := stgM) (Mk := Finset.univ) (piece_stage q k l j)) $$ Hs
  iintro Hs
  iapply Hk $$ Hr
  iexists _
  isplitl []
  · ipureintro
    exact fun x => fill_piece q k l b j h H R f hb hf x
  iexact Hs

/-- A lane whose half word is `b` fills its row's sixty-four words of the stage. -/
theorem wp_lane (q : Fin 4) (k : Fin 8) (l : Fin 16) (b : Fin 2) (v : Vec F S16 .i32)
    (hv : v (at1 l.val l.isLt) = BitVec.ofNat 32 b.val)
    (H : S512.Idx → BitVec 32) (R : S512x128.Idx → Elt F .f32)
    (hb : ∀ hn, (H (at1 (128 * q.val + 16 * k.val + l.val) hn)).toNat % 2 = b.val)
    (rest : Prog (Eff (F := F) i) (BitVec 32)) (Q : BitVec 32 → sProp (𝕄 F)) :
    iprop(((tile i d).loc cc1_scratch3 ↦[(rowQ q).set]{fullShare} R)
        ∗ filled d i q H R (64 * (128 * q.val + 16 * k.val + l.val))
        ∗ (((tile i d).loc cc1_scratch3 ↦[(rowQ q).set]{fullShare} R)
            -∗ filled d i q H R (64 * (128 * q.val + 16 * k.val + l.val + 1))
            -∗ wp frame (wpE (defs₀ (F := F)) 𝒱₀ (tile i d) none) Set.univ rest Q))
      ⊢ wp frame (wpE (defs₀ (F := F)) 𝒱₀ (tile i d) none) Set.univ (Lanes.lane i rowM stgM q k v l rest) Q := by
  have hw : extractAt ![0] (extractStridedSlice S1 ![l.val] v (slices l)) inpos_S1_p0 = BitVec.ofNat 32 b.val := by
    rw [← hv]
    refine (extractAt_eq _ _ _).trans ((extractStridedSlice_apply _ _ _ _ _ ?_).trans rfl)
    intro a
    match a with
    | ⟨0, _⟩ => rfl
  unfold Lanes.lane
  rw [hw]
  unfold Lanes.laneAt
  refine BIBase.Entails.trans ?_ (wp_assume 𝒱₀ (tile i d) none Set.univ (chk_of_lt q k l b))
  iintro ⟨Hr, Hf, Hk⟩
  iapply (wp_piece d i q k l b 0 (chk_of_lt q k l b) H R hb)
  isplitl [Hr]; · iexact Hr
  isplitl [Hf]; · iexact Hf
  iintro Hr Hf
  iapply (wp_piece d i q k l b 1 (chk_of_lt q k l b) H R hb)
  isplitl [Hr]; · iexact Hr
  isplitl [Hf]; · iexact Hf
  iintro Hr Hf
  iapply (wp_piece d i q k l b 2 (chk_of_lt q k l b) H R hb)
  isplitl [Hr]; · iexact Hr
  isplitl [Hf]; · iexact Hf
  iintro Hr Hf
  iapply (wp_piece d i q k l b 3 (chk_of_lt q k l b) H R hb)
  isplitl [Hr]; · iexact Hr
  isplitl [Hf]; · iexact Hf
  iexact Hk

/-- The lanes from `n` on fill the rows from `n` on. -/
theorem wp_lanes (q : Fin 4) (k : Fin 8) (v : Vec F S16 .i32) (H : S512.Idx → BitVec 32) (R : S512x128.Idx → Elt F .f32)
    (hv : ∀ (l : Fin 16) hn, v (at1 l.val l.isLt) = H (at1 (128 * q.val + 16 * k.val + l.val) hn))
    (hH : ∀ x, (H x).toNat < 2) (Q : BitVec 32 → sProp (𝕄 F)) :
    ∀ (ls : List (Fin 16)) (n : Nat), n + ls.length = 16 → (∀ (t : Nat) (ht : t < ls.length), (ls[t]).val = n + t) →
    iprop(((tile i d).loc cc1_scratch3 ↦[(rowQ q).set]{fullShare} R)
        ∗ filled d i q H R (64 * (128 * q.val + 16 * k.val + n))
        ∗ (((tile i d).loc cc1_scratch3 ↦[(rowQ q).set]{fullShare} R)
            -∗ filled d i q H R (64 * (128 * q.val + 16 * (k.val + 1))) -∗ Q 0#32))
      ⊢ wp frame (wpE (defs₀ (F := F)) 𝒱₀ (tile i d) none) Set.univ
          (ls.foldr (fun l rest => Lanes.lane i rowM stgM q k v l rest) (pure 0#32)) Q
  | [], n, hn, _ => by
    have e : 64 * (128 * q.val + 16 * k.val + n) = 64 * (128 * q.val + 16 * (k.val + 1)) := by
      simp at hn; omega
    rw [e]
    rw [List.foldr_nil, wp_pure]
    iintro ⟨Hr, Hf, Hk⟩
    iapply Hk $$ Hr Hf
  | l :: ls, n, hn, hl => by
    have hln : l.val = n := hl 0 (Nat.zero_lt_succ _)
    have hq := q.isLt; have hk := k.isLt; have hl' := l.isLt
    have hm : 128 * q.val + 16 * k.val + l.val < 512 := by omega
    have e : ∀ hn', H (at1 (128 * q.val + 16 * k.val + l.val) hn') = BitVec.ofNat 32 (H (at1 (128 * q.val + 16 * k.val + l.val) hm)).toNat := by
      intro _; simp
    subst hln
    iintro ⟨Hr, Hf, Hk⟩
    iapply (wp_lane d i q k l ⟨_, hH (at1 (128 * q.val + 16 * k.val + l.val) hm)⟩ v ((hv l hm).trans (e hm)) H R
      (fun _ => Nat.mod_eq_of_lt (hH _)))
    isplitl [Hr]; · iexact Hr
    isplitl [Hf]; · iexact Hf
    iintro Hr Hf
    iapply (wp_lanes q k v H R hv hH Q ls (l.val + 1) (by simp at hn; omega) (fun t ht => by
      have := hl (t + 1) (by simpa using ht)
      simpa [Nat.add_assoc, Nat.add_comm 1] using this))
    isplitl [Hr]; · iexact Hr
    isplitl [Hf]; · iexact Hf
    iexact Hk

/-- A trip fills its sixteen rows' words of the stage; the half words and the gathered rows are only read. -/
theorem wp_trip (q : Fin 4) (k : Fin 8) (H : S512.Idx → BitVec 32) (R : S512x128.Idx → Elt F .f32)
    (hH : ∀ x, (H x).toNat < 2) :
    iprop(((tile i d).loc cc1_scratch2 ↦{fullShare} H) ∗ ((tile i d).loc cc1_scratch3 ↦[(rowQ q).set]{fullShare} R)
        ∗ filled d i q H R (64 * (128 * q.val + 16 * k.val)))
      ⊢ wp frame (wpE (defs₀ (F := F)) 𝒱₀ (tile i d) none) Set.univ (Lanes.trip i hwM rowM stgM q k)
          fun _ => iprop(((tile i d).loc cc1_scratch2 ↦{fullShare} H) ∗ ((tile i d).loc cc1_scratch3 ↦[(rowQ q).set]{fullShare} R)
            ∗ filled d i q H R (64 * (128 * q.val + 16 * (k.val + 1)))) := by
  unfold Lanes.trip
  iintro ⟨Hh, Hr, Hf⟩
  iapply (wp_load_rect 𝒱₀ (tile i d) none Set.univ (m := hwM)
    (r := Rect.unit (s := S512) (offH q k) S16.size (offH_inb q k)) (S := Finset.univ) (Finset.subset_univ _)) $$ Hh
  iintro Hh
  iapply (wp_lanes d i q k _ H R (fun l hn => by
    rw [View.read_apply, cast_eq]
    congr 1
    funext a
    match a with
    | ⟨0, _⟩ =>
      refine Fin.ext ?_
      show (offH q k) 0 + 1 * l.val = 128 * q.val + 16 * k.val + l.val
      rw [offH_eq]; simp) hH _ laneList 0 rfl (by decide))
  isplitl [Hr]; · iexact Hr
  isplitl [Hf]; · iexact Hf
  iintro Hr Hf
  isplitl [Hh]; · iexact Hh
  isplitl [Hr]; · iexact Hr
  iexact Hf

end

end Cert.KernelIdeal.Run
-- ==== Proof.Phases.lean ====
/- The tile's program in phases: the fetch of its indices, the loop that splits them into row and half words, four
   gathers, four quarters picked out and sent, and the waits. -/
module

public import proofs.«01_k».proof.Proof.Trip

@[expose] public section

noncomputable section

namespace Cert.KernelIdeal.Run

open Cert.KernelIdeal Cert.KernelIdeal.Gen Cert.KernelIdeal.Lanes
open Idealize.ShloMosaic
open Idealize.SL.Sem

variable {F : FTy → Type} [FloatOps F]

/-- A quarter of the row words lies inside them. -/
theorem pwQ_inb (q : Fin 4) : ∀ a, (![128 * q.val] : Fin 1 → Nat) a + S128.size a ≤ S512.size a := by
  revert q; decide

/-- A quarter of the row words. -/
abbrev pwQ (q : Fin 4) : Rect S512 := Rect.unit (s := S512) ![128 * q.val] S128.size (pwQ_inb q)

variable (i : grid1.Coords)

/-- The tile's indices in the index array. -/
abbrev ixR : Rect S16384 := Rect.unit (s := S16384) (k1_off1 i) S512.size (k1_off1_inb i)
/-- A quarter of the tile's part of the output. -/
abbrev outQ (q : Fin 4) : Rect S1048576 := Rect.unit (s := S1048576) (k1_off36 i (BitVec.ofNat 32 (128 * q.val))) S8192.size (k1_off36_inb i q)

/-- All of the wide table. -/
abbrev wtAll : Memref sig .scVector .hbm S507904x128 .f32 :=
  wtM.slice (Rect.unit (s := S507904x128) ![0, 0] S507904x128.size inb_S507904x128_S507904x128_0_0) (fun _ => rfl)
abbrev ixMi : Memref sig .scVector .hbm S512 .i32 := ixM.slice (ixR i) (fun _ => rfl)
abbrev rowMq (q : Fin 4) : Memref sig .scVector .vmem S128x128 .f32 := rowM.slice (rowQ q) (fun _ => rfl)
abbrev pwMq (q : Fin 4) : Memref sig .scVector .vmem S128 .i32 := pwM.slice (pwQ q) (fun _ => rfl)
abbrev stgMq (q : Fin 4) : Memref sig .scVector .vmem S8192 .f32 := stgM.slice (stgQ q) (fun _ => rfl)
abbrev outMq (q : Fin 4) : Memref sig .scVector .hbm S8192 .f32 := outM.slice (outQ i q) (fun _ => rfl)

/-- The four gathers' semaphores. -/
abbrev gsem : Fin 4 → DmaSem sig := fun q => match q with
  | 0 => cc1_scratch5.sem | 1 => cc1_scratch6.sem | 2 => cc1_scratch7.sem | 3 => cc1_scratch8.sem
/-- The semaphore of the copies out. -/
abbrev osem : DmaSem sig := cc1_scratch9.sem
/-- The semaphore of the fetch. -/
abbrev fsem : DmaSem sig := cc1_scoped0.sem

/-- The fetch of the tile's indices. -/
def fetch {α : Type} (k : Prog (Eff (F := F) i) α) : Prog (Eff (F := F) i) α := do
  Prog.lift (.enqueueDma (ixMi i) (.here idM) (.dma fsem) (View.wordExact_bits rfl) (Memref.isWhole_whole _).wordExact ⟨Or.inl rfl, trivial⟩)
  Prog.lift (.waitDma2 fsem (ixMi i) idM (View.wordExact_bits rfl) (Memref.isWhole_whole _).wordExact)
  k

/-- One trip of the splitting loop: sixteen indices are read, their row and half words stored. -/
def splitTrip (k : Fin k1_t1_loop.trips) : Prog (Eff (F := F) i) (BitVec 32) := do
  let v : Vec F S16 .i32 ← Prog.lift (.load idM (Rect.unit (s := S512) (k1_off2 k) S16.size (k1_off2_inb k)).toLoadRect (View.loadsAt_vmem h_S16))
  let _ : Vec F S16 .i32 ← Prog.lift (.load pwM (Rect.unit (s := S512) (k1_off2 k) S16.size (k1_off2_inb k)).toLoadRect (View.loadsAt_vmem h_S16))
  Prog.lift (.store pwM (Rect.unit (s := S512) (k1_off2 k) S16.size (k1_off2_inb k)) (k1_pay317 v) Finset.univ (View.stores_vmem_bits_univ h_S16 rfl) (.inl rfl))
  let _ : Vec F S16 .i32 ← Prog.lift (.load hwM (Rect.unit (s := S512) (k1_off2 k) S16.size (k1_off2_inb k)).toLoadRect (View.loadsAt_vmem h_S16))
  Prog.lift (.store hwM (Rect.unit (s := S512) (k1_off2 k) S16.size (k1_off2_inb k)) (k1_pay318 v) Finset.univ (View.stores_vmem_bits_univ h_S16 rfl) (.inl rfl))
  pure 0#32

/-- The splitting loop. -/
def split {α : Type} (k : Prog (Eff (F := F) i) α) : Prog (Eff (F := F) i) α := do
  let _ : BitVec 32 ← Scf.Loop.for k1_t1_loop k1_t1_ok 0#32 (fun k _ => splitTrip (F := F) i k)
  k

/-- The gather of a quarter's rows is issued. -/
def gather {α : Type} (q : Fin 4) (k : Prog (Eff (F := F) i) α) : Prog (Eff (F := F) i) α := do
  SparseCore.enqueueIndirectGather rfl wtAll (rowMq q) gathers_S507904x128_S128x128 (pwMq q) rfl (gsem q) (View.wordExact_bits rfl) rfl (Or.inl rfl)
  k

/-- A quarter's gather is waited for. -/
def arrive {α : Type} (q : Fin 4) (k : Prog (Eff (F := F) i) α) : Prog (Eff (F := F) i) α := do
  SparseCore.waitIndirectGather (gsem q) wtAll (rowMq q) (View.wordExact_bits rfl) (View.wordExact_bits rfl)
  k

/-- A quarter's halves are picked out. -/
def picks {α : Type} (q : Fin 4) (k : Prog (Eff (F := F) i) α) : Prog (Eff (F := F) i) α := do
  let _ : BitVec 32 ← Scf.Loop.for k1_t2_loop k1_t2_ok 0#32 (fun k _ => Lanes.trip i hwM rowM stgM q k)
  k

/-- A quarter is sent to the output. -/
def send {α : Type} (q : Fin 4) (k : Prog (Eff (F := F) i) α) : Prog (Eff (F := F) i) α := do
  Prog.lift (.enqueueDma (stgMq q) (.here (outMq i q)) (.dma osem) (View.wordExact_bits rfl) (View.wordExact_bits rfl) ⟨Or.inl rfl, trivial⟩)
  k

/-- A quarter's copy out is waited for. -/
def sent {α : Type} (q : Fin 4) (k : Prog (Eff (F := F) i) α) : Prog (Eff (F := F) i) α := do
  Prog.lift (.waitDma2 osem (stgMq q) (outMq i q) (View.wordExact_bits rfl) (View.wordExact_bits rfl))
  k

/-- The printed body on the buffers it is called with. -/
abbrev body : Prog (Eff (F := F) i) PUnit :=
  cc1__gather_body i wtM (Memref.isWhole_whole _) ixM (Memref.isWhole_whole _) outM (Memref.isWhole_whole _)
    idM (Memref.isWhole_whole _) pwM (Memref.isWhole_whole _) hwM (Memref.isWhole_whole _) rowM (Memref.isWhole_whole _)
    stgM (Memref.isWhole_whole _) cc1_scratch5 cc1_scratch6 cc1_scratch7 cc1_scratch8 cc1_scratch9 cc1_scoped0

/-- The body in phases. -/
def phases : Prog (Eff (F := F) i) PUnit :=
  fetch i <| split i <| gather i 0 <| gather i 1 <| gather i 2 <| gather i 3 <|
    arrive i 0 <| picks i 0 <| send i 0 <| arrive i 1 <| picks i 1 <| send i 1 <|
    arrive i 2 <| picks i 2 <| send i 2 <| arrive i 3 <| picks i 3 <| send i 3 <|
    sent i 0 <| sent i 1 <| sent i 2 <| sent i 3 <| pure ⟨⟩

/-- The printed body's first part on those buffers. -/
abbrev p69 : Prog (Eff (F := F) i) (BitVec 32) := k1_part69 i wtM (Memref.isWhole_whole _) ixM (Memref.isWhole_whole _) outM (Memref.isWhole_whole _)
    idM (Memref.isWhole_whole _) pwM (Memref.isWhole_whole _) hwM (Memref.isWhole_whole _) rowM (Memref.isWhole_whole _)
    stgM (Memref.isWhole_whole _) cc1_scratch5 cc1_scratch6 cc1_scratch7 cc1_scratch8 cc1_scratch9 cc1_scoped0
/-- Its second part. -/
abbrev p70 (v2 : BitVec 32) : Prog (Eff (F := F) i) (BitVec 32) := k1_part70 i wtM (Memref.isWhole_whole _) ixM (Memref.isWhole_whole _) outM (Memref.isWhole_whole _)
    idM (Memref.isWhole_whole _) pwM (Memref.isWhole_whole _) hwM (Memref.isWhole_whole _) rowM (Memref.isWhole_whole _)
    stgM (Memref.isWhole_whole _) cc1_scratch5 cc1_scratch6 cc1_scratch7 cc1_scratch8 cc1_scratch9 cc1_scoped0 v2
/-- Its third part. -/
abbrev p71 (v2 c : BitVec 32) : Prog (Eff (F := F) i) PUnit := k1_part71 i wtM (Memref.isWhole_whole _) ixM (Memref.isWhole_whole _) outM (Memref.isWhole_whole _)
    idM (Memref.isWhole_whole _) pwM (Memref.isWhole_whole _) hwM (Memref.isWhole_whole _) rowM (Memref.isWhole_whole _)
    stgM (Memref.isWhole_whole _) cc1_scratch5 cc1_scratch6 cc1_scratch7 cc1_scratch8 cc1_scratch9 cc1_scoped0 v2 c

/-- The word the first part hands on: the tile's first position. -/
def firstW : BitVec 32 := Scalar.muli (Scalar.addi (Scalar.muli (BitVec.ofNat 32 (i 1).val) 2#32) (BitVec.ofNat 32 (i 0).val)) 512#32

set_option maxRecDepth 65536 in
/-- The first part in phases. -/
theorem p69_eq : p69 (F := F) i = (fetch i <| split i <| gather i 0 <| gather i 1 <| gather i 2 <| gather i 3 <| pure (firstW i)) := rfl
set_option maxRecDepth 65536 in
/-- The second part in phases. -/
theorem p70_eq (v2 : BitVec 32) : p70 (F := F) i v2 = (arrive i 0 <| picks i 0 <| send i 0 <| arrive i 1 <| picks i 1 <| send i 1 <|
    arrive i 2 <| pure 0#32) := rfl
set_option maxRecDepth 65536 in
/-- The third part in phases. -/
theorem p71_eq (v2 : BitVec 32) : p71 (F := F) i v2 0#32 = (picks i 2 <| send i 2 <| arrive i 3 <| picks i 3 <| send i 3 <|
    sent i 0 <| pure ⟨⟩) := rfl

section Bind
variable {α β : Type} (q : Fin 4) (k : Prog (Eff (F := F) i) α) (f : α → Prog (Eff (F := F) i) β)

/-! What follows a phase can be bound inside it. -/

theorem fetch_bind : fetch i k >>= f = fetch i (k >>= f) := by simp only [fetch, bind_assoc]
/-- What follows the split may stand inside it. -/
theorem split_bind : split i k >>= f = split i (k >>= f) := by simp only [split, bind_assoc]
/-- What follows a gather's start may stand inside it. -/
theorem gather_bind : gather i q k >>= f = gather i q (k >>= f) := by simp only [gather, bind_assoc]
/-- What follows a gather's end may stand inside it. -/
theorem arrive_bind : arrive i q k >>= f = arrive i q (k >>= f) := by simp only [arrive, bind_assoc]
/-- What follows the picks may stand inside them. -/
theorem picks_bind : picks i q k >>= f = picks i q (k >>= f) := by simp only [picks, bind_assoc]
/-- What follows a copy's start may stand inside it. -/
theorem send_bind : send i q k >>= f = send i q (k >>= f) := by simp only [send, bind_assoc]
/-- What follows a copy's end may stand inside it. -/
theorem sent_bind : sent i q k >>= f = sent i q (k >>= f) := by simp only [sent, bind_assoc]

end Bind

set_option maxRecDepth 65536 in
/-- The printed body is its three parts and the last three waits. -/
theorem body_parts : body (F := F) i = (p69 i >>= fun v2 => p70 i v2 >>= fun c => p71 i v2 c >>= fun _ =>
    sent i 1 <| sent i 2 <| sent i 3 <| pure ⟨⟩) := rfl

/-- The printed body is its phases. -/
theorem body_eq : body (F := F) i = phases i := by
  rw [body_parts, p69_eq]
  simp only [fetch_bind, split_bind, gather_bind, pure_bind, p70_eq, arrive_bind, picks_bind, send_bind, p71_eq, sent_bind, phases]

end Cert.KernelIdeal.Run
-- ==== Proof.Values.lean ====
/- What the arrays hold: the row and half words of an index, the wide table's rows, and the output, as functions of the
   two arguments. -/
module

public import proofs.«01_k».proof.Proof.Phases

@[expose] public section

noncomputable section

namespace Cert.KernelIdeal.Run

open Cert.KernelIdeal Cert.KernelIdeal.Gen Cert.KernelIdeal.Lanes
open Idealize.ShloMosaic

variable {F : FTy → Type}

/-! ## The row word and the half word of an index -/

/-- The row of the wide table an index is in, as the kernel computes it. -/
def pwOf (v : BitVec 32) : BitVec 32 :=
  IntOp.ori (IntOp.shli .vector (IntOp.shrsi .vector v 15#32) 14#32) (IntOp.andi (IntOp.andi v 32767#32) 16383#32)

/-- The half of the row an index is in, as the kernel computes it. -/
def hwOf (v : BitVec 32) : BitVec 32 := IntOp.andi (IntOp.shrsi .vector v 14#32) 1#32

/-- The row words computed, word by word. -/
theorem pay317_apply [FloatOps F] (v : Vec F S16 .i32) (x : S16.Idx) : k1_pay317 v x = pwOf (v x) := rfl
/-- The half words computed, word by word. -/
theorem pay318_apply [FloatOps F] (v : Vec F S16 .i32) (x : S16.Idx) : k1_pay318 v x = hwOf (v x) := rfl

/-- An arithmetic shift right of a word below a million is a division. -/
theorem shrsi_toNat (v : BitVec 32) (h : v.toNat < 1000000) (n : Nat) (hn : n < 32) :
    (IntOp.shrsi .vector v (BitVec.ofNat 32 n)).toNat = v.toNat / 2 ^ n := by
  have hm : (BitVec.ofNat 32 n).toNat = n := by rw [BitVec.toNat_ofNat]; omega
  have hmsb : v.msb = false := by rw [BitVec.msb_eq_false_iff_two_mul_lt]; omega
  unfold IntOp.shrsi
  rw [if_pos (by omega), BitVec.sshiftRight', hm, BitVec.sshiftRight_eq_of_msb_false hmsb, BitVec.toNat_ushiftRight, Nat.shiftRight_eq_div_pow]

/-- The row word as a number. -/
theorem pwOf_toNat (v : BitVec 32) (h : v.toNat < 1000000) :
    (pwOf v).toNat = v.toNat / 32768 * 16384 + v.toNat % 16384 := by
  have h1 : (IntOp.shli .vector (IntOp.shrsi .vector v 15#32) 14#32).toNat = (v.toNat / 32768) <<< 14 := by
    unfold IntOp.shli
    rw [if_pos (by decide), BitVec.shiftLeft_eq', BitVec.toNat_shiftLeft, shrsi_toNat v h 15 (by decide)]
    show (v.toNat / 2 ^ 15) <<< 14 % 2 ^ 32 = _
    rw [Nat.shiftLeft_eq, Nat.shiftLeft_eq]
    omega
  have h2 : (IntOp.andi (IntOp.andi v 32767#32) 16383#32).toNat = v.toNat % 16384 := by
    unfold IntOp.andi
    rw [BitVec.toNat_and, BitVec.toNat_and]
    show v.toNat &&& (2 ^ 15 - 1) &&& (2 ^ 14 - 1) = _
    rw [Nat.and_two_pow_sub_one_eq_mod, Nat.and_two_pow_sub_one_eq_mod]
    omega
  unfold pwOf IntOp.ori
  rw [BitVec.toNat_or, h1, h2, ← Nat.shiftLeft_add_eq_or_of_lt (by omega), Nat.shiftLeft_eq]

/-- The half word as a number. -/
theorem hwOf_toNat (v : BitVec 32) (h : v.toNat < 1000000) : (hwOf v).toNat = v.toNat / 16384 % 2 := by
  unfold hwOf IntOp.andi
  rw [BitVec.toNat_and, shrsi_toNat v h 14 (by decide)]
  exact Nat.and_one_is_mod _

/-! ## The arrays -/

/-- Every index names a column of the table. -/
def InRange (ix : S16384.Idx → BitVec 32) : Prop := ∀ x, (ix x).toNat < 1000000

/-- The wide table holds the table's columns as half rows: column `v` is the half `v / 16384 % 2` of row
    `v / 32768 * 16384 + v % 16384`. What it holds anywhere else is open. -/
def WideOf (W : S64x1000000.Idx → Elt F .f32) (g : S507904x128.Idx → Elt F .f32) : Prop :=
  ∀ (v c : Nat) (hv : v < 1000000) (hc : c < 64),
    g (at2 (v / 32768 * 16384 + v % 16384) (v / 16384 % 2 * 64 + c) (by omega) (by omega)) = W (at2 c v hc hv)

/-- The flat output: sixty-four words for each index, the table's column the index names. -/
def outOf (W : S64x1000000.Idx → Elt F .f32) (ix : S16384.Idx → BitVec 32) : S1048576.Idx → Elt F .f32 := fun p =>
  have hp : (p 0).val < 1048576 := (p 0).isLt
  W (at2 ((p 0).val % 64) ((ix (at1 ((p 0).val / 64) (by omega))).toNat % 1000000) (by omega) (by omega))

variable (i : grid1.Coords)

/-- The first index a tile handles. -/
def first : Nat := 1024 * (i 1).val + 512 * (i 0).val

/-- A tile's indices lie inside the indices. -/
theorem first_le : first i + 512 ≤ 16384 := by
  have h0 : (i 0).val < 2 := (i 0).isLt
  have h1 : (i 1).val < 16 := (i 1).isLt
  unfold first; omega

/-- Where the copy of a tile's indices begins. -/
theorem off1_eq : k1_off1 i = ![first i] := k1_off1_eq i
/-- Where the copy out of a quarter begins. -/
theorem off36_eq : ∀ (i : grid1.Coords) (q : Fin 4), k1_off36 i (BitVec.ofNat 32 (128 * q.val)) = ![64 * first i + 8192 * q.val] := by
  decide +kernel

/-- The indices a tile handles. -/
def idsOf (ix : S16384.Idx → BitVec 32) : S512.Idx → BitVec 32 := fun x =>
  have hx : (x 0).val < 512 := (x 0).isLt
  ix (at1 (first i + (x 0).val) (by have := first_le i; omega))

/-- Their row words. -/
def pwsOf (ix : S16384.Idx → BitVec 32) : S512.Idx → BitVec 32 := fun x => pwOf (idsOf i ix x)
/-- Their half words. -/
def hwsOf (ix : S16384.Idx → BitVec 32) : S512.Idx → BitVec 32 := fun x => hwOf (idsOf i ix x)

/-- A row word of an index in the range names a row of the wide table. -/
theorem pws_lt {ix : S16384.Idx → BitVec 32} (h : InRange ix) (x : S512.Idx) : (pwsOf i ix x).toNat < 507904 := by
  have := h (at1 (first i + (x 0).val) (by have hx : (x 0).val < 512 := (x 0).isLt; have := first_le i; omega))
  show (pwOf (ix _)).toNat < 507904
  rw [pwOf_toNat _ this]; omega

/-- A half word is 0 or 1. -/
theorem hws_lt {ix : S16384.Idx → BitVec 32} (h : InRange ix) (x : S512.Idx) : (hwsOf i ix x).toNat < 2 := by
  have := h (at1 (first i + (x 0).val) (by have hx : (x 0).val < 512 := (x 0).isLt; have := first_le i; omega))
  show (hwOf (ix _)).toNat < 2
  rw [hwOf_toNat _ this]; omega

/-- The rows a tile gathers. -/
def rowsOf (g : S507904x128.Idx → Elt F .f32) (ix : S16384.Idx → BitVec 32) : S512x128.Idx → Elt F .f32 := fun y =>
  g (at2 ((pwsOf i ix (at1 (y 0).val (y 0).isLt)).toNat % 507904) (y 1).val (by omega) (y 1).isLt)

/-- The halves picked out of the gathered rows are the tile's part of the output. -/
theorem pick_eq {W : S64x1000000.Idx → Elt F .f32} {g : S507904x128.Idx → Elt F .f32} (hg : WideOf W g)
    {ix : S16384.Idx → BitVec 32} (hix : InRange ix) (x : S32768.Idx) (p : S1048576.Idx)
    (hp : (p 0).val = 64 * first i + (x 0).val) :
    pick (hwsOf i ix) (rowsOf i g ix) x = outOf W ix p := by
  have hx : (x 0).val < 32768 := (x 0).isLt
  have hfi := first_le i
  have hpd : (p 0).val / 64 = first i + (x 0).val / 64 := by omega
  have hpm : (p 0).val % 64 = (x 0).val % 64 := by omega
  have hat : ∀ (n n' : Nat) (h : n < 16384) (h' : n' < 16384), n = n' → ix (at1 n h) = ix (at1 n' h') := by
    rintro n _ _ _ rfl; rfl
  have hv := hix (at1 ((p 0).val / 64) (by omega))
  have hids : idsOf i ix (at1 ((x 0).val / 64) (by omega)) = ix (at1 ((p 0).val / 64) (by omega)) :=
    hat _ _ _ _ hpd.symm
  have hpw : (pwsOf i ix (at1 ((x 0).val / 64) (by omega))).toNat = _ := congrArg BitVec.toNat (congrArg pwOf hids)
  have hhw : (hwsOf i ix (at1 ((x 0).val / 64) (by omega))).toNat = _ := congrArg BitVec.toNat (congrArg hwOf hids)
  rw [pwOf_toNat _ hv] at hpw
  rw [hwOf_toNat _ hv] at hhw
  refine Eq.trans ?_ ((hg _ _ hv (Nat.mod_lt ((p 0).val) (by decide : 0 < 64))).trans ?_)
  · refine congrArg g (funext fun a => ?_)
    match a with
    | ⟨0, _⟩ =>
      refine Fin.ext ?_
      show (pwsOf i ix (at1 ((x 0).val / 64) _)).toNat % 507904
        = (ix (at1 ((p 0).val / 64) _)).toNat / 32768 * 16384 + (ix (at1 ((p 0).val / 64) _)).toNat % 16384
      rw [hpw]; omega
    | ⟨1, _⟩ =>
      refine Fin.ext ?_
      show (hwsOf i ix (at1 ((x 0).val / 64) _)).toNat % 2 * 64 + (x 0).val % 64
        = (ix (at1 ((p 0).val / 64) _)).toNat / 16384 % 2 * 64 + (p 0).val % 64
      rw [hhw, hpm]; omega
  · refine congrArg W (funext fun a => ?_)
    match a with
    | ⟨0, _⟩ => rfl
    | ⟨1, _⟩ =>
      refine Fin.ext ?_
      show (ix (at1 ((p 0).val / 64) _)).toNat = (ix (at1 ((p 0).val / 64) _)).toNat % 1000000
      rw [Nat.mod_eq_of_lt hv]

end Cert.KernelIdeal.Run
-- ==== Proof.Tile.lean ====
/- The tile's phases, each as a rule: what it needs in hand and what the program after it may count on. -/
module

public import proofs.«01_k».proof.Proof.Values

@[expose] public section

noncomputable section

namespace Cert.KernelIdeal.Run

open Cert.KernelIdeal Cert.KernelIdeal.Gen Cert.KernelIdeal.Lanes
open Idealize.ShloMosaic Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable (d : Dev nD) (i : grid1.Coords)

/-! ## What the tile owes -/

/-- The tile still owes `O`; whatever waits it recorded past `W` are at no call's index. -/
abbrev owing (O : CellTallies nD τ sig (HIx 1)) (W : Waits sig (HIx 1)) : sProp (𝕄 F) :=
  iprop(∃ W', ⌜∀ p ∈ W', p ∈ W ∨ p.2 = none⌝ ∗ owes (tile i d) O W')

/-- The level facts let the tile wait on any semaphore at no call's index. -/
theorem mayWait {O : CellTallies nD τ sig (HIx 1)} (hO : ∀ g, O g none = 0) (sm : SemLoc sig) :
    (levAts (K (F := F)).L (K (F := F)).lev : sProp (𝕄 F)) ⊢ MayWait (tile i d) sm (default : HIx 1) O :=
  (K (F := F)).mayWait_none sm hO

/-- One more wait of the tile's own keeps the bound on its waits. -/
theorem owing_insert {O : CellTallies nD τ sig (HIx 1)} {W W' : Waits sig (HIx 1)} (h : ∀ p ∈ W', p ∈ W ∨ p.2 = none) (sm : SemLoc sig) :
    (owes (tile i d) O (insert (sm, (default : HIx 1)) W') : sProp (𝕄 F)) ⊢ owing d i O W := by
  iintro HO
  iexists _
  isplitr
  swap; · iexact HO
  ipureintro; intro p hp
  rcases Finset.mem_insert.mp hp with hp | hp
  · exact .inr (hp ▸ rfl)
  · exact h p hp

/-! ## The fetch of the indices -/

theorem ids_read (ix : S16384.Idx → BitVec 32) : (ixMi i).view.read (Elt F) ix = idsOf i ix := by
  funext x
  rw [View.read_apply, cast_eq]
  unfold idsOf
  refine congrArg ix (funext fun a => ?_)
  match a with
  | ⟨0, _⟩ =>
    refine Fin.ext ?_
    show (k1_off1 i) 0 + 1 * (x 0).val = first i + (x 0).val
    rw [off1_eq]; simp

/-- The fetch leaves the tile's indices in its buffer. -/
theorem wp_fetch {α : Type} (k : Prog (Eff (F := F) i) α) (Q : α → sProp (𝕄 F)) (ix : S16384.Idx → BitVec 32)
    (f : S512.Idx → BitVec 32) {O : CellTallies nD τ sig (HIx 1)} (hO : ∀ g, O g none = 0) (W : Waits sig (HIx 1)) :
    iprop(levAts (K (F := F)).L (K (F := F)).lev
        ∗ ((ixMi i).view.loc (tile i d) ↦[(ixR i).set]{fullShare} ix)
        ∗ ((tile i d).loc cc1_scratch0 ↦{fullShare} f) ∗ semVal (tile i d, SemLoc.dma fsem) 0 ∗ owing d i O W
        ∗ (((ixMi i).view.loc (tile i d) ↦[(ixR i).set]{fullShare} ix) -∗ ((tile i d).loc cc1_scratch0 ↦{fullShare} idsOf i ix)
            -∗ semVal (tile i d, SemLoc.dma fsem) 0 -∗ owing d i O W
            -∗ wp frame (wpE (defs₀ (F := F)) 𝒱₀ (tile i d) none) Set.univ k Q))
      ⊢ wp frame (wpE (defs₀ (F := F)) 𝒱₀ (tile i d) none) Set.univ (fetch i k) Q := by
  have hs : (ixMi i).view.set = (ixR i).set := View.set_slice_whole _ _
  have hd : idM.view.set = Finset.univ := View.set_whole _
  rw [← hs]
  unfold fetch
  iintro ⟨#Hlv, Hix, Hid, Hsem, ⟨%W', %hW, HO⟩, Hk⟩
  iapply (Transfers.wp_dmaLocal countersEmb 𝒱₀ (tile i d) none (default : HIx 1) (src := ixMi i) (dst := idM) (idM.view.amount (.dma fsem)) rfl (by decide) (Finset.subset_univ _)) $$ [Hix Hid Hsem]
  · isplitl [Hix]; · iexact Hix
    isplitl [Hid]; · iexact Hid
    iexact Hsem
  iintro Hfl
  iapply (Transfers.wp_waitLocalO countersEmb 𝒱₀ (tile i d) none (default : HIx 1) (dstw := idM) rfl) $$ [Hfl HO]
  · isplitl [Hfl]; · iexact Hfl
    isplitl [HO]; · iexact HO
    iapply (mayWait d i hO) $$ Hlv
  iintro ⟨⟨Hid, Hix⟩, Hsem, HO⟩
  iapply Hk $$ Hix [Hid] Hsem [HO]
  · rw [View.write_whole_univ, ← ids_read (F := F) i ix]; iexact Hid
  · iapply (owing_insert d i hW _) $$ HO

/-! ## The split into row and half words -/

/-- Before trip `k` of the splitting loop the first `16 k` words are in place. -/
def splitInv (ix : S16384.Idx → BitVec 32) (n : Nat) : sProp (𝕄 F) :=
  iprop(((tile i d).loc cc1_scratch0 ↦{fullShare} idsOf i ix)
    ∗ (∃ f : S512.Idx → BitVec 32, ⌜∀ x, (x 0).val < 16 * n → f x = pwsOf i ix x⌝ ∗ (tile i d).loc cc1_scratch1 ↦{fullShare} f)
    ∗ (∃ f : S512.Idx → BitVec 32, ⌜∀ x, (x 0).val < 16 * n → f x = hwsOf i ix x⌝ ∗ (tile i d).loc cc1_scratch2 ↦{fullShare} f))

/-- Trip `k` of the first loop begins at index `16 k`. -/
theorem off2_eq : ∀ k : Fin k1_t1_loop.trips, k1_off2 k = ![16 * k.val] := by decide +kernel

/-- Storing sixteen words computed elementwise from sixteen read carries the part in place sixteen words on. -/
theorem store_prefix (k : Fin k1_t1_loop.trips)
    (w : S16.Idx → BitVec 32) (fw : S512.Idx → BitVec 32) (f : S512.Idx → BitVec 32)
    (hw : ∀ (x : S16.Idx) hn, w x = fw (at1 (16 * k.val + (x 0).val) hn))
    (hf : ∀ x, (x 0).val < 16 * k.val → f x = fw x)
    (x : S512.Idx) (hx : (x 0).val < 16 * (k.val + 1)) :
    (pwM.access (Rect.unit (s := S512) (k1_off2 k) S16.size (k1_off2_inb k))).write (Elt F) f w Finset.univ x = fw x := by
  by_cases hlt : (x 0).val < 16 * k.val
  · rw [View.write_of_not_mem, hf x hlt]
    intro hm
    rw [View.setOn_univ, View.set_slice_whole, Rect.mem_set_unit] at hm
    have := (hm 0).1
    rw [off2_eq] at this
    simp at this
    omega
  · have hy : (x 0).val - 16 * k.val < 16 := by omega
    have e : x = (pwM.access (Rect.unit (s := S512) (k1_off2 k) S16.size (k1_off2_inb k))).emb (at1 ((x 0).val - 16 * k.val) hy) := by
      funext a
      match a with
      | ⟨0, _⟩ =>
        refine Fin.ext ?_
        show (x 0).val = (k1_off2 k) 0 + 1 * ((x 0).val - 16 * k.val)
        rw [off2_eq]; simp; omega
    conv_lhs => rw [e]
    rw [View.write_emb_of_mem _ _ (Finset.mem_univ _), cast_eq]
    have hx' : (x 0).val < 512 := (x 0).isLt
    rw [hw _ (by show 16 * k.val + ((x 0).val - 16 * k.val) < 512; omega)]
    refine congrArg fw (funext fun a => ?_)
    match a with
    | ⟨0, _⟩ =>
      refine Fin.ext ?_
      show 16 * k.val + ((x 0).val - 16 * k.val) = (x 0).val
      omega

/-- The sixteen indices that a trip of the first loop reads. -/
theorem ids_load (ix : S16384.Idx → BitVec 32) (k : Fin k1_t1_loop.trips) (x : S16.Idx) (hn) :
    (idM.access (Rect.unit (s := S512) (k1_off2 k) S16.size (k1_off2_inb k))).read (Elt F) (idsOf i ix) x
      = idsOf i ix (at1 (16 * k.val + (x 0).val) hn) := by
  rw [View.read_apply, cast_eq]
  refine congrArg (idsOf i ix) (funext fun a => ?_)
  match a with
  | ⟨0, _⟩ =>
    refine Fin.ext ?_
    show (k1_off2 k) 0 + 1 * (x 0).val = 16 * k.val + (x 0).val
    rw [off2_eq]; simp

/-- A finished program hands its word to what follows. -/
theorem wp_last {α : Type} (x : α) (Q : α → sProp (𝕄 F)) :
    Q x ⊢ wp frame (wpE (defs₀ (F := F)) 𝒱₀ (tile i d) none) Set.univ ((Prog.ret PUnit.unit : Prog (Eff (F := F) i) PUnit).bind fun _ => pure x) Q := by
  show Q x ⊢ wp frame (wpE (defs₀ (F := F)) 𝒱₀ (tile i d) none) Set.univ (pure x) Q
  rw [wp_pure]
  iintro H
  imodintro
  iexact H

/-- One trip of the splitting loop. -/
theorem wp_splitTrip (ix : S16384.Idx → BitVec 32) (k : Fin k1_t1_loop.trips) :
    splitInv (F := F) d i ix k.val
      ⊢ wp frame (wpE (defs₀ (F := F)) 𝒱₀ (tile i d) none) Set.univ (splitTrip i k) fun _ => splitInv d i ix (k.val + 1) := by
  unfold splitTrip splitInv
  iintro ⟨Hid, ⟨%f, %hf, Hp⟩, ⟨%f', %hf', Hh⟩⟩
  iapply (wp_load_rect 𝒱₀ (tile i d) none Set.univ (m := idM) (r := Rect.unit (s := S512) (k1_off2 k) S16.size (k1_off2_inb k))
    (S := Finset.univ) (Finset.subset_univ _)) $$ Hid
  iintro Hid
  iapply (wp_load_rect 𝒱₀ (tile i d) none Set.univ (m := pwM) (r := Rect.unit (s := S512) (k1_off2 k) S16.size (k1_off2_inb k))
    (S := Finset.univ) (Finset.subset_univ _)) $$ Hp
  iintro Hp
  iapply (wp_store 𝒱₀ (tile i d) none Set.univ (m := pwM) (r := Rect.unit (s := S512) (k1_off2 k) S16.size (k1_off2_inb k))
    (S := Finset.univ) (Finset.subset_univ _)) $$ Hp
  iintro Hp
  iapply (wp_load_rect 𝒱₀ (tile i d) none Set.univ (m := hwM) (r := Rect.unit (s := S512) (k1_off2 k) S16.size (k1_off2_inb k))
    (S := Finset.univ) (Finset.subset_univ _)) $$ Hh
  iintro Hh
  iapply (wp_store 𝒱₀ (tile i d) none Set.univ (m := hwM) (r := Rect.unit (s := S512) (k1_off2 k) S16.size (k1_off2_inb k))
    (S := Finset.univ) (Finset.subset_univ _)) $$ Hh
  iintro Hh
  iapply (wp_last d i 0#32 _)
  isplitl [Hid]; · iexact Hid
  isplitl [Hp]
  · iexists _
    isplitr
    swap; · iexact Hp
    ipureintro
    exact store_prefix k _ (pwsOf i ix) f (fun x hn => (pay317_apply _ x).trans (congrArg pwOf (ids_load i ix k x hn))) hf
  · iexists _
    isplitr
    swap; · iexact Hh
    ipureintro
    exact store_prefix k _ (hwsOf i ix) f' (fun x hn => (pay318_apply _ x).trans (congrArg hwOf (ids_load i ix k x hn))) hf'

/-- The splitting loop leaves the row words and the half words of the tile's indices. -/
theorem wp_split {α : Type} (k : Prog (Eff (F := F) i) α) (Q : α → sProp (𝕄 F)) (ix : S16384.Idx → BitVec 32)
    (f f' : S512.Idx → BitVec 32) :
    iprop(((tile i d).loc cc1_scratch0 ↦{fullShare} idsOf i ix)
        ∗ ((tile i d).loc cc1_scratch1 ↦{fullShare} f) ∗ ((tile i d).loc cc1_scratch2 ↦{fullShare} f')
        ∗ (((tile i d).loc cc1_scratch0 ↦{fullShare} idsOf i ix)
            -∗ ((tile i d).loc cc1_scratch1 ↦{fullShare} pwsOf i ix) -∗ ((tile i d).loc cc1_scratch2 ↦{fullShare} hwsOf i ix)
            -∗ wp frame (wpE (defs₀ (F := F)) 𝒱₀ (tile i d) none) Set.univ k Q))
      ⊢ wp frame (wpE (defs₀ (F := F)) 𝒱₀ (tile i d) none) Set.univ (split i k) Q := by
  have ht : Scf.trips k1_t1_loop.lb k1_t1_loop.ub k1_t1_loop.st = 32 := by decide
  unfold split
  iintro ⟨Hid, Hp, Hh, Hk⟩
  iapply (Scf.wp_for_bind frame (wpE (defs₀ (F := F)) 𝒱₀ (tile i d) none) Set.univ k1_t1_loop.lb k1_t1_loop.ub k1_t1_loop.st k1_t1_ok 0#32
    (fun k _ => splitTrip i k) (fun n _ => splitInv d i ix n) (fun k _ => wp_splitTrip d i ix k)) $$ [Hid Hp Hh]
  · unfold splitInv
    isplitl [Hid]; · iexact Hid
    isplitl [Hp]
    · iexists f
      isplitr
      · ipureintro; intro x hx; omega
      iexact Hp
    · iexists f'
      isplitr
      · ipureintro; intro x hx; omega
      iexact Hh
  iintro %acc HI
  rw [ht]
  unfold splitInv
  icases HI with ⟨Hid, ⟨%g, %hg, Hp⟩, ⟨%g', %hg', Hh⟩⟩
  obtain rfl : g = pwsOf i ix := funext fun x => hg x (x 0).isLt
  obtain rfl : g' = hwsOf i ix := funext fun x => hg' x (x 0).isLt
  iapply Hk $$ Hid Hp Hh

/-! ## The gathers -/

/-- What a quarter's gather delivers: its rows, and what it read handed back. -/
abbrev gathered (q : Fin 4) (r : PosShare TreeShare) (g : S507904x128.Idx → Elt F .f32) (ix : S16384.Idx → BitVec 32) : sProp (𝕄 F) :=
  iprop(((tile i d).loc cc1_scratch3 ↦[(rowQ q).set]{fullShare} rowsOf i g ix)
    ∗ (wtAll.view.loc (tile i d) ↦[wtAll.view.set]{r} g)
    ∗ ((tile i d).loc cc1_scratch1 ↦[(pwQ q).set]{fullShare} pwsOf i ix))

/-- What a quarter's gather credits its semaphore with. -/
abbrev gatherN : Nat := (rowMq 0).view.dmaCredit

/-- What a gathered quarter pays its semaphore. -/
theorem gather_credit : ∀ q : Fin 4,
    ∑ j, ((rowMq q).slice (S128x128.rowRect gathers_S507904x128_S128x128.axis' j) (S128x128.stride_rowRect gathers_S507904x128_S128x128.axis' j)).view.dmaCredit = gatherN := by
  decide +kernel

/-- The row words that the gather of a quarter reads. -/
theorem pws_read (q : Fin 4) (f : S512.Idx → BitVec 32) (x : S128.Idx) (hn) :
    (pwMq q).view.read (Elt F) f x = f (at1 (128 * q.val + (x 0).val) hn) := by
  rw [View.read_apply, cast_eq]
  refine congrArg f (funext fun a => ?_)
  match a with
  | ⟨0, _⟩ =>
    refine Fin.ext ?_
    show (![128 * q.val] : Fin 1 → Nat) 0 + 1 * (x 0).val = 128 * q.val + (x 0).val
    simp

/-- Each of them names a row of the wide table. -/
theorem pws_in {ix : S16384.Idx → BitVec 32} (hix : InRange ix) (q : Fin 4) (x : S128.Idx) :
    ((pwMq q).view.read (Elt F) (pwsOf i ix) x).toNat < S507904x128.size gathers_S507904x128_S128x128.axis := by
  have hx : (x 0).val < 128 := (x 0).isLt
  have hq := q.isLt
  rw [pws_read (F := F) q _ x (by omega)]
  exact pws_lt i hix _

/-- Reading the whole wide table reads what it holds. -/
theorem wt_read (g : S507904x128.Idx → Elt F .f32) : wtAll.view.read (Elt F) g = g := by
  funext x
  rw [View.read_apply, cast_eq]
  refine congrArg g (funext fun a => ?_)
  match a with
  | ⟨0, _⟩ => exact Fin.ext (show 0 + 1 * (x 0).val = (x 0).val by omega)
  | ⟨1, _⟩ => exact Fin.ext (show 0 + 1 * (x 1).val = (x 1).val by omega)

/-- A quarter written with its gather's words holds the tile's rows there. -/
theorem gather_rows (q : Fin 4) (g : S507904x128.Idx → Elt F .f32) {ix : S16384.Idx → BitVec 32} (hix : InRange ix)
    (f : S512x128.Idx → Elt F .f32) : ∀ y ∈ (rowQ q).set,
    (rowMq q).view.write (Elt F) f (SparseCore.gatherPayload gathers_S507904x128_S128x128 (wtAll.view.read (Elt F) g)
      (SparseCore.rows ((pwMq q).view.read (Elt F) (pwsOf i ix)) rfl (pws_in (F := F) i hix q))) Finset.univ y = rowsOf i g ix y := by
  intro y hy
  rw [Rect.mem_set_unit] at hy
  have h0 : 128 * q.val ≤ (y 0).val ∧ (y 0).val < 128 * q.val + 128 := hy 0
  have h1 : (y 1).val < 128 := (y 1).isLt
  have e : y = (rowMq q).view.emb (at2 ((y 0).val - 128 * q.val) (y 1).val (by omega) h1) := by
    funext a
    match a with
    | ⟨0, _⟩ =>
      refine Fin.ext ?_
      show (y 0).val = 128 * q.val + 1 * ((y 0).val - 128 * q.val)
      omega
    | ⟨1, _⟩ =>
      refine Fin.ext ?_
      show (y 1).val = 0 + 1 * (y 1).val
      omega
  conv_lhs => rw [e]
  rw [View.write_emb_of_mem _ _ (Finset.mem_univ _), cast_eq, wt_read]
  unfold SparseCore.gatherPayload rowsOf
  refine congrArg g (funext fun a => ?_)
  match a with
  | ⟨0, _⟩ =>
    refine Fin.ext ?_
    refine (congrArg Fin.val (Shape.Gathers.idx_axis gathers_S507904x128_S128x128 _ _)).trans ?_
    show (((pwMq q).view.read (Elt F) (pwsOf i ix)) _).toNat = (pwsOf i ix (at1 (y 0).val _)).toNat % 507904
    rw [Nat.mod_eq_of_lt (pws_lt i hix _)]
    have hs : (S128.rowMajor.symm ((at2 ((y 0).val - 128 * q.val) (y 1).val (by omega) h1 : S128x128.Idx) 0) 0).val = (y 0).val - 128 * q.val := by
      rw [← Shape.rowMajor_val_one]
      exact congrArg Fin.val (Equiv.apply_symm_apply _ _)
    refine (congrArg BitVec.toNat (pws_read (F := F) q (pwsOf i ix) _ ?_)).trans
      (congrArg (fun v => (pwsOf i ix v).toNat) (funext fun b => ?_))
    · have := (y 0).isLt
      have h2 : (y 0).val < 512 := (y 0).isLt
      exact lt_of_eq_of_lt (congrArg (128 * q.val + ·) hs) (by omega)
    · match b with
      | ⟨0, _⟩ => exact Fin.ext ((congrArg (128 * q.val + ·) hs).trans (show 128 * q.val + ((y 0).val - 128 * q.val) = (y 0).val by omega))
  | ⟨1, _⟩ =>
    refine Fin.ext ?_
    exact Shape.Gathers.idx_of_ne gathers_S507904x128_S128x128 _ _ ⟨1, by decide⟩ (by decide)

/-- The gather of a quarter's rows: the table's share and the row words are lent to it until it is waited for. -/
theorem wp_gather {α : Type} (q : Fin 4) (k : Prog (Eff (F := F) i) α) (Q : α → sProp (𝕄 F)) (r : PosShare TreeShare)
    (g : S507904x128.Idx → Elt F .f32) {ix : S16384.Idx → BitVec 32} (hix : InRange ix) (f : S512x128.Idx → Elt F .f32) :
    iprop((wtAll.view.loc (tile i d) ↦[wtAll.view.set]{r} g)
        ∗ ((tile i d).loc cc1_scratch3 ↦[(rowQ q).set]{fullShare} f)
        ∗ ((tile i d).loc cc1_scratch1 ↦[(pwQ q).set]{fullShare} pwsOf i ix)
        ∗ semVal (tile i d, SemLoc.dma (gsem q)) 0
        ∗ (Transfers.Flight countersEmb (tile i d) (.dma (gsem q)) (default : HIx 1) gatherN (gathered d i q r g ix)
            -∗ wp frame (wpE (defs₀ (F := F)) 𝒱₀ (tile i d) none) Set.univ k Q))
      ⊢ wp frame (wpE (defs₀ (F := F)) 𝒱₀ (tile i d) none) Set.univ (gather i q k) Q := by
  have hr : (rowMq q).view.set = (rowQ q).set := View.set_slice_whole _ _
  have hp : (pwMq q).view.set = (pwQ q).set := View.set_slice_whole _ _
  unfold gather
  iintro ⟨Hw, Hr, Hp, Hs, Hk⟩
  iapply (SparseCore.wp_indirectGatherLocal countersEmb 𝒱₀ (tile i d) none (src := wtAll) (dst := rowMq q) (hg := gathers_S507904x128_S128x128)
    (offs := pwMq q) (hn := rfl) (sem := gsem q) (q := r) (qo := fullShare) (fs := g) (fd := f) (fo := pwsOf i ix)
    (default : HIx 1) gatherN (gather_credit q) (by decide) (pws_in i hix q)) $$ [Hw Hr Hp Hs]
  · rw [hr, hp]
    isplitl [Hw]; · iexact Hw
    isplitl [Hr]; · iexact Hr
    isplitl [Hp]; · iexact Hp
    iexact Hs
  iintro Hf
  iapply Hk
  iapply (Transfers.Flight_mono countersEmb (tile i d) ?_) $$ Hf
  rw [hr, hp, pointsTo_congr (gather_rows i q g hix f)]

/-- The wait for a quarter's gather hands over what it delivers. -/
theorem wp_arrive {α : Type} (q : Fin 4) (k : Prog (Eff (F := F) i) α) (Q : α → sProp (𝕄 F)) (G : sProp (𝕄 F))
    {O : CellTallies nD τ sig (HIx 1)} (hO : ∀ g, O g none = 0) (W : Waits sig (HIx 1)) :
    iprop(levAts (K (F := F)).L (K (F := F)).lev
        ∗ Transfers.Flight countersEmb (tile i d) (.dma (gsem q)) (default : HIx 1) gatherN G
        ∗ owing d i O W
        ∗ (G -∗ semVal (tile i d, SemLoc.dma (gsem q)) 0 -∗ owing d i O W
            -∗ wp frame (wpE (defs₀ (F := F)) 𝒱₀ (tile i d) none) Set.univ k Q))
      ⊢ wp frame (wpE (defs₀ (F := F)) 𝒱₀ (tile i d) none) Set.univ (arrive i q k) Q := by
  unfold arrive
  iintro ⟨#Hlv, Hfl, ⟨%W', %hW, HO⟩, Hk⟩
  iapply (Transfers.wp_waitLocalO countersEmb 𝒱₀ (tile i d) none (default : HIx 1) (dstw := rowMq q) (show (rowMq q).view.dmaCredit = gatherN by revert q; decide)) $$ [Hfl HO]
  · isplitl [Hfl]; · iexact Hfl
    isplitl [HO]; · iexact HO
    iapply (mayWait d i hO) $$ Hlv
  iintro ⟨HG, Hsem, HO⟩
  iapply Hk $$ HG Hsem [HO]
  iapply (owing_insert d i hW _) $$ HO

/-! ## Picking the halves out -/

/-- The eight trips over a quarter fill its part of the stage. -/
theorem wp_picks {α : Type} (q : Fin 4) (k : Prog (Eff (F := F) i) α) (Q : α → sProp (𝕄 F)) (H : S512.Idx → BitVec 32)
    (R : S512x128.Idx → Elt F .f32) (hH : ∀ x, (H x).toNat < 2) (f : S32768.Idx → Elt F .f32) :
    iprop(((tile i d).loc cc1_scratch2 ↦{fullShare} H) ∗ ((tile i d).loc cc1_scratch3 ↦[(rowQ q).set]{fullShare} R)
        ∗ ((tile i d).loc cc1_scratch4 ↦[(stgQ q).set]{fullShare} f)
        ∗ (((tile i d).loc cc1_scratch2 ↦{fullShare} H) -∗ ((tile i d).loc cc1_scratch3 ↦[(rowQ q).set]{fullShare} R)
            -∗ ((tile i d).loc cc1_scratch4 ↦[(stgQ q).set]{fullShare} pick H R)
            -∗ wp frame (wpE (defs₀ (F := F)) 𝒱₀ (tile i d) none) Set.univ k Q))
      ⊢ wp frame (wpE (defs₀ (F := F)) 𝒱₀ (tile i d) none) Set.univ (picks i q k) Q := by
  have ht : Scf.trips k1_t2_loop.lb k1_t2_loop.ub k1_t2_loop.st = 8 := by decide
  unfold picks
  iintro ⟨Hh, Hr, Hs, Hk⟩
  iapply (Scf.wp_for_bind frame (wpE (defs₀ (F := F)) 𝒱₀ (tile i d) none) Set.univ k1_t2_loop.lb k1_t2_loop.ub k1_t2_loop.st k1_t2_ok 0#32
    (fun k _ => Lanes.trip i hwM rowM stgM q k)
    (fun n _ => iprop(((tile i d).loc cc1_scratch2 ↦{fullShare} H) ∗ ((tile i d).loc cc1_scratch3 ↦[(rowQ q).set]{fullShare} R)
      ∗ filled d i q H R (64 * (128 * q.val + 16 * n)))) (fun k _ => wp_trip d i q k H R hH)) $$ [Hh Hr Hs]
  · isplitl [Hh]; · iexact Hh
    isplitl [Hr]; · iexact Hr
    unfold filled
    iexists f
    isplitr
    · ipureintro; intro x h1 h2; omega
    iexact Hs
  iintro %acc HI
  rw [ht]
  unfold filled
  icases HI with ⟨Hh, Hr, %g, %hg, Hs⟩
  have e : ∀ x ∈ (stgQ q).set, g x = pick H R x := by
    intro x hx
    rw [Rect.mem_set_unit] at hx
    have h0 : 8192 * q.val ≤ (x 0).val ∧ (x 0).val < 8192 * q.val + 8192 := hx 0
    exact hg x h0.1 (by omega)
  ihave Hs := (Entails.of_eq (pointsTo_congr (ℓ := (tile i d).loc cc1_scratch4) e)) $$ Hs
  iapply Hk $$ Hh Hr Hs

/-! ## Sending the quarters -/

/-- What a quarter's copy out delivers: its part of the output, and its part of the stage handed back. -/
abbrev delivered (W : S64x1000000.Idx → Elt F .f32) (ix : S16384.Idx → BitVec 32) (T : S32768.Idx → Elt F .f32) (q : Fin 4) : sProp (𝕄 F) :=
  iprop((outM.view.loc (tile i d) ↦[(outQ i q).set]{fullShare} outOf W ix)
    ∗ ((tile i d).loc cc1_scratch4 ↦[(stgQ q).set]{fullShare} T))

/-- What a quarter's copy out credits the semaphore with. -/
abbrev sendN : Nat := (stgMq 0).view.dmaCredit

/-- The copies out of the first `j` quarters are under way, and `u` of their credit is waited for. -/
abbrev sending (W : S64x1000000.Idx → Elt F .f32) (ix : S16384.Idx → BitVec 32) (T : S32768.Idx → Elt F .f32) (j u : Nat) : sProp (𝕄 F) :=
  Transfers.Batch countersEmb (tile i d) (.dma osem) (default : HIx 1) sendN (delivered d i W ix T) j u

/-- A quarter's part of the output written with its part of the stage. -/
theorem send_out (q : Fin 4) {W : S64x1000000.Idx → Elt F .f32} {ix : S16384.Idx → BitVec 32} {T : S32768.Idx → Elt F .f32}
    (hT : ∀ (x : S32768.Idx) (p : S1048576.Idx), (p 0).val = 64 * first i + (x 0).val → T x = outOf W ix p)
    (f : S1048576.Idx → Elt F .f32) : ∀ p ∈ (outQ i q).set,
    (outMq i q).view.write (Elt F) f ((stgMq q).view.read (Elt F) T) Finset.univ p = outOf W ix p := by
  intro p hp
  rw [Rect.mem_set_unit] at hp
  have h0 := hp 0
  rw [off36_eq] at h0
  have h0 : 64 * first i + 8192 * q.val ≤ (p 0).val ∧ (p 0).val < 64 * first i + 8192 * q.val + 8192 := h0
  have e : p = (outMq i q).view.emb (at1 ((p 0).val - (64 * first i + 8192 * q.val)) (by omega)) := by
    funext a
    match a with
    | ⟨0, _⟩ =>
      refine Fin.ext ?_
      show (p 0).val = (k1_off36 i (BitVec.ofNat 32 (128 * q.val))) 0 + 1 * ((p 0).val - (64 * first i + 8192 * q.val))
      rw [off36_eq]
      show (p 0).val = 64 * first i + 8192 * q.val + 1 * ((p 0).val - (64 * first i + 8192 * q.val))
      omega
  conv_lhs => rw [e]
  rw [View.write_emb_of_mem _ _ (Finset.mem_univ _), cast_eq, View.read_apply, cast_eq]
  refine hT _ p ?_
  show (p 0).val = 64 * first i + (8192 * q.val + 1 * ((p 0).val - (64 * first i + 8192 * q.val)))
  omega

/-- The copy out of a quarter. -/
theorem wp_send {α : Type} (q : Fin 4) (k : Prog (Eff (F := F) i) α) (Q : α → sProp (𝕄 F)) {W : S64x1000000.Idx → Elt F .f32}
    {ix : S16384.Idx → BitVec 32} {T : S32768.Idx → Elt F .f32}
    (hT : ∀ (x : S32768.Idx) (p : S1048576.Idx), (p 0).val = 64 * first i + (x 0).val → T x = outOf W ix p)
    (f : S1048576.Idx → Elt F .f32) :
    iprop(((tile i d).loc cc1_scratch4 ↦[(stgQ q).set]{fullShare} T)
        ∗ (outM.view.loc (tile i d) ↦[(outQ i q).set]{fullShare} f)
        ∗ sending d i W ix T q.val 0
        ∗ (sending d i W ix T (q.val + 1) 0 -∗ wp frame (wpE (defs₀ (F := F)) 𝒱₀ (tile i d) none) Set.univ k Q))
      ⊢ wp frame (wpE (defs₀ (F := F)) 𝒱₀ (tile i d) none) Set.univ (send i q k) Q := by
  have hs : (stgMq q).view.set = (stgQ q).set := View.set_slice_whole _ _
  have ho : (outMq i q).view.set = (outQ i q).set := View.set_slice_whole _ _
  unfold send
  iintro ⟨Hs, Ho, Hb, Hk⟩
  iapply (Transfers.wp_dmaBatch countersEmb 𝒱₀ (tile i d) none (src := stgMq q) (dst := outMq i q) (sm := .dma osem) (q := fullShare) (fs := T)
    (Sd := (outQ i q).set) (fd := f) (D := delivered d i W ix T) (j := q.val) (u := 0) (default : HIx 1) sendN
    (show (outMq i q).view.amount (.dma osem) = sendN by rfl) (Finset.subset_of_eq ho) q.isLt (Nat.zero_le _) ?_) $$ [Hs Ho Hb]
  · rw [pointsTo_congr (send_out i q hT f), hs]
  · rw [hs]
    isplitl [Hs]; · iexact Hs
    isplitl [Ho]; · iexact Ho
    iexact Hb
  iexact Hk

/-- A wait for a copy out that is not the last. -/
theorem wp_sent {α : Type} (q : Fin 4) (hq : q.val < 3) (k : Prog (Eff (F := F) i) α) (Q : α → sProp (𝕄 F)) {W : S64x1000000.Idx → Elt F .f32}
    {ix : S16384.Idx → BitVec 32} {T : S32768.Idx → Elt F .f32}
    {O : CellTallies nD τ sig (HIx 1)} (hO : ∀ g, O g none = 0) (Ws : Waits sig (HIx 1)) :
    iprop(levAts (K (F := F)).L (K (F := F)).lev
        ∗ sending d i W ix T 4 (sendN * q.val) ∗ owing d i O Ws
        ∗ (sending d i W ix T 4 (sendN * (q.val + 1)) -∗ owing d i O Ws
            -∗ wp frame (wpE (defs₀ (F := F)) 𝒱₀ (tile i d) none) Set.univ k Q))
      ⊢ wp frame (wpE (defs₀ (F := F)) 𝒱₀ (tile i d) none) Set.univ (sent i q k) Q := by
  unfold sent
  iintro ⟨#Hlv, Hb, ⟨%W', %hW, HO⟩, Hk⟩
  iapply (Transfers.wp_waitBatchO countersEmb 𝒱₀ (tile i d) none (dstw := outMq i q) (default : HIx 1) (N := sendN) rfl (D := delivered d i W ix T)
    (u := sendN * q.val) (show sendN * q.val + sendN < sendN * 4 by revert q; decide)) $$ [Hb HO]
  · isplitl [Hb]; · iexact Hb
    isplitl [HO]; · iexact HO
    iapply (mayWait d i hO) $$ Hlv
  iintro ⟨Hb, HO⟩
  iapply Hk $$ Hb [HO]
  iapply (owing_insert d i hW _) $$ HO

/-- The last wait: every quarter is delivered. -/
theorem wp_sentLast {α : Type} (k : Prog (Eff (F := F) i) α) (Q : α → sProp (𝕄 F)) {W : S64x1000000.Idx → Elt F .f32}
    {ix : S16384.Idx → BitVec 32} {T : S32768.Idx → Elt F .f32}
    {O : CellTallies nD τ sig (HIx 1)} (hO : ∀ g, O g none = 0) (Ws : Waits sig (HIx 1)) :
    iprop(levAts (K (F := F)).L (K (F := F)).lev
        ∗ sending d i W ix T 4 (sendN * 3) ∗ owing d i O Ws
        ∗ (bigSep Finset.univ (delivered d i W ix T) -∗ semVal (tile i d, SemLoc.dma osem) 0 -∗ owing d i O Ws
            -∗ wp frame (wpE (defs₀ (F := F)) 𝒱₀ (tile i d) none) Set.univ k Q))
      ⊢ wp frame (wpE (defs₀ (F := F)) 𝒱₀ (tile i d) none) Set.univ (sent i 3 k) Q := by
  unfold sent
  iintro ⟨#Hlv, Hb, ⟨%W', %hW, HO⟩, Hk⟩
  iapply (Transfers.wp_waitBatchLastO countersEmb 𝒱₀ (tile i d) none (dstw := outMq i 3) (default : HIx 1) (N := sendN) rfl (by decide) (D := delivered d i W ix T)
    (u := sendN * 3) (by decide)) $$ [Hb HO]
  · isplitl [Hb]; · iexact Hb
    isplitl [HO]; · iexact HO
    iapply (mayWait d i hO) $$ Hlv
  iintro ⟨HD, Hsem, HO⟩
  iapply Hk $$ HD Hsem [HO]
  iapply (owing_insert d i hW _) $$ HO

end Cert.KernelIdeal.Run
-- ==== Proof.Body.lean ====
/- A tile's task: what it is handed, what it hands back, and the body's run from the one to the other. -/
module

public import proofs.«01_k».proof.Proof.Tile

@[expose] public section

noncomputable section

namespace Cert.KernelIdeal.Run

open Cert.KernelIdeal Cert.KernelIdeal.Gen Cert.KernelIdeal.Lanes
open Idealize.ShloMosaic Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## Families taken apart -/

/-- A family over four is its four members. -/
theorem four (Φ : Fin 4 → sProp (𝕄 F)) : bigSep Finset.univ Φ = iprop(Φ 0 ∗ Φ 1 ∗ Φ 2 ∗ Φ 3) := by
  rw [bigSep_univ_succ, bigSep_univ_succ, bigSep_univ_succ, BI.bigSep_univ_of_subsingleton (0 : Fin 1)]
  rfl

/-- A separating product over five things, written out. -/
theorem five (Φ : Fin 5 → sProp (𝕄 F)) : bigSep Finset.univ Φ = iprop(Φ 0 ∗ Φ 1 ∗ Φ 2 ∗ Φ 3 ∗ Φ 4) := by
  rw [bigSep_univ_succ, four]
  rfl

/-- A separating product over six things, written out. -/
theorem six (Φ : Fin 6 → sProp (𝕄 F)) : bigSep Finset.univ Φ = iprop(Φ 0 ∗ Φ 1 ∗ Φ 2 ∗ Φ 3 ∗ Φ 4 ∗ Φ 5) := by
  rw [bigSep_univ_succ, five]
  rfl

/-- A family over a set is its members at some named places and the rest. -/
theorem named {I : Type} [DecidableEq I] {n : Nat} (S : Finset I) (φ : Fin n ↪ I) (h : ∀ k, φ k ∈ S) (Φ : I → sProp (𝕄 F)) :
    bigSep S Φ = iprop((bigSep Finset.univ fun k => Φ (φ k)) ∗ bigSep (S \ Finset.univ.map φ) Φ) := by
  rw [BI.bigSep_sdiff_split (t := Finset.univ.map φ) (fun x hx => by obtain ⟨k, -, rfl⟩ := Finset.mem_map.mp hx; exact h k), BI.bigSep_map]
  rfl

variable (d : Dev nD) (i : grid1.Coords)

/-! ## The buffers in quarters -/

theorem rowQ_mem (q : Fin 4) (y : S512x128.Idx) : y ∈ (rowQ q).set ↔ (y 0).val / 128 = q.val := by
  rw [Rect.mem_set_unit]
  have h1 : (y 1).val < 128 := (y 1).isLt
  constructor
  · intro h
    have h0 : 128 * q.val ≤ (y 0).val ∧ (y 0).val < 128 * q.val + 128 := h 0
    omega
  · intro h a
    match a with
    | ⟨0, _⟩ => exact (show 128 * q.val ≤ (y 0).val ∧ (y 0).val < 128 * q.val + 128 by omega)
    | ⟨1, _⟩ => exact (show 0 ≤ (y 1).val ∧ (y 1).val < 0 + 128 by omega)

/-- The words of the stage that quarter `q` takes. -/
theorem stgQ_mem (q : Fin 4) (y : S32768.Idx) : y ∈ (stgQ q).set ↔ (y 0).val / 8192 = q.val := by
  rw [Rect.mem_set_unit]
  constructor
  · intro h
    have h0 : 8192 * q.val ≤ (y 0).val ∧ (y 0).val < 8192 * q.val + 8192 := h 0
    omega
  · intro h a
    match a with
    | ⟨0, _⟩ => exact (show 8192 * q.val ≤ (y 0).val ∧ (y 0).val < 8192 * q.val + 8192 by omega)

/-- The row words that quarter `q` takes. -/
theorem pwQ_mem (q : Fin 4) (y : S512.Idx) : y ∈ (pwQ q).set ↔ (y 0).val / 128 = q.val := by
  rw [Rect.mem_set_unit]
  constructor
  · intro h
    have h0 : 128 * q.val ≤ (y 0).val ∧ (y 0).val < 128 * q.val + 128 := h 0
    omega
  · intro h a
    match a with
    | ⟨0, _⟩ => exact (show 128 * q.val ≤ (y 0).val ∧ (y 0).val < 128 * q.val + 128 by omega)

/-- A buffer whose positions fall into `n` numbered parts is held whole or part by part. -/
theorem parts {n : Nat} {ℓ : Loc nD τ sig} (S : Fin n → Finset (Idx ℓ)) (b : Idx ℓ → Nat) (hb : ∀ y, b y < n)
    (hm : ∀ q y, y ∈ S q ↔ b y = q.val) (f : Buf (Elt F) ℓ) :
    (ℓ ↦{fullShare} f : sProp (𝕄 F)) = bigSep Finset.univ fun q : Fin n => ℓ ↦[S q]{fullShare} f := by
  rw [← pointsTo_biUnion Finset.univ (ℓ := ℓ) S (fun t _ t' _ h => Finset.disjoint_left.mpr fun y hy hy' =>
    h (Fin.ext (((hm t y).mp hy).symm.trans ((hm t' y).mp hy'))))]
  refine congrArg (fun I => (ℓ ↦[I]{fullShare} f : sProp (𝕄 F))) ?_
  exact (Finset.eq_univ_iff_forall.mpr fun y => Finset.mem_biUnion.mpr ⟨⟨b y, hb y⟩, Finset.mem_univ _, (hm _ y).mpr rfl⟩).symm

/-- The gathered rows held whole are the four quarters held. -/
theorem row_parts (f : S512x128.Idx → Elt F .f32) : ((tile i d).loc cc1_scratch3 ↦{fullShare} f : sProp (𝕄 F))
    = bigSep Finset.univ fun q : Fin 4 => (tile i d).loc cc1_scratch3 ↦[(rowQ q).set]{fullShare} f :=
  parts (ℓ := (tile i d).loc cc1_scratch3) (fun q => (rowQ q).set) (fun y : S512x128.Idx => (y 0).val / 128)
    (fun y : S512x128.Idx => by have : (y 0).val < 512 := (y 0).isLt; show (y 0).val / 128 < 4; omega) rowQ_mem f

/-- The stage held whole is the four quarters held. -/
theorem stg_parts (f : S32768.Idx → Elt F .f32) : ((tile i d).loc cc1_scratch4 ↦{fullShare} f : sProp (𝕄 F))
    = bigSep Finset.univ fun q : Fin 4 => (tile i d).loc cc1_scratch4 ↦[(stgQ q).set]{fullShare} f :=
  parts (ℓ := (tile i d).loc cc1_scratch4) (fun q => (stgQ q).set) (fun y : S32768.Idx => (y 0).val / 8192)
    (fun y : S32768.Idx => by have : (y 0).val < 32768 := (y 0).isLt; show (y 0).val / 8192 < 4; omega) stgQ_mem f

/-- The row words held whole are the four quarters held. -/
theorem pw_parts (f : S512.Idx → BitVec 32) : ((tile i d).loc cc1_scratch1 ↦{fullShare} f : sProp (𝕄 F))
    = bigSep Finset.univ fun q : Fin 4 => (tile i d).loc cc1_scratch1 ↦[(pwQ q).set]{fullShare} f :=
  parts (ℓ := (tile i d).loc cc1_scratch1) (fun q => (pwQ q).set) (fun y : S512.Idx => (y 0).val / 128)
    (fun y : S512.Idx => by have : (y 0).val < 512 := (y 0).isLt; show (y 0).val / 128 < 4; omega) pwQ_mem f

/-! ## The tile's own semaphores and buffers -/

/-- The six semaphores a tile's task works with: the gathers', the copies out's and the fetch's. -/
abbrev semOf : Fin 6 → DmaSem sig := fun k => match k with
  | 0 => gsem 0 | 1 => gsem 1 | 2 => gsem 2 | 3 => gsem 3 | 4 => osem | 5 => fsem
/-- The tile's six semaphores are different ones. -/
theorem semOf_inj : ∀ a b, semOf a = semOf b → a = b := by decide
/-- All six are the tile's own. -/
theorem semOf_scoped : ∀ k, (SemLoc.dma (semOf k) : SemLoc sig).isScoped Kind.scVector = true := by decide

/-- The six semaphores on the machine. -/
def sems : Fin 6 ↪ GSem nD τ sig where
  toFun k := (tile i d, SemLoc.dma (semOf k))
  inj' := fun a b h => semOf_inj a b (SemLoc.dma.inj (Prod.mk.inj h).2)

/-- The semaphores a tile owns are these six. -/
theorem ownSems : (ownSems0 (tile i d) : sProp (𝕄 F))
    = iprop((bigSep Finset.univ fun k => semVal (sems d i k) 0) ∗ bigSep (ownCells (tile i d) \ Finset.univ.map (sems d i)) fun g => semVal g 0) := by
  unfold SparseCore.Cfg.ownSems0
  exact named _ (sems d i) (fun k => (mem_ownCells (g := (tile i d, SemLoc.dma (semOf k)))).mpr ⟨rfl, semOf_scoped k⟩) _

/-- The five buffers a tile's task works in. -/
abbrev bufOf : Fin 5 → Ref sig .scVector := fun k => match k with
  | 0 => cc1_scratch0 | 1 => cc1_scratch1 | 2 => cc1_scratch2 | 3 => cc1_scratch3 | 4 => cc1_scratch4
/-- The tile's five buffers are different ones. -/
theorem bufOf_inj : ∀ a b, bufOf a = bufOf b → a = b := by decide

/-- The five buffers on the machine. -/
def bufs : Fin 5 ↪ DevRef τ sig where
  toFun k := (Proc.scVector (cV i) (jV i)).devRef (bufOf k)
  inj' := fun a b h => bufOf_inj a b (Proc.devRef_injective _ h)

/-- Each is its tile's. -/
theorem bufs_owner : ∀ k, (bufs i k).owner = Owner.proc (Proc.scVector (cV i) (jV i))
  | 0 => rfl | 1 => rfl | 2 => rfl | 3 => rfl | 4 => rfl

/-- The buffers a tile owns are these five. -/
theorem ownBufs_tile : (ownBufs (tile i d) : sProp (𝕄 F))
    = iprop((bigSep Finset.univ fun k => iprop(∃ f, ((d, bufs i k) : Loc nD τ sig) ↦{fullShare} f))
        ∗ bigSep (ownRefs (τ := τ) (.scVector (cV i) (jV i)) \ Finset.univ.map (bufs i)) fun b => iprop(∃ f, ((d, b) : Loc nD τ sig) ↦{fullShare} f)) := by
  unfold SparseCore.Cfg.ownBufs
  exact named _ (bufs i) (fun k => SparseCore.Cfg.mem_ownRefs_of_owner (p := Proc.scVector (cV i) (jV i)) (bufs_owner i k)) _

/-- The five buffers by name, each at some contents. -/
theorem bufs_five : (bigSep Finset.univ fun k => iprop(∃ f, ((d, bufs i k) : Loc nD τ sig) ↦{fullShare} f) : sProp (𝕄 F))
    = iprop((∃ f : S512.Idx → BitVec 32, (tile i d).loc cc1_scratch0 ↦{fullShare} f) ∗ (∃ f : S512.Idx → BitVec 32, (tile i d).loc cc1_scratch1 ↦{fullShare} f)
        ∗ (∃ f : S512.Idx → BitVec 32, (tile i d).loc cc1_scratch2 ↦{fullShare} f) ∗ (∃ f : S512x128.Idx → Elt F .f32, (tile i d).loc cc1_scratch3 ↦{fullShare} f)
        ∗ ∃ f : S32768.Idx → Elt F .f32, (tile i d).loc cc1_scratch4 ↦{fullShare} f) := five _

/-- The six semaphores by name. -/
theorem sems_six : (bigSep Finset.univ fun k => semVal (sems d i k) 0 : sProp (𝕄 F))
    = iprop(semVal (tile i d, SemLoc.dma (gsem 0)) 0 ∗ semVal (tile i d, SemLoc.dma (gsem 1)) 0 ∗ semVal (tile i d, SemLoc.dma (gsem 2)) 0
        ∗ semVal (tile i d, SemLoc.dma (gsem 3)) 0 ∗ semVal (tile i d, SemLoc.dma osem) 0 ∗ semVal (tile i d, SemLoc.dma fsem) 0) := six _

/-! ## The task -/

/-- The wide table, the indices and the flat output in memory. -/
abbrev wtLoc (d : Dev nD) : Loc nD τ sig := (SparseCore.T d).loc main_v0
abbrev ixLoc (d : Dev nD) : Loc nD τ sig := (SparseCore.T d).loc main_arg0
abbrev outLoc (d : Dev nD) : Loc nD τ sig := (SparseCore.T d).loc main_v1

/-- A tile's part of the flat output, quarter by quarter, holding `f`. -/
def outPart (f : S1048576.Idx → Elt F .f32) : sProp (𝕄 F) :=
  bigSep Finset.univ fun q : Fin 4 => outLoc d ↦[(outQ i q).set]{fullShare} f

/-- What a tile is handed: a share of a wide table of `W`, its indices, its part of the output. -/
def taskPre (W : S64x1000000.Idx → Elt F .f32) (ix : S16384.Idx → BitVec 32) (f : S1048576.Idx → Elt F .f32) (r : PosShare TreeShare) : sProp (𝕄 F) :=
  iprop((∃ g, ⌜WideOf W g⌝ ∗ wtLoc d ↦{r} g) ∗ (ixLoc d ↦[(ixR i).set]{fullShare} ix) ∗ outPart d i f)

/-- What it hands back: its indices, and its part of the output at the columns they name. -/
def taskPost (W : S64x1000000.Idx → Elt F .f32) (ix : S16384.Idx → BitVec 32) : sProp (𝕄 F) :=
  iprop((ixLoc d ↦[(ixR i).set]{fullShare} ix) ∗ outPart d i (outOf W ix))

/-- The gather's table is the whole wide table. -/
theorem wt_set : wtAll.view.set = Finset.univ := by
  refine (View.set_slice_whole _ _).trans (Finset.eq_univ_iff_forall.mpr fun y => Rect.mem_set_unit.mpr fun a => ?_)
  match a with
  | ⟨0, _⟩ => exact ⟨Nat.zero_le _, (show (y 0).val < 0 + 507904 by have : (y 0).val < 507904 := (y 0).isLt; omega)⟩
  | ⟨1, _⟩ => exact ⟨Nat.zero_le _, (show (y 1).val < 0 + 128 by have : (y 1).val < 128 := (y 1).isLt; omega)⟩

/-- A share of the wide table is four shares of it. -/
theorem wt_shares (r : PosShare TreeShare) (g : S507904x128.Idx → Elt F .f32) :
    (wtLoc d ↦{r} g : sProp (𝕄 F))
      = bigSep Finset.univ fun q : Fin 4 => wtAll.view.loc (tile i d) ↦[wtAll.view.set]{pieceOf r 4 (by decide) q} g := by
  rw [wt_set]
  exact pointsTo_piecesOf (ℓ := wtLoc d) Finset.univ g (by decide) r

/-- A quarter from its gather's wait to its copy out. -/
theorem wp_quarter {α : Type} (q : Fin 4) (k : Prog (Eff (F := F) i) α) (Q : α → sProp (𝕄 F)) {W : S64x1000000.Idx → Elt F .f32}
    {ix : S16384.Idx → BitVec 32} (hix : InRange ix) {g : S507904x128.Idx → Elt F .f32} (hg : WideOf W g) (r : PosShare TreeShare)
    (f4 : S32768.Idx → Elt F .f32) (f : S1048576.Idx → Elt F .f32)
    {O : CellTallies nD τ sig (HIx 1)} (hO : ∀ g, O g none = 0) (Ws : Waits sig (HIx 1)) :
    iprop(levAts (K (F := F)).L (K (F := F)).lev
        ∗ Transfers.Flight countersEmb (tile i d) (.dma (gsem q)) (default : HIx 1) gatherN (gathered d i q r g ix)
        ∗ ((tile i d).loc cc1_scratch2 ↦{fullShare} hwsOf i ix)
        ∗ ((tile i d).loc cc1_scratch4 ↦[(stgQ q).set]{fullShare} f4)
        ∗ (outLoc d ↦[(outQ i q).set]{fullShare} f)
        ∗ sending d i W ix (pick (hwsOf i ix) (rowsOf i g ix)) q.val 0 ∗ owing d i O Ws
        ∗ (((tile i d).loc cc1_scratch3 ↦[(rowQ q).set]{fullShare} rowsOf i g ix)
            -∗ ((tile i d).loc cc1_scratch1 ↦[(pwQ q).set]{fullShare} pwsOf i ix)
            -∗ semVal (tile i d, SemLoc.dma (gsem q)) 0
            -∗ ((tile i d).loc cc1_scratch2 ↦{fullShare} hwsOf i ix)
            -∗ sending d i W ix (pick (hwsOf i ix) (rowsOf i g ix)) (q.val + 1) 0 -∗ owing d i O Ws
            -∗ wp frame (wpE (defs₀ (F := F)) 𝒱₀ (tile i d) none) Set.univ k Q))
      ⊢ wp frame (wpE (defs₀ (F := F)) 𝒱₀ (tile i d) none) Set.univ (arrive i q (picks i q (send i q k))) Q := by
  iintro ⟨#Hlv, Hf, Hh, Hs, Ho, Hb, HO, Hk⟩
  iapply (wp_arrive d i q _ _ _ hO Ws) $$ [-]
  isplitr; · iexact Hlv
  isplitl [Hf]; · iexact Hf
  isplitl [HO]; · iexact HO
  iintro ⟨Hr, -, Hp⟩ Hg HO
  iapply (wp_picks d i q _ _ (hwsOf i ix) (rowsOf i g ix) (hws_lt i hix) f4) $$ [-]
  isplitl [Hh]; · iexact Hh
  isplitl [Hr]; · iexact Hr
  isplitl [Hs]; · iexact Hs
  iintro Hh Hr Hs
  iapply (wp_send d i q _ _ (fun x p => pick_eq i hg hix x p) f) $$ [-]
  isplitl [Hs]; · iexact Hs
  isplitl [Ho]; · iexact Ho
  isplitl [Hb]; · iexact Hb
  iintro Hb
  iapply Hk $$ Hr Hp Hg Hh Hb HO

/-- The tile's run: from what it is handed to what it hands back, its own buffers and semaphores as they were. -/
theorem wp_task {W : S64x1000000.Idx → Elt F .f32} {ix : S16384.Idx → BitVec 32} (hix : InRange ix) (f : S1048576.Idx → Elt F .f32)
    (r : PosShare TreeShare) (O : CellTallies nD τ sig (HIx 1)) (Ws : Waits sig (HIx 1)) (hO : ∀ g, O g none = 0) :
    iprop(levAts (K (F := F)).L (K (F := F)).lev ∗ emp ∗ taskPre d i W ix f r
        ∗ scopedBufs (tile i d) ∗ scopedSems0 (tile i d) ∗ owes (tile i d) O Ws)
      ⊢ wp frame (wpE (defs₀ (F := F)) 𝒱₀ (tile i d) none) Set.univ (body (F := F) i)
          fun _ => iprop(taskPost d i W ix ∗ scopedBufs (tile i d) ∗ scopedSems0 (tile i d)
            ∗ ∃ W', ⌜∀ p ∈ W', p ∈ Ws ∨ p.2 = none⌝ ∗ owes (tile i d) O W') := by
  have hH := hws_lt i hix
  rw [body_eq, (K (F := F)).scopedBufs_V facts d (cV i) (jV i), SparseCore.Cfg.scopedSems0_V (Val := Elt F) d (cV i) (jV i), ownSems, ownBufs_tile]
  unfold taskPre taskPost outPart phases
  rw [four, four, bufs_five, sems_six]
  iintro ⟨#Hlv, -, ⟨⟨%g, %hg, Hw⟩, Hix, Ho0, Ho1, Ho2, Ho3⟩, ⟨⟨⟨%f0, Hb0⟩, ⟨%f1, Hb1⟩, ⟨%f2, Hb2⟩, ⟨%f3, Hb3⟩, ⟨%f4, Hb4⟩⟩, Hbufs⟩,
    ⟨⟨Hg0, Hg1, Hg2, Hg3, Hos, Hfs⟩, Hsems⟩, HO⟩
  ihave HO' : owing d i O Ws $$ [HO]
  · iexists Ws
    isplitr
    · ipureintro; exact fun p hp => .inl hp
    iexact HO
  iapply (wp_fetch d i _ _ ix f0 hO Ws) $$ [-]
  isplitr; · iexact Hlv
  isplitl [Hix]; · iexact Hix
  isplitl [Hb0]; · iexact Hb0
  isplitl [Hfs]; · iexact Hfs
  isplitl [HO']; · iexact HO'
  iintro Hix Hb0 Hfs HO'
  iapply (wp_split d i _ _ ix f1 f2) $$ [-]
  isplitl [Hb0]; · iexact Hb0
  isplitl [Hb1]; · iexact Hb1
  isplitl [Hb2]; · iexact Hb2
  iintro Hb0 Hb1 Hb2
  ihave Hb1 := (Entails.of_eq ((pw_parts d i (pwsOf i ix)).trans (four _))) $$ Hb1
  ihave Hb3 := (Entails.of_eq ((row_parts d i f3).trans (four _))) $$ Hb3
  ihave Hb4 := (Entails.of_eq ((stg_parts d i f4).trans (four _))) $$ Hb4
  ihave Hw := (Entails.of_eq ((wt_shares d i r g).trans (four _))) $$ Hw
  icases Hb1 with ⟨Hp0, Hp1, Hp2, Hp3⟩
  icases Hb3 with ⟨Hr0, Hr1, Hr2, Hr3⟩
  icases Hb4 with ⟨Hs0, Hs1, Hs2, Hs3⟩
  icases Hw with ⟨Hw0, Hw1, Hw2, Hw3⟩
  iapply (wp_gather d i 0 _ _ (pieceOf r 4 (by decide) 0) g hix f3) $$ [-]
  isplitl [Hw0]; · iexact Hw0
  isplitl [Hr0]; · iexact Hr0
  isplitl [Hp0]; · iexact Hp0
  isplitl [Hg0]; · iexact Hg0
  iintro Hf0
  iapply (wp_gather d i 1 _ _ (pieceOf r 4 (by decide) 1) g hix f3) $$ [-]
  isplitl [Hw1]; · iexact Hw1
  isplitl [Hr1]; · iexact Hr1
  isplitl [Hp1]; · iexact Hp1
  isplitl [Hg1]; · iexact Hg1
  iintro Hf1
  iapply (wp_gather d i 2 _ _ (pieceOf r 4 (by decide) 2) g hix f3) $$ [-]
  isplitl [Hw2]; · iexact Hw2
  isplitl [Hr2]; · iexact Hr2
  isplitl [Hp2]; · iexact Hp2
  isplitl [Hg2]; · iexact Hg2
  iintro Hf2
  iapply (wp_gather d i 3 _ _ (pieceOf r 4 (by decide) 3) g hix f3) $$ [-]
  isplitl [Hw3]; · iexact Hw3
  isplitl [Hr3]; · iexact Hr3
  isplitl [Hp3]; · iexact Hp3
  isplitl [Hg3]; · iexact Hg3
  iintro Hf3
  imod (Transfers.batch_alloc' countersEmb (tile i d) (sm := SemLoc.dma osem) (default : HIx 1) sendN
    (delivered d i W ix (pick (hwsOf i ix) (rowsOf i g ix))) (E := Set.univ)) $$ Hos with Hb
  iapply (wp_quarter d i 0 _ _ hix hg (pieceOf r 4 (by decide) 0) f4 f hO Ws) $$ [-]
  isplitr; · iexact Hlv
  isplitl [Hf0]; · iexact Hf0
  isplitl [Hb2]; · iexact Hb2
  isplitl [Hs0]; · iexact Hs0
  isplitl [Ho0]; · iexact Ho0
  isplitl [Hb]; · iexact Hb
  isplitl [HO']; · iexact HO'
  iintro Hr0 Hp0 Hg0 Hb2 Hb HO'
  iapply (wp_quarter d i 1 _ _ hix hg (pieceOf r 4 (by decide) 1) f4 f hO Ws) $$ [-]
  isplitr; · iexact Hlv
  isplitl [Hf1]; · iexact Hf1
  isplitl [Hb2]; · iexact Hb2
  isplitl [Hs1]; · iexact Hs1
  isplitl [Ho1]; · iexact Ho1
  isplitl [Hb]; · iexact Hb
  isplitl [HO']; · iexact HO'
  iintro Hr1 Hp1 Hg1 Hb2 Hb HO'
  iapply (wp_quarter d i 2 _ _ hix hg (pieceOf r 4 (by decide) 2) f4 f hO Ws) $$ [-]
  isplitr; · iexact Hlv
  isplitl [Hf2]; · iexact Hf2
  isplitl [Hb2]; · iexact Hb2
  isplitl [Hs2]; · iexact Hs2
  isplitl [Ho2]; · iexact Ho2
  isplitl [Hb]; · iexact Hb
  isplitl [HO']; · iexact HO'
  iintro Hr2 Hp2 Hg2 Hb2 Hb HO'
  iapply (wp_quarter d i 3 _ _ hix hg (pieceOf r 4 (by decide) 3) f4 f hO Ws) $$ [-]
  isplitr; · iexact Hlv
  isplitl [Hf3]; · iexact Hf3
  isplitl [Hb2]; · iexact Hb2
  isplitl [Hs3]; · iexact Hs3
  isplitl [Ho3]; · iexact Ho3
  isplitl [Hb]; · iexact Hb
  isplitl [HO']; · iexact HO'
  iintro Hr3 Hp3 Hg3 Hb2 Hb HO'
  iapply (wp_sent d i 0 (by decide) _ _ hO Ws) $$ [-]
  isplitr; · iexact Hlv
  isplitl [Hb]; · iexact Hb
  isplitl [HO']; · iexact HO'
  iintro Hb HO'
  iapply (wp_sent d i 1 (by decide) _ _ hO Ws) $$ [-]
  isplitr; · iexact Hlv
  isplitl [Hb]; · iexact Hb
  isplitl [HO']; · iexact HO'
  iintro Hb HO'
  iapply (wp_sent d i 2 (by decide) _ _ hO Ws) $$ [-]
  isplitr; · iexact Hlv
  isplitl [Hb]; · iexact Hb
  isplitl [HO']; · iexact HO'
  iintro Hb HO'
  iapply (wp_sentLast d i _ _ hO Ws) $$ [-]
  isplitr; · iexact Hlv
  isplitl [Hb]; · iexact Hb
  isplitl [HO']; · iexact HO'
  iintro HD Hos HO'
  ihave HD := (Entails.of_eq (four _)) $$ HD
  icases HD with ⟨⟨Ho0, Hs0⟩, ⟨Ho1, Hs1⟩, ⟨Ho2, Hs2⟩, Ho3, Hs3⟩
  rw [wp_pure]
  imodintro
  isplitl [Hix Ho0 Ho1 Ho2 Ho3]
  · isplitl [Hix]; · iexact Hix
    isplitl [Ho0]; · iexact Ho0
    isplitl [Ho1]; · iexact Ho1
    isplitl [Ho2] <;> iassumption
  isplitl [Hb0 Hp0 Hp1 Hp2 Hp3 Hb2 Hr0 Hr1 Hr2 Hr3 Hs0 Hs1 Hs2 Hs3 Hbufs]
  · isplitr [Hbufs]
    swap; · iexact Hbufs
    isplitl [Hb0]; · iexists _; iexact Hb0
    isplitl [Hp0 Hp1 Hp2 Hp3]
    · iexists _
      iapply (Entails.of_eq ((pw_parts d i (pwsOf i ix)).trans (four _)).symm)
      isplitl [Hp0]; · iexact Hp0
      isplitl [Hp1]; · iexact Hp1
      isplitl [Hp2] <;> iassumption
    isplitl [Hb2]; · iexists _; iexact Hb2
    isplitl [Hr0 Hr1 Hr2 Hr3]
    · iexists _
      iapply (Entails.of_eq ((row_parts d i (rowsOf i g ix)).trans (four _)).symm)
      isplitl [Hr0]; · iexact Hr0
      isplitl [Hr1]; · iexact Hr1
      isplitl [Hr2] <;> iassumption
    · iexists _
      iapply (Entails.of_eq ((stg_parts d i (pick (hwsOf i ix) (rowsOf i g ix))).trans (four _)).symm)
      isplitl [Hs0]; · iexact Hs0
      isplitl [Hs1]; · iexact Hs1
      isplitl [Hs2] <;> iassumption
  isplitl [Hg0 Hg1 Hg2 Hg3 Hos Hfs Hsems]
  · isplitr [Hsems]
    swap; · iexact Hsems
    isplitl [Hg0]; · iexact Hg0
    isplitl [Hg1]; · iexact Hg1
    isplitl [Hg2]; · iexact Hg2
    isplitl [Hg3]; · iexact Hg3
    isplitl [Hos] <;> iassumption
  iexact HO'

end Cert.KernelIdeal.Run
-- ==== Proof.Tasks.lean ====
/- The SparseCore call: what it is handed and hands back, core by core and tile by tile, and that its tiles do it. -/
module

public import proofs.«01_k».proof.Proof.Body

@[expose] public section

noncomputable section

namespace Cert.KernelIdeal.Run

open Cert.KernelIdeal Cert.KernelIdeal.Gen Cert.KernelIdeal.Lanes
open Idealize.ShloMosaic Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable (m : (ℓ : Loc nD τ sig) → Buf (Elt F) ℓ)

/-! ## What the call carries -/

/-- The table's columns, as `main` is given them. -/
abbrev wLoc (d : Dev nD) : Loc nD τ sig := (SparseCore.T d).loc main_arg1

/-- The table, the indices and the flat output of device `d` at the launch. -/
abbrev W₀ (d : Dev nD) : S64x1000000.Idx → Elt F .f32 := m (wLoc d)
abbrev ix₀ (d : Dev nD) : S16384.Idx → BitVec 32 := m (ixLoc d)
abbrev out₀ (d : Dev nD) : S1048576.Idx → Elt F .f32 := m (outLoc d)

/-- The grid point of a core and a tile. -/
def pt (c : Fin (grid1.bound 0)) (s : Fin (grid1.bound 1)) : grid1.Coords :=
  fun | 0 => c | 1 => s | ⟨_ + 2, h⟩ => absurd h (Nat.not_lt.2 (Nat.le_add_left _ _))

/-- A core's share of the wide table, and a tile's. -/
abbrev rC (c : Fin (grid1.bound 0)) : PosShare TreeShare := pieceOf fullShare (grid1.bound 0) (by decide) c
abbrev rT (c : Fin (grid1.bound 0)) (s : Fin (grid1.bound 1)) : PosShare TreeShare := pieceOf (rC c) (grid1.bound 1) (by decide) s

/-- What a core is handed. -/
def coreOut (d : Dev nD) (c : Fin (grid1.bound 0)) : sProp (𝕄 F) :=
  iprop((∃ g, ⌜WideOf (W₀ m d) g⌝ ∗ wtLoc d ↦{rC c} g)
    ∗ (bigSep Finset.univ fun s : Fin (grid1.bound 1) => ixLoc d ↦[(ixR (pt c s)).set]{fullShare} ix₀ m d)
    ∗ bigSep Finset.univ fun s : Fin (grid1.bound 1) => outPart d (pt c s) (out₀ m d))
/-- What it hands back. -/
def coreBack (d : Dev nD) (c : Fin (grid1.bound 0)) : sProp (𝕄 F) :=
  iprop((bigSep Finset.univ fun s : Fin (grid1.bound 1) => ixLoc d ↦[(ixR (pt c s)).set]{fullShare} ix₀ m d)
    ∗ bigSep Finset.univ fun s : Fin (grid1.bound 1) => outPart d (pt c s) (outOf (W₀ m d) (ix₀ m d)))

instance outPart_storable (d : Dev nD) (i : grid1.Coords) (f : S1048576.Idx → Elt F .f32) :
    BI.Storable (upEmb : UEmb _ (𝕄 F)) (outPart d i f) := by unfold outPart; infer_instance
instance coreOut_storable (d : Dev nD) (c : Fin (grid1.bound 0)) : BI.Storable (upEmb : UEmb _ (𝕄 F)) (coreOut m d c) := by
  unfold coreOut; infer_instance
instance coreBack_storable (d : Dev nD) (c : Fin (grid1.bound 0)) : BI.Storable (upEmb : UEmb _ (𝕄 F)) (coreBack m d c) := by
  unfold coreBack; infer_instance
instance taskPre_storable (d : Dev nD) (i : grid1.Coords) (W : S64x1000000.Idx → Elt F .f32) (ix : S16384.Idx → BitVec 32)
    (f : S1048576.Idx → Elt F .f32) (r : PosShare TreeShare) : BI.Storable (upEmb : UEmb _ (𝕄 F)) (taskPre d i W ix f r) := by
  unfold taskPre; infer_instance
instance taskPost_storable (d : Dev nD) (i : grid1.Coords) (W : S64x1000000.Idx → Elt F .f32) (ix : S16384.Idx → BitVec 32) :
    BI.Storable (upEmb : UEmb _ (𝕄 F)) (taskPost d i W ix) := by
  unfold taskPost; infer_instance

/-- The call's hand-overs: to and from each core, to and from each tile. -/
def P : (K (F := F)).Pay (nD := nD) (Val := Elt F) (Name := ℕ) (U := UU) where
  st := fun q d c => match q with | 0 => coreOut m d c
  dn := fun q d c => match q with | 0 => coreBack m d c
  go := fun q d c s => match q with | 0 => taskPre d (pt c s) (W₀ m d) (ix₀ m d) (out₀ m d) (rT c s)
  td := fun q d c s => match q with | 0 => taskPost d (pt c s) (W₀ m d) (ix₀ m d)
  x := fun _ _ => iprop(emp)

instance P_storable : (P (F := F) m).IsStorable where
  st q d c := match q with | 0 => coreOut_storable m d c
  dn q d c := match q with | 0 => coreBack_storable m d c
  go q d c s := match q with | 0 => taskPre_storable d (pt c s) (W₀ m d) (ix₀ m d) (out₀ m d) (rT c s)
  td q d c s := match q with | 0 => taskPost_storable d (pt c s) (W₀ m d) (ix₀ m d)

/-- What the proof asks of the launch memory: every index names a column. -/
def PreOK : Prop := ∀ d : Dev nD, InRange (ix₀ m d)

/-! ## The tiles' obligation -/

theorem defs₀_vector (c : Fin τ.nSC) (s : Fin τ.nSub) :
    defs₀ (F := F) (.scVector c s) 1 () = SparseCore.onTile hcore1 hsub1 (fun c s => body (F := F) (pt c s)) ⟨⟩ c s := rfl

/-- What a wait of the tile's own may add is among what the call's waits may add. -/
theorem obl_post {thr : Thread nD τ} {A B C : sProp (𝕄 F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  swap; · iexact HO
  ipureintro; intro p hp
  rcases hW' p hp with h | h
  · exact .inl h
  · exact .inr (.inl h)

set_option maxRecDepth 16384 in
/-- Every tile of the call does its task. -/
theorem tileObl (hpre : PreOK m) : (K (F := F)).TileObl (D (F := F)) 𝒱 (P m) v₀ 0 := by
  intro d c s O W hO _ _
  simp only [show (P m).ox = fun _ _ => 0 from rfl, add_zero]
  have hcs : ((K (F := F)).core 0 c).val < grid1.bound 0 ∧ ((K (F := F)).sub 0 s).val < grid1.bound 1 := ⟨c.isLt, s.isLt⟩
  change _ ⊢ wp _ _ _ (Pipeline.liftProg (defs₀ (F := F) (.scVector ((K (F := F)).core 0 c) ((K (F := F)).sub 0 s)) 1 ())) _
  refine BI.Entails.trans ?_ (Pipeline.wp_liftProg (D (F := F)) (Pipeline.defs_kernel pcfgs defs₀) 𝒱₀ _ Set.univ none _ _)
  rw [defs₀_vector]; simp only [SparseCore.onTile, hcs, and_self, ↓reduceDIte]
  exact (wp_task d (pt ⟨_, hcs.1⟩ ⟨_, hcs.2⟩) (hpre d) (out₀ m d) (rT c s) O W hO).trans (wp_mono frame _ _ fun _ => obl_post)

/-! ## A core's hand-over split over its tiles -/

/-- A core's share of a wide table is its tiles' shares of it. -/
theorem core_shares (d : Dev nD) (c : Fin (grid1.bound 0)) (W : S64x1000000.Idx → Elt F .f32) :
    (iprop(∃ g, ⌜WideOf W g⌝ ∗ wtLoc d ↦{rC c} g) : sProp (𝕄 F))
      ⊢ bigSep Finset.univ fun s : Fin (grid1.bound 1) => iprop(∃ g, ⌜WideOf W g⌝ ∗ wtLoc d ↦{rT c s} g) := by
  have one (g) (hg : WideOf W g) (s : Fin (grid1.bound 1)) : (wtLoc d ↦{rT c s} g : sProp (𝕄 F)) ⊢ iprop(∃ g, ⌜WideOf W g⌝ ∗ wtLoc d ↦{rT c s} g) := by
    iintro Hw
    iexists g
    isplitr
    · ipureintro; exact hg
    iexact Hw
  have h (g) (hg : WideOf W g) : (bigSep Finset.univ fun s : Fin (grid1.bound 1) => wtLoc d ↦{rT c s} g : sProp (𝕄 F))
      ⊢ bigSep Finset.univ fun s : Fin (grid1.bound 1) => iprop(∃ g, ⌜WideOf W g⌝ ∗ wtLoc d ↦{rT c s} g) :=
    BI.bigSep_mono fun s _ => one g hg s
  iintro ⟨%g, %hg, Hw⟩
  ihave Hw := (Entails.of_eq (pointsTo_piecesOf (ℓ := wtLoc d) Finset.univ g (o := grid1.bound 1) (by decide) (rC c))) $$ Hw
  iapply (h g hg) $$ Hw

/-- What a core is given is what its tiles are given, and what they give back is what it gives back. -/
theorem vecSplit : (K (F := F)).VecSplit' (P m) 0 := by
  intro d c
  show coreOut m d c ⊢ |={Set.univ}=> iprop(
      (bigSep Finset.univ fun s : Fin (grid1.bound 1) => taskPre d (pt c s) (W₀ m d) (ix₀ m d) (out₀ m d) (rT c s))
      ∗ ((bigSep Finset.univ fun s : Fin (grid1.bound 1) => taskPost d (pt c s) (W₀ m d) (ix₀ m d)) -∗ coreBack m d c))
  unfold coreOut coreBack taskPre taskPost
  rw [bigSep_sep', bigSep_sep', bigSep_sep']
  iintro ⟨Hw, Hi, Ho⟩
  imodintro
  isplitl [Hw Hi Ho]
  · isplitl [Hw]; · iapply (core_shares d c (W₀ m d)) $$ Hw
    isplitl [Hi]; · iexact Hi
    iexact Ho
  iintro H
  iexact H

end Cert.KernelIdeal.Run
-- ==== Proof.Turned.lean ====
/- What the TensorCore's region leaves: block by block, the wide table. -/
module

public import proofs.«01_k».proof.Proof.Turn
public import proofs.«01_k».proof.Proof.Tasks
public import proofs.«01_k».proof.Proof.Gen.KernelIdeal.Points
public import proofs.«01_k».proof.Proof.Gen.KernelIdeal.Launch

@[expose] public section

noncomputable section

namespace Cert.KernelIdeal.Run

open Cert.KernelIdeal Cert.KernelIdeal.Gen Cert.KernelIdeal.Lanes
open Idealize.ShloMosaic Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-- The region's one coordinate at a point is the point. -/
theorem coord0 (t : Fin cfg0.N) : (cfg0.grid.coords t 0).val = t.val := by
  have h := Pipeline.Grid.coords_val (G := grid0) t (0 : Fin 1) (S := 1) (B := 31) (by decide) rfl
  have ht : t.val < 31 := by rw [← N_0]; exact t.isLt
  rw [Nat.div_one, Nat.mod_eq_of_lt ht] at h
  exact h

/-- A block's number is the number of its word. -/
theorem ofNat_small {n : Nat} (h : n < 31) : (BitVec.ofNat 32 n).toNat = n := by
  rw [BitVec.toNat_ofNat]; exact Nat.mod_eq_of_lt (by omega)

/-- The block of the table a point reads. -/
theorem map0 (t : Fin cfg0.N) : cc0_transform_0 (grid0.coords t) = ![0, t.val] := by
  have ht : t.val < 31 := by rw [← N_0]; exact t.isLt
  have h : (grid0.coords t 0).val = t.val := coord0 t
  unfold cc0_transform_0
  simp only [h, ofNat_small ht]; rfl

/-- The block of the wide table a point writes. -/
theorem map1 (t : Fin cfg0.N) : cc0_transform_1 (grid0.coords t) = ![t.val, 0] := by
  have ht : t.val < 31 := by rw [← N_0]; exact t.isLt
  have h : (grid0.coords t 0).val = t.val := coord0 t
  unfold cc0_transform_1
  simp only [h, ofNat_small ht]; rfl

/-- A block of the wide table, as the body is to leave it: the columns of block `t` as half rows. -/
def BlockOf (W : S64x1000000.Idx → Elt F .f32) (t : Nat) (X : S16384x128.Idx → Elt F .f32) : Prop :=
  ∀ (v c : Nat) (hv : v < 1000000) (hc : c < 64), v / 32768 = t →
    X (at2 (v % 16384) (v / 16384 % 2 * 64 + c) (by omega) (by omega)) = W (at2 c v hc hv)

/-- The region's data on device `d`: the table and the wide table as they stand, the table's block left as found, the
    wide table's block as `BlockOf` states; the core owes what it owes the call to come. -/
def rdat (m : (ℓ : Loc nD τ sig) → Buf (Elt F) ℓ) (d : Dev nD) : Pipeline.RDat τ (Elt F) (HIx 1) ℕ UU ℕ cfg0 d where
  A w := m ((cfg0.win w).arr.view.loc (d.tc : Thread nD τ))
  after := fun
    | 0 => fun _ Y X => X = Y
    | 1 => fun t _ X => BlockOf (W₀ m d) t.val X
    | ⟨_ + 2, h⟩ => absurd h (Nat.not_lt.2 (Nat.le_add_left _ _))
  Φ _ := BI.emp
  q _ := fullShare
  owed _ := (K (F := F)).Otc d 0
  recorded _ := {p | (K (F := F)).lev (SparseCore.T d, p.1) p.2 ≤ 8 * 0}

section Values
variable (m : (ℓ : Loc nD τ sig) → Buf (Elt F) ℓ) (d : Dev nD)

/-- What the first window's fetch brings at a point: the block's columns inside the table. -/
theorem fetched_at (t : Fin cfg0.N) (d₀ : S64x32768.Idx → Elt F .f32) (v c : Nat) (hv : v < 1000000) (hc : c < 64) (hvt : v / 32768 = t.val) :
    (rdat m d).fetched 0 t d₀ (at2 c (v % 32768) hc (by omega)) = W₀ m d (at2 c v hc hv) := by
  have hmap : cc0_transform_0 (grid0.coords t) = ![0, t.val] := map0 t
  have hm : ∀ a : Fin 2, ((at2 c (v % 32768) hc (by omega) : S64x32768.Idx) a).val < win0_0.xsize (grid0.coords t) a := by
    intro a
    show _ < (Pipeline.Clip.of (cc0_transform_0 (grid0.coords t) a) (S64x32768.size a) (S64x1000000.size a)).extent (S64x32768.size a)
    rw [hmap]
    fin_cases a
    · show c < (Pipeline.Clip.of 0 64 64).extent 64
      exact hc
    · show v % 32768 < (Pipeline.Clip.of t.val 32768 1000000).extent 32768
      unfold Pipeline.Clip.of
      split
      · show v % 32768 < 32768
        omega
      · show v % 32768 < 1000000 - t.val * 32768
        omega
  show (win0_0.fill (grid0.coords t) d₀ ((rdat m d).blockOf 0 t)) (at2 c (v % 32768) hc (by omega)) = _
  unfold Pipeline.Window.fill
  rw [dif_pos ((win0_0.moved_iff _ _).mpr hm)]
  refine congrArg (W₀ m d) (funext fun a => Fin.ext ?_)
  show cc0_transform_0 (grid0.coords t) a * S64x32768.size a + 1 * ((at2 c (v % 32768) hc (by omega) : S64x32768.Idx) a).val = _
  rw [hmap]
  fin_cases a
  · show 0 * 64 + 1 * c = c
    omega
  · show t.val * 32768 + 1 * (v % 32768) = v
    omega

/-- A point's second block, turned from its first, is as `BlockOf` states. -/
theorem blockOf_turned (t : Fin cfg0.N) {Y : S64x32768.Idx → Elt F .f32} {X : S16384x128.Idx → Elt F .f32}
    (hY : (rdat m d).Finds 0 t Y) (hX : Turned Y X 2) : BlockOf (W₀ m d) t.val X := by
  intro v c hv hc hvt
  obtain ⟨d₀, rfl⟩ := ((rdat m d).finds_of_fetch (fetch0_0 t) Y).mp hY
  rw [← fetched_at m d t d₀ v c hv hc hvt]
  have h := hX (v % 16384) (v / 16384 % 2) c (by omega) (by omega) hc (by omega)
  have e1 : (at2 (v % 16384) (v / 16384 % 2 * 64 + c) (by omega) (by omega) : S16384x128.Idx)
      = at2 (v % 16384) (64 * (v / 16384 % 2) + c) (by omega) (by omega) := by
    congr 1; omega
  have e2 : (at2 c (v % 32768) hc (by omega) : S64x32768.Idx) = at2 c (16384 * (v / 16384 % 2) + v % 16384) hc (by omega) := by
    congr 1; omega
  rw [e1, e2]; exact h

/-- After the write-backs of the points below `n`, the wide table holds the columns of their blocks. -/
theorem wide_at : ∀ (n : Nat) (hn : n ≤ 31) (g : S507904x128.Idx → Elt F .f32), (rdat m d).ArrAt 1 n g →
    ∀ (v c : Nat) (hv : v < 1000000) (hc : c < 64), v / 32768 < n →
      g (at2 (v / 32768 * 16384 + v % 16384) (v / 16384 % 2 * 64 + c) (by omega) (by omega)) = W₀ m d (at2 c v hc hv)
  | 0, _, _, _, _, _, _, _, h => absurd h (Nat.not_lt_zero _)
  | n + 1, hn, g, hg, v, c, hv, hc, h => by
    have hnN : n < cfg0.N := by show n < grid0.N; rw [N_0]; omega
    have hs := (rdat m d).ArrAt_succ 1 ⟨n, hnN⟩
    rw [if_pos (flush0_1 ⟨n, hnN⟩)] at hs
    rw [show (rdat m d).ArrAt 1 (n + 1) = _ from hs] at hg
    obtain ⟨g₀, X, hg₀, ⟨Y, -, hX⟩, rfl⟩ := hg
    have hX : BlockOf (W₀ m d) n X := hX
    have hmap : cc0_transform_1 (grid0.coords ⟨n, hnN⟩) = ![n, 0] := map1 ⟨n, hnN⟩
    by_cases hvn : v / 32768 = n
    · have he : (at2 (v / 32768 * 16384 + v % 16384) (v / 16384 % 2 * 64 + c) (by omega) (by omega) : S507904x128.Idx)
          = (win0_1.blk ⟨n, hnN⟩).view.emb (at2 (v % 16384) (v / 16384 % 2 * 64 + c) (by omega) (by omega) : S16384x128.Idx) := by
        funext a
        refine Fin.ext ?_
        show _ = cc0_transform_1 (grid0.coords ⟨n, hnN⟩) a * S16384x128.size a
          + 1 * ((at2 (v % 16384) (v / 16384 % 2 * 64 + c) (by omega) (by omega) : S16384x128.Idx) a).val
        rw [hmap]
        fin_cases a
        · show v / 32768 * 16384 + v % 16384 = n * 16384 + 1 * (v % 16384)
          omega
        · show v / 16384 % 2 * 64 + c = 0 * 128 + 1 * (v / 16384 % 2 * 64 + c)
          omega
      rw [he, ← hX v c hv hc hvn]
      exact View.write_emb_of_mem _ _ (Finset.mem_univ _)
    · rw [← wide_at n (by omega) g₀ hg₀ v c hv hc (by omega)]
      refine View.write_of_not_mem _ _ _ fun hmem => ?_
      have hmem : _ ∈ ((View.whole main_v0).slice (win0_1.rect ⟨n, hnN⟩)).setOn Finset.univ := hmem
      rw [View.setOn_univ, View.set_slice_whole, Rect.mem_set_unit] at hmem
      have h0 := hmem 0
      have hb : cc0_transform_1 (grid0.coords ⟨n, hnN⟩) 0 * 16384 ≤ v / 32768 * 16384 + v % 16384
        ∧ v / 32768 * 16384 + v % 16384 < cc0_transform_1 (grid0.coords ⟨n, hnN⟩) 0 * 16384 + 16384 := h0
      rw [hmap] at hb
      have hb : n * 16384 ≤ v / 32768 * 16384 + v % 16384 ∧ v / 32768 * 16384 + v % 16384 < n * 16384 + 16384 := hb
      omega

/-- So after all of them it is the wide table. -/
theorem wide_of_arrAt (g : S507904x128.Idx → Elt F .f32) (hg : (rdat m d).ArrAt 1 31 g) : WideOf (W₀ m d) g :=
  fun v c hv hc => wide_at m d 31 le_rfl g hg v c hv hc (by omega)

end Values

end Cert.KernelIdeal.Run
-- ==== Proof.Region.lean ====
/- The TensorCore's region, entered with the table and the wide table at hand, left with the wide table filled. -/
module

public import proofs.«01_k».proof.Proof.Turned
public import Idealize.ShloMosaic.Lib.Pipeline.Regions

@[expose] public section

noncomputable section

namespace Cert.KernelIdeal.Run

open Cert.KernelIdeal Cert.KernelIdeal.Gen Cert.KernelIdeal.Lanes
open Idealize.ShloMosaic Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The region's prefetched tables: none. -/
abbrev adm : (p : Fin 1) → (pcfgs (F := F) p).Adm := fun p => (cfgs p).toPCfg_adm

section
variable (m : (ℓ : Loc nD τ sig) → Buf (Elt F) ℓ)

/-- The region's data on every device. -/
abbrev rdats : (p : Fin 1) → (d : Dev nD) → Pipeline.RDat τ (Elt F) (HIx 1) ℕ UU ℕ (Pipeline.pin (pcfgs (F := F)) adm p) d :=
  fun _ d => rdat m d

/-- The body at any point: the block it is handed comes back turned. -/
theorem body_ok (d : Dev nD) : (rdat m d).BodyObligation (defs₀ (F := F)) 𝒱₀ none Set.univ := by
  intro t Y hY
  show iprop(BI.emp ∗ (rdat m d).owesAt none t.castSucc
      ∗ bigSep Finset.univ fun w : Fin 2 => ownsTc d ((cfg0.win w).stage (cfg0.slots t w)) fullShare (Y w))
    ⊢ wp frame (wpE (defs₀ (F := F)) 𝒱₀ (SparseCore.T d) none) Set.univ
        (cc0__tc_transpose_body (grid0.coords t) (win0_0.stage (cfg0.slots t 0)) (hstage0_0 ((cfg0.slots t 0).cast nbuf0_0))
          (win0_1.stage (cfg0.slots t 1)) (hstage0_1 ((cfg0.slots t 1).cast nbuf0_1)))
        fun _ => iprop(BI.emp ∗ (rdat m d).owesAt none t.castSucc
          ∗ bigSep Finset.univ fun w : Fin 2 => iprop(∃ X, ⌜(rdat m d).after w t (Y w) X⌝ ∗ ownsTc d ((cfg0.win w).stage (cfg0.slots t w)) fullShare X))
  iintro ⟨-, HO, H⟩
  ihave H' := (Entails.of_eq (bigSep_W0 _)) $$ H
  icases H' with ⟨H0, H1⟩
  iapply (wp_turn d (grid0.coords t) (win0_0.stage (cfg0.slots t 0)) _ (win0_1.stage (cfg0.slots t 1)) _ (Y 0) (Y 1)) $$ [-]
  isplitl [H0]; · iexact H0
  isplitl [H1]; · iexact H1
  iintro %X' %hX H0 H1
  isplitr; · iempintro
  isplitl [HO]; · iexact HO
  iapply (Entails.of_eq (bigSep_W0 _).symm)
  isplitl [H0]
  · iexists (Y 0)
    isplitr; · ipureintro; exact rfl
    iexact H0
  · iexists X'
    isplitr; · ipureintro; exact blockOf_turned m d t (hY 0) hX
    iexact H1

/-- What the TensorCore owes before the call, its waits so far at no level of a call's. -/
abbrev tcOwes (d : Dev nD) : sProp (𝕄 F) :=
  iprop(∃ W, ⌜(K (F := F)).WBelow (SparseCore.T d) W (8 * 0)⌝ ∗ owes (SparseCore.T d) ((K (F := F)).Otc d 0) W)

/-- What the TensorCore owes as it enters the region. -/
theorem owes_in (d : Dev nD) : tcOwes d ⊢ (rdat m d).owesAt none 0 := by
  show iprop(∃ W, ⌜(K (F := F)).WBelow (SparseCore.T d) W (8 * 0)⌝ ∗ owes (SparseCore.T d) ((K (F := F)).Otc d 0) W)
    ⊢ iprop(∃ W, ⌜↑W ⊆ (rdat m d).bound none 0⌝ ∗ owes (SparseCore.T d) ((K (F := F)).Otc d 0) W)
  iintro ⟨%W, %hW, H⟩
  iexists W
  isplitr; · ipureintro; exact fun p hp => Or.inl (hW p hp)
  iexact H

/-- What it owes as it leaves the region. -/
theorem owes_out (d : Dev nD) : (rdat m d).owesAt none (Fin.last cfg0.N) ⊢ tcOwes d := by
  show iprop(∃ W, ⌜↑W ⊆ (rdat m d).bound none (Fin.last cfg0.N)⌝ ∗ owes (SparseCore.T d) ((K (F := F)).Otc d 0) W)
    ⊢ iprop(∃ W, ⌜(K (F := F)).WBelow (SparseCore.T d) W (8 * 0)⌝ ∗ owes (SparseCore.T d) ((K (F := F)).Otc d 0) W)
  iintro ⟨%W, %hW, H⟩
  iexists W
  isplitr
  · ipureintro
    intro p hp
    rcases hW hp with h | ⟨w, s, h⟩
    · exact h
    · rw [h]; exact le_rfl
  iexact H

/-- Before the call the core owes nothing at the region's own index. -/
theorem Otc_none (d : Dev nD) (g : GSem nD τ sig) : (K (F := F)).Otc d 0 g none = 0 := by
  by_contra h
  have := (K (F := F)).lev_of_Otc_pos (d := d) (n := 0) (g := g) (ι := none) (Nat.pos_of_ne_zero h)
  exact absurd this (by show ¬ 8 * 0 + 1 ≤ 0; decide)

/-- The region's arrays, one by one. -/
theorem arrays_in (d : Dev nD) :
    iprop((wLoc d ↦{fullShare} W₀ m d) ∗ (wtLoc d ↦{fullShare} m (wtLoc d))) ⊢ (rdat m d).arrays (rdat m d).A := by
  refine BIBase.Entails.trans ?_ (Entails.of_eq (bigSep_W0 _).symm)
  show _ ⊢ iprop((wLoc d ↦[(View.whole main_arg1).set]{fullShare} W₀ m d) ∗ (wtLoc d ↦[(View.whole main_v0).set]{fullShare} m (wtLoc d)))
  rw [View.set_whole, View.set_whole]

/-- What the region leaves is the wide table and the table, given back. -/
theorem arrays_out (d : Dev nD) :
    (rdat m d).arraysAt cfg0.N ⊢ iprop((wLoc d ↦{fullShare} W₀ m d) ∗ (∃ g, ⌜WideOf (W₀ m d) g⌝ ∗ wtLoc d ↦{fullShare} g)) := by
  refine (Entails.of_eq (bigSep_W0 _)).trans ?_
  show iprop((∃ f, ⌜(rdat m d).ArrAt 0 cfg0.N f⌝ ∗ wLoc d ↦[(View.whole main_arg1).set]{fullShare} f)
    ∗ (∃ f, ⌜(rdat m d).ArrAt 1 cfg0.N f⌝ ∗ wtLoc d ↦[(View.whole main_v0).set]{fullShare} f)) ⊢ _
  rw [View.set_whole, View.set_whole]
  iintro ⟨⟨%f, %hf, HW⟩, ⟨%g, %hg, Hwt⟩⟩
  rw [(rdat m d).ArrAt_in 0 rfl] at hf
  have hg : (rdat m d).ArrAt 1 31 g := by rw [← N_0]; exact hg
  isplitl [HW]
  · ihave HW' := (Entails.of_eq (show (wLoc d ↦{fullShare} f : sProp (𝕄 F)) = (wLoc d ↦{fullShare} W₀ m d) by rw [hf]; rfl)) $$ HW
    iexact HW'
  iexists g
  isplitr; · ipureintro; exact wide_of_arrAt m d g hg
  iexact Hwt

/-- There are no prefetched tables to hold. -/
theorem prefHeld_emp (d : Dev nD) (q) (pf) :
    (Pipeline.prefHeld (Ix := HIx 1) (Name := ℕ) (U := UU) (Lvl := ℕ) (Val := Elt F) (pcfgs (F := F) 0).pre d q pf : sProp (𝕄 F)) = BI.emp := by
  unfold Pipeline.prefHeld
  exact (congrArg (fun S => bigSep S _) (Finset.univ_eq_empty (α := Fin 0))).trans BI.bigSep_empty

/-- The region, from the table and the wide table at the launch's contents to the wide table filled. -/
def seg : Pipeline.RDat.RegionSeg (Name := ℕ) (U := UU) (pcfgs (F := F)) adm (rdats m) none (defs₀ (F := F)) 𝒱₀ (K (F := F)).L (K (F := F)).lev 0 where
  win := launch0.win.to₀
  block_pos := block_pos0
  stage_whole := stage_whole0
  K := PEmpty
  osem k := k.elim
  ho := Pipeline.OwnSemFacts.none _
  hbody := body_ok m
  hwaits d := Pipeline.RDat.cellsWaits_intro _ (rdats m) none 0 d fun w s t => (K (F := F)).mayWait_none _ (Otc_none d)
  pre d := iprop((wLoc d ↦{fullShare} W₀ m d) ∗ (wtLoc d ↦{fullShare} m (wtLoc d)) ∗ tcOwes d)
  post d := iprop((wLoc d ↦{fullShare} W₀ m d) ∗ (∃ g, ⌜WideOf (W₀ m d) g⌝ ∗ wtLoc d ↦{fullShare} g) ∗ tcOwes d)
  X _ := BI.emp
  Y _ := BI.emp
  Z _ := BI.emp
  hentry d := by
    rw [Pipeline.ownSems0_none]
    iintro ⟨⟨HW, Hwt, HO⟩, -, -⟩
    imodintro
    isplitl [HW Hwt]
    · iapply (arrays_in m d)
      isplitl [HW]; · iexact HW
      iexact Hwt
    isplitr
    · rw [prefHeld_emp]; iempintro
    isplitl [HO]
    · iapply (owes_in m d); iexact HO
    isplitr <;> iempintro
  hin d := by
    show _ ⊢ (BI.emp : sProp (𝕄 F))
    rw [show Pipeline.scopedRest (Pipeline.pin (pcfgs (F := F)) adm 0).spec d = (BI.emp : sProp (𝕄 F)) from scopedRest0_eq d, prefHeld_emp]
    iintro ⟨-, -, -⟩
    iempintro
  hout d := by
    rw [show Pipeline.scopedRest (Pipeline.pin (pcfgs (F := F)) adm 0).spec d = (BI.emp : sProp (𝕄 F)) from scopedRest0_eq d, Pipeline.ownSems0_none]
    show (BI.emp : sProp (𝕄 F)) ⊢ _
    iintro -
    isplitr; · iempintro
    isplitr <;> iempintro
  hexit d := by
    iintro ⟨HA, HO, -, -⟩
    imodintro
    ihave H := (arrays_out m d) $$ HA
    icases H with ⟨HW, Hwt⟩
    isplitl [HW]; · iexact HW
    isplitl [Hwt]; · iexact Hwt
    iapply (owes_out m d); iexact HO

/-- The region's call, as the region's own program makes it. -/
abbrev entryProg : Prog (TpuEff nD τ sig (Elt F) (ΛP (F := F)) .tc) PUnit := .op (.customCall (Pipeline.entry 0) ()) .ret

/-- @main makes it through the SparseCore calls' labels. -/
theorem lift_entry : (Prog.lift (.customCall (SparseCore.inner (Pipeline.entry 0)) ()) : Prog (TpuEff nD τ sig (Elt F) (SparseCore.Sig (ΛP (F := F)) 1) .tc) PUnit)
    = SparseCore.liftProg entryProg := by
  rw [entryProg, SparseCore.liftProg_op]
  rfl

/-- The region's call in @main: entered with its arrays, what the core owes, its levels and its staging cells' share
    of the ghost state, it returns with the wide table filled. -/
theorem wp_region [∀ e, Nonempty (Elt F e)] (d : Dev nD) (Q : PUnit → sProp (𝕄 F)) :
    iprop((iprop(boundary (SparseCore.T d) ∗ (wLoc d ↦{fullShare} W₀ m d) ∗ (∃ g, ⌜WideOf (W₀ m d) g⌝ ∗ wtLoc d ↦{fullShare} g) ∗ tcOwes d) -∗ Q ⟨⟩)
        ∗ boundary (SparseCore.T d) ∗ ((wLoc d ↦{fullShare} W₀ m d) ∗ (wtLoc d ↦{fullShare} m (wtLoc d)) ∗ tcOwes d)
        ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs D) 𝒱 (SparseCore.T d) none) Set.univ
          (Prog.lift (.customCall (SparseCore.inner (Pipeline.entry 0)) ())) Q := by
  rw [lift_entry]
  refine BIBase.Entails.trans ?_ ((K (F := F)).wp_liftProg D 𝒱 (SparseCore.T d) Set.univ none entryProg Q)
  iintro ⟨Hk, H⟩
  iapply ((seg m).wp (pcfgs (F := F)) adm (rdats m) none cellOf_inj EP (defs₀ (F := F)) 𝒱₀ (K (F := F)).L (K (F := F)).lev d none
    (fun u h => nomatch h) .ret Q) $$ [-]
  isplitl [Hk]
  · iintro H
    rw [wp_ret]; imodintro
    iapply Hk; iexact H
  iexact H

end

end Cert.KernelIdeal.Run
-- ==== Proof.Split.lean ====
/- The call's arrays dealt out to its cores and their tiles. -/
module

public import proofs.«01_k».proof.Proof.Tasks

@[expose] public section

noncomputable section

namespace Cert.KernelIdeal.Run

open Cert.KernelIdeal Cert.KernelIdeal.Gen Cert.KernelIdeal.Lanes
open Idealize.ShloMosaic Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-- An array whose places are numbered, each number a part's, is its parts. -/
theorem by_number {I : Type} [Fintype I] [DecidableEq I] {ℓ : Loc nD τ sig} (S : I → Finset (Idx ℓ)) (num : I → Nat) (key : Idx ℓ → Nat)
    (hnum : ∀ i j, num i = num j → i = j) (hS : ∀ i y, y ∈ S i ↔ key y = num i) (hcov : ∀ y, ∃ i, key y = num i)
    (q : PosShare TreeShare) (f : Buf (Elt F) ℓ) :
    (ℓ ↦{q} f : sProp (𝕄 F)) = bigSep Finset.univ fun i => ℓ ↦[S i]{q} f := by
  rw [← pointsTo_biUnion Finset.univ (ℓ := ℓ) S]
  · congr 1
    refine (Finset.eq_univ_iff_forall.mpr fun y => ?_).symm
    obtain ⟨i, hi⟩ := hcov y
    exact Finset.mem_biUnion.mpr ⟨i, Finset.mem_univ i, (hS i y).mpr hi⟩
  · intro i _ j _ hij
    refine Finset.disjoint_left.mpr fun y hy hy' => hij (hnum i j ?_)
    rw [← (hS i y).mp hy, (hS j y).mp hy']

/-- The first index of tile `s` of core `c`. -/
theorem first_pt (c : Fin (grid1.bound 0)) (s : Fin (grid1.bound 1)) : first (pt c s) = 1024 * s.val + 512 * c.val := rfl

/-- A tile's indices are the ones of its number. -/
theorem ixR_mem (c : Fin (grid1.bound 0)) (s : Fin (grid1.bound 1)) (y : S16384.Idx) :
    y ∈ (ixR (pt c s)).set ↔ (y 0).val / 512 = 2 * s.val + c.val := by
  rw [Rect.mem_set_unit, off1_eq]
  constructor
  · intro h
    have h0 : first (pt c s) ≤ (y 0).val ∧ (y 0).val < first (pt c s) + 512 := h 0
    rw [first_pt] at h0
    omega
  · intro h a
    match a with
    | ⟨0, _⟩ => exact (show first (pt c s) ≤ (y 0).val ∧ (y 0).val < first (pt c s) + 512 by rw [first_pt]; omega)

/-- A quarter of a tile's output is the one of its number. -/
theorem outQ_mem (c : Fin (grid1.bound 0)) (s : Fin (grid1.bound 1)) (q : Fin 4) (y : S1048576.Idx) :
    y ∈ (outQ (pt c s) q).set ↔ (y 0).val / 8192 = 4 * (2 * s.val + c.val) + q.val := by
  rw [Rect.mem_set_unit, off36_eq]
  constructor
  · intro h
    have h0 : 64 * first (pt c s) + 8192 * q.val ≤ (y 0).val ∧ (y 0).val < 64 * first (pt c s) + 8192 * q.val + 8192 := h 0
    rw [first_pt] at h0
    omega
  · intro h a
    match a with
    | ⟨0, _⟩ =>
      exact (show 64 * first (pt c s) + 8192 * q.val ≤ (y 0).val ∧ (y 0).val < 64 * first (pt c s) + 8192 * q.val + 8192 by rw [first_pt]; omega)

/-- The indices are the tiles' indices. -/
theorem ix_tiles (d : Dev nD) (f : S16384.Idx → BitVec 32) :
    (ixLoc d ↦{fullShare} f : sProp (𝕄 F)) = bigSep Finset.univ fun c : Fin (grid1.bound 0) =>
      bigSep Finset.univ fun s : Fin (grid1.bound 1) => ixLoc d ↦[(ixR (pt c s)).set]{fullShare} f := by
  refine Eq.trans ?_ (bigSep_univ_prod (fun x : Fin (grid1.bound 0) × Fin (grid1.bound 1) =>
    (ixLoc d ↦[(ixR (pt x.1 x.2)).set]{fullShare} f : sProp (𝕄 F))))
  refine by_number (ℓ := ixLoc d) (fun x : Fin (grid1.bound 0) × Fin (grid1.bound 1) => (ixR (pt x.1 x.2)).set)
    (fun x => 2 * x.2.val + x.1.val) (fun y => (show S16384.Idx from y) 0 / 512) ?_ (fun x y => ixR_mem x.1 x.2 y) ?_ fullShare f
  · rintro ⟨c, s⟩ ⟨c', s'⟩ h
    have hc : c.val < 2 := c.isLt
    have hc' : c'.val < 2 := c'.isLt
    have h : 2 * s.val + c.val = 2 * s'.val + c'.val := h
    exact Prod.ext (Fin.ext (by show c.val = c'.val; omega)) (Fin.ext (by show s.val = s'.val; omega))
  · intro y
    have hy : ((show S16384.Idx from y) 0).val < 16384 := ((show S16384.Idx from y) 0).isLt
    refine ⟨(⟨((show S16384.Idx from y) 0).val / 512 % 2, ?_⟩, ⟨((show S16384.Idx from y) 0).val / 1024, ?_⟩), ?_⟩
    · show _ < 2
      omega
    · show _ < 16
      omega
    · show ((show S16384.Idx from y) 0).val / 512 = 2 * (((show S16384.Idx from y) 0).val / 1024) + ((show S16384.Idx from y) 0).val / 512 % 2
      omega

/-- The flat output is the tiles' parts of it. -/
theorem out_tiles (d : Dev nD) (f : S1048576.Idx → Elt F .f32) :
    (outLoc d ↦{fullShare} f : sProp (𝕄 F)) = bigSep Finset.univ fun c : Fin (grid1.bound 0) =>
      bigSep Finset.univ fun s : Fin (grid1.bound 1) => outPart d (pt c s) f := by
  unfold outPart
  rw [← bigSep_univ_prod (fun x : Fin (grid1.bound 0) × Fin (grid1.bound 1) =>
      bigSep Finset.univ fun q : Fin 4 => outLoc d ↦[(outQ (pt x.1 x.2) q).set]{fullShare} f),
    ← bigSep_univ_prod (fun x : (Fin (grid1.bound 0) × Fin (grid1.bound 1)) × Fin 4 => outLoc d ↦[(outQ (pt x.1.1 x.1.2) x.2).set]{fullShare} f)]
  refine by_number (ℓ := outLoc d) (fun x : (Fin (grid1.bound 0) × Fin (grid1.bound 1)) × Fin 4 => (outQ (pt x.1.1 x.1.2) x.2).set)
    (fun x => 4 * (2 * x.1.2.val + x.1.1.val) + x.2.val) (fun y => (show S1048576.Idx from y) 0 / 8192) ?_
    (fun x y => outQ_mem x.1.1 x.1.2 x.2 y) ?_ fullShare f
  · rintro ⟨⟨c, s⟩, q⟩ ⟨⟨c', s'⟩, q'⟩ h
    have hc : c.val < 2 := c.isLt
    have hc' : c'.val < 2 := c'.isLt
    have hq := q.isLt
    have hq' := q'.isLt
    have h : 4 * (2 * s.val + c.val) + q.val = 4 * (2 * s'.val + c'.val) + q'.val := h
    exact Prod.ext (Prod.ext (Fin.ext (by show c.val = c'.val; omega)) (Fin.ext (by show s.val = s'.val; omega)))
      (Fin.ext (by show q.val = q'.val; omega))
  · intro y
    have hy : ((show S1048576.Idx from y) 0).val < 1048576 := ((show S1048576.Idx from y) 0).isLt
    refine ⟨((⟨((show S1048576.Idx from y) 0).val / 32768 % 2, ?_⟩, ⟨((show S1048576.Idx from y) 0).val / 65536, ?_⟩),
      ⟨((show S1048576.Idx from y) 0).val / 8192 % 4, ?_⟩), ?_⟩
    · show _ < 2
      omega
    · show _ < 16
      omega
    · omega
    · show ((show S1048576.Idx from y) 0).val / 8192 = 4 * (2 * (((show S1048576.Idx from y) 0).val / 65536)
        + ((show S1048576.Idx from y) 0).val / 32768 % 2) + ((show S1048576.Idx from y) 0).val / 8192 % 4
      omega

section Call
variable (m : (ℓ : Loc nD τ sig) → Buf (Elt F) ℓ) (d : Dev nD)

/-- A wide table is its cores' shares of it. -/
theorem wide_cores :
    (iprop(∃ g, ⌜WideOf (W₀ m d) g⌝ ∗ wtLoc d ↦{fullShare} g) : sProp (𝕄 F))
      ⊢ bigSep Finset.univ fun c : Fin (grid1.bound 0) => iprop(∃ g, ⌜WideOf (W₀ m d) g⌝ ∗ wtLoc d ↦{rC c} g) := by
  have one (g) (hg : WideOf (W₀ m d) g) (c : Fin (grid1.bound 0)) :
      (wtLoc d ↦{rC c} g : sProp (𝕄 F)) ⊢ iprop(∃ g, ⌜WideOf (W₀ m d) g⌝ ∗ wtLoc d ↦{rC c} g) := by
    iintro Hw
    iexists g
    isplitr; · ipureintro; exact hg
    iexact Hw
  have all (g) (hg : WideOf (W₀ m d) g) : (bigSep Finset.univ fun c : Fin (grid1.bound 0) => wtLoc d ↦{rC c} g : sProp (𝕄 F))
      ⊢ bigSep Finset.univ fun c : Fin (grid1.bound 0) => iprop(∃ g, ⌜WideOf (W₀ m d) g⌝ ∗ wtLoc d ↦{rC c} g) :=
    BI.bigSep_mono fun c _ => one g hg c
  iintro ⟨%g, %hg, Hw⟩
  ihave Hw := (Entails.of_eq (pointsTo_piecesOf (ℓ := wtLoc d) Finset.univ g (o := grid1.bound 0) (by decide) fullShare)) $$ Hw
  iapply (all g hg) $$ Hw

/-- What the call is handed, dealt out to its cores. -/
theorem cores_out :
    iprop((∃ g, ⌜WideOf (W₀ m d) g⌝ ∗ wtLoc d ↦{fullShare} g) ∗ (ixLoc d ↦{fullShare} ix₀ m d) ∗ outLoc d ↦{fullShare} out₀ m d)
      ⊢ bigSep Finset.univ fun c : Fin ((K (F := F)).nCore 0) => (P m).st 0 d c := by
  show _ ⊢ bigSep Finset.univ fun c : Fin (grid1.bound 0) => coreOut m d c
  unfold coreOut
  rw [bigSep_sep', bigSep_sep', ix_tiles, out_tiles]
  iintro ⟨Hw, Hi, Ho⟩
  isplitl [Hw]; · iapply (wide_cores m d); iexact Hw
  isplitl [Hi]; · iexact Hi
  iexact Ho

/-- What its cores hand back, put together. -/
theorem cores_back :
    (bigSep Finset.univ fun c : Fin ((K (F := F)).nCore 0) => (P m).dn 0 d c)
      ⊢ iprop((ixLoc d ↦{fullShare} ix₀ m d) ∗ outLoc d ↦{fullShare} outOf (W₀ m d) (ix₀ m d)) := by
  show (bigSep Finset.univ fun c : Fin (grid1.bound 0) => coreBack m d c) ⊢ _
  unfold coreBack
  rw [bigSep_sep', ix_tiles, out_tiles]
  exact BI.Entails.refl _

end Call

end Cert.KernelIdeal.Run
-- ==== Proof.Launch.lean ====
/- The kernel's run: the region, the call, the reshape, from the launch to the end. -/
module

public import proofs.«01_k».proof.Proof.Region
public import proofs.«01_k».proof.Proof.Split
public import Idealize.ShloMosaic.Lib.Pipeline.Sound

@[expose] public section

noncomputable section

namespace Cert.KernelIdeal.Run

open Cert.KernelIdeal Cert.KernelIdeal.Gen Cert.KernelIdeal.Lanes
open Idealize.ShloMosaic Idealize.ShloMosaic.SparseCore.Cfg
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Rounds

variable {F : FTy → Type} [FloatOps F]

section
variable (m : (ℓ : Loc nD τ sig) → Buf (Elt F) ℓ) (ρ : Dev nD → PrngReg)

/-! ## The launch's ghost state -/

/-- The ghost state at the launch: the call's handshakes and the region's staging handshakes, none begun. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- A device's share of the region's. -/
abbrev stagingGhost (d : Dev nD) : sProp (𝕄 F) :=
  iprop(Pipeline.cellsGhost (Pipeline.pin (pcfgs (F := F)) adm) EP 0 d ∗ Pipeline.toksInit (Pipeline.pin (pcfgs (F := F)) adm) EP 0 d)

/-- The launch's ghost state dealt out. -/
theorem hu₀ : (ownU (u₀ (F := F)) : sProp (𝕄 F))
    ⊢ |={Set.univ}=> iprop(BI.own (EH (initOf (K (F := F)).hsCells (K (F := F)).hsToks)) ∗ (bigSep Finset.univ fun d : Dev nD => stagingGhost d)
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp (𝕄 F)) :=
    (bigSep_congr fun _ _ => bigSep_univ_of_subsingleton (0 : Fin 1)).trans (bigSep_emp_const _)
  unfold u₀
  iintro Hu
  ihave H := (ownU_pair _ _) $$ Hu
  icases H with ⟨HH, HR⟩
  ihave HR := (own_pair_emb embR _ _) $$ HR
  icases HR with ⟨HP, -⟩
  imod (Pipeline.fund_ghost (Pipeline.pin (pcfgs (F := F)) adm) EP cellOf_inj) $$ HP with ⟨Hc, Ht⟩
  imodintro
  isplitl [HH]; · iexact HH
  rw [hx]
  isplitl [Hc Ht]
  · ihave Hc := (Entails.of_eq (bigSep_congr fun d _ => bigSep_univ_of_subsingleton (0 : Fin 1))) $$ Hc
    ihave Ht := (Entails.of_eq (bigSep_congr fun d _ => bigSep_univ_of_subsingleton (0 : Fin 1))) $$ Ht
    rw [bigSep_sep']
    isplitl [Hc]; · iexact Hc
    iexact Ht
  iempintro

/-! ## @main -/

/-- The TensorCore's arrays. -/
theorem arrays_eq (d : Dev nD) (V : (b : Ref sig .tc) → Buf (Elt F) ((d.tc : Thread nD τ).loc b)) :
    (unscopedBufs d V : sProp (𝕄 F)) = iprop((ixLoc d ↦{fullShare} V main_arg0) ∗ (wLoc d ↦{fullShare} V main_arg1)
      ∗ (wtLoc d ↦{fullShare} V main_v0) ∗ (outLoc d ↦{fullShare} V main_v1) ∗ (SparseCore.T d).loc main_v2 ↦{fullShare} V main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

abbrev out' : DevRef τ sig := Proc.devRef .tc (main_v1 : Ref sig .tc)
abbrev res' : DevRef τ sig := Proc.devRef .tc (main_v2 : Ref sig .tc)
/-- The reshape that ends @main. -/
abbrev reshapeOp : HloOp τ sig (Elt F) := StableHlo.reshape main_v1 main_v2 (rfl : (.f32 : EltTy) = .f32) shapeCasts_S1048576_S16384x64

/-- The result's memory. -/
abbrev resLoc (d : Dev nD) : Loc nD τ sig := (SparseCore.T d).loc main_v2
/-- The result: the flat output in rows. -/
abbrev resOf (d : Dev nD) : S16384x64.Idx → Elt F .f32 :=
  shapeCast S16384x64 (outOf (W₀ m d) (ix₀ m d)) shapeCasts_S1048576_S16384x64

/-- What the reshape finds. -/
def V₁ (d : Dev nD) : Valuation τ sig (Elt F) := Function.update (fun b => m (d, b)) out' (outOf (W₀ m d) (ix₀ m d))

/-- Two of the program's arrays held as one are the two held apart. -/
theorem held_two (d : Dev nD) (V : Valuation τ sig (Elt F)) :
    (held (SparseCore.T d) {out', res'} V : sProp (𝕄 F)) = iprop((outLoc d ↦{fullShare} V out') ∗ resLoc d ↦{fullShare} V res') := by
  unfold held
  rw [SparseCore.bigSep_insert' (by decide), bigSep_singleton]

/-- Before the reshape the gathered words are what the call left. -/
theorem V₁_out (d : Dev nD) : V₁ m d out' = outOf (W₀ m d) (ix₀ m d) := Function.update_self _ _ _
/-- Before the reshape the result is as it was. -/
theorem V₁_res (d : Dev nD) : V₁ m d res' = m (resLoc d) := Function.update_of_ne (show res' ≠ out' by decide) _ _

/-- What it leaves in the result. -/
theorem reshaped (d : Dev nD) : (reshapeOp (F := F)).result (V₁ m d) res' = resOf m d := by
  refine (StableHlo.reshape_result main_v1 main_v2 _ _ _ _ (V₁ m d)).trans ?_
  rw [V₁_out]
  rfl

/-- What the TensorCore owes, set apart of its part in the call. -/
theorem tcSt_owes (d : Dev nD) :
    ((K (F := F)).tcSt EH d 0 : sProp (𝕄 F)) ⊢ iprop(tcOwes (F := F) d ∗ (tcOwes (F := F) d -∗ (K (F := F)).tcSt EH d 0)) := by
  unfold SparseCore.Cfg.tcSt
  iintro ⟨HO, H⟩
  isplitl [HO]; · iexact HO
  iintro HO
  isplitl [HO]; · iexact HO
  iexact H

/-- What @main leaves of the memory. -/
abbrev FIN (d : Dev nD) : sProp (𝕄 F) :=
  iprop((ixLoc d ↦{fullShare} ix₀ m d) ∗ (wLoc d ↦{fullShare} W₀ m d) ∗ resLoc d ↦{fullShare} resOf m d)

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ stagingGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays_eq]
  simp only [main, wp_bind, wp_pure]
  iintro ⟨#Hctx, Hst, ⟨Hb, ⟨Hi, Hw, Hwt, Ho, Hr⟩, Hts, -⟩, Hg⟩
  ihave Hst := (tcSt_owes d) $$ Hst
  icases Hst with ⟨HO, Hst⟩
  ihave Hlev := ((K (F := F)).ctx_levAts (P := P m) κ) $$ Hctx
  iapply (wp_region m d) $$ [-]
  isplitr [Hb Hw Hwt HO Hg Hlev]
  swap
  · isplitl [Hb]; · iexact Hb
    isplitl [Hw Hwt HO]
    · isplitl [Hw]; · iexact Hw
      isplitl [Hwt]; · iexact Hwt
      iexact HO
    isplitl [Hlev]; · iexact Hlev
    iexact Hg
  iintro ⟨Hb, Hw, Hwt, HO⟩
  ispecialize Hst $$ HO
  iapply ((K (F := F)).wp_run (D (F := F)) 𝒱 (EH := EH) (P := P m) κ d 0) $$ [-]
  isplitr; · iexact Hctx
  isplitl [Hst]; · iexact Hst
  isplitl [Hwt Hi Ho]
  · iapply (cores_out m d)
    isplitl [Hwt]; · iexact Hwt
    isplitl [Hi]; · iexact Hi
    iexact Ho
  iintro ⟨Hst, Hdn⟩
  ihave Hdn := (cores_back m d) $$ Hdn
  icases Hdn with ⟨Hi, Ho⟩
  iapply (wp_hlo_within 𝒱 (SparseCore.T d) none Set.univ (op := reshapeOp) (S := {out', res'})
    (show ({out', res'} : Finset (DevRef τ sig)) ⊆ {out', res'} from subset_rfl) (V := V₁ m d)) $$ [Hb Ho Hr]
  · isplitl [Hb]; · iexact Hb
    rw [held_two, V₁_out, V₁_res]
    isplitl [Ho]; · iexact Ho
    iexact Hr
  iintro ⟨Hb, Hh⟩
  ihave Hh := (Entails.of_eq (held_two d _)) $$ Hh
  icases Hh with ⟨-, Hr⟩
  ihave Hr := (Entails.of_eq (congrArg (fun f => (resLoc d ↦{fullShare} f : sProp (𝕄 F))) (reshaped m d))) $$ Hr
  rw [wp_ret]; imodintro; imodintro
  isplitl [Hst]; · iexact Hst
  isplitr [Hb Hts]
  · isplitl [Hi]; · iexact Hi
    isplitl [Hw]; · iexact Hw
    iexact Hr
  isplitl [Hb] <;> iassumption

/-- What a final memory holds of a device. -/
def fq (d : Dev nD) (s : Phys nD τ sig (Elt F)) : Prop :=
  s.mem.mem (ixLoc d) = m (ixLoc d) ∧ s.mem.mem (wLoc d) = m (wLoc d) ∧ s.mem.mem (resLoc d) = resOf m d

/-- A buffer held whole is what the memory holds of it. -/
theorem held_mem {ℓ : Loc nD τ sig} (f : Buf (Elt F) ℓ) (s : Phys nD τ sig (Elt F)) :
    iprop(SI s ∗ (ℓ ↦{fullShare} f)) ⊢ (iprop(⌜s.mem.mem ℓ = f⌝ ∗ SI s) : sProp (𝕄 F)) := by
  iintro ⟨HSI, H⟩
  ihave H := (persistent_entails_right (SI_pointsTo_agree (st := s) (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

/-- What a device ends with, read from the memory. -/
theorem hfin (d : Dev nD) (s : Phys nD τ sig (Elt F)) : iprop(FIN m d ∗ SI s) ⊢ (⌜fq m d s⌝ : sProp (𝕄 F)) := by
  iintro ⟨⟨Hi, Hw, Hr⟩, HSI⟩
  ihave H := (held_mem _ s) $$ [HSI Hi]
  · isplitl [HSI] <;> iassumption
  icases H with ⟨%h1, HSI⟩
  ihave H := (held_mem _ s) $$ [HSI Hw]
  · isplitl [HSI] <;> iassumption
  icases H with ⟨%h2, HSI⟩
  ihave H := (held_mem _ s) $$ [HSI Hr]
  · isplitl [HSI] <;> iassumption
  icases H with ⟨%h3, -⟩
  ipureintro; exact ⟨h1, h2, h3⟩

/-! ## The run -/

/-- What the run ends with: both arguments unchanged, the result the columns the indices name, every semaphore at zero. -/
def Done : PUnit × MemSt nD τ sig (Elt F) → Prop := fun r =>
  (∀ d : Dev nD, r.2.mem (ixLoc d) = m (ixLoc d) ∧ r.2.mem (wLoc d) = m (wLoc d) ∧ r.2.mem (resLoc d) = resOf m d) ∧ r.2.sem = fun _ => 0

/-- Every run of the kernel whose indices each name a column ends so. -/
theorem run_main [∀ e, Nonempty (Elt F e)] (hpre : PreOK m) :
    θ_run (defs (F := F)) (threads (F := F)) ⟨m, fun _ => 0, ρ⟩ (Done m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun d => stagingGhost d) (FIN m) (u₀ (F := F)) (sep_elim_left.trans (hu₀ m)) (hmain m ρ) (fq m) (hfin m) (Done m) (fun _ h hz => ⟨h, hz⟩)

/-- The result, word by word. -/
theorem resOf_at (d : Dev nD) (y : S16384x64.Idx) :
    resOf m d y = W₀ m d (at2 (y 1).val ((ix₀ m d (at1 (y 0).val (y 0).isLt)).toNat % 1000000) (y 1).isLt (by omega)) := by
  have h0 : (y 0).val < 16384 := (y 0).isLt
  have h1 : (y 1).val < 64 := (y 1).isLt
  refine (shapeCast_apply _ _ y (at1 (64 * (y 0).val + (y 1).val) (by omega)) ?_).trans ?_
  · rw [Shape.rowMajor_val_one, Shape.rowMajor_val_two]
    show 64 * (y 0).val + (y 1).val = (y 0).val * 64 + (y 1).val
    omega
  · have hd : (64 * (y 0).val + (y 1).val) / 64 = (y 0).val := by omega
    have hm : (64 * (y 0).val + (y 1).val) % 64 = (y 1).val := by omega
    unfold outOf
    have hat : ∀ (n : Nat) (h : n < 16384), n = (y 0).val → ix₀ m d (at1 n h) = ix₀ m d (at1 (y 0).val (y 0).isLt) := by
      rintro _ _ rfl; rfl
    refine congrArg (W₀ m d) (funext fun a => Fin.ext ?_)
    match a with
    | ⟨0, _⟩ => exact hm
    | ⟨1, _⟩ => exact congrArg (fun v : BitVec 32 => v.toNat % 1000000) (hat _ (by rw [hd]; exact h0) hd)

end

end Cert.KernelIdeal.Run
-- ==== Proof.Reference.lean ====
/- The reference's run, word by word: where every index names a column, each word it ends with is the word of the
   table that the index and the column of the result name. -/
module

public import proofs.«01_k».proof.Proof.Launch
public import proofs.«01_k».proof.Proof.Gen.ReferenceIdeal.Run
public import proofs.«01_k».proof.Proof.Gen.Pre_in_range
public import Idealize.ShloMosaic.Lib.ReduceAll
public import Idealize.ShloMosaic.Lib.Routing.Ops
public import Idealize.ShloMosaic.Lib.Pipeline.Value

@[expose] public section

noncomputable section

namespace Cert.KernelIdeal.Run

open Cert.ReferenceIdeal Cert.ReferenceIdeal.Gen
open Idealize.ShloMosaic

/-! ## Words in the range -/

/-- A word that is a non-negative signed number below a million is a natural number below a million. -/
theorem below_of_bits (v : BitVec 32) (h : IntOp.andi (IntOp.cmpi .sge v 0#32) (IntOp.cmpi .slt v 1000000#32) = 1#1) :
    v.toNat < 1000000 := by
  obtain ⟨h0, h1⟩ := IntOp.andi_eq_one.1 h
  have b : ∀ p : Bool, BitVec.ofBool p = 1#1 → p = true := by decide
  have e0 : (0#32).sle v = true := b _ h0
  have e1 : v.slt 1000000#32 = true := b _ h1
  rw [BitVec.sle_eq_decide, decide_eq_true_eq] at e0
  rw [BitVec.slt_eq_decide, decide_eq_true_eq] at e1
  rw [BitVec.toInt_eq_toNat_cond] at e0 e1
  simp only [BitVec.toNat_ofNat, BitVec.toInt_eq_toNat_cond, Nat.reducePow, Nat.reduceMod] at e0 e1
  omega

/-- A word below a million is not negative as a signed number. -/
theorem not_neg (v : BitVec 32) (h : v.toNat < 1000000) : IntOp.cmpi .slt v 0#32 = 0#1 := by
  have e : v.slt 0#32 = false := by
    rw [BitVec.slt_eq_decide, decide_eq_false_iff_not, BitVec.toInt_eq_toNat_cond]
    simp only [BitVec.toNat_ofNat, BitVec.toInt_eq_toNat_cond, Nat.reducePow, Nat.reduceMod]
    omega
  show BitVec.ofBool (v.slt 0#32) = 0#1
  rw [e]; rfl

/-- A word below a million passes the reference's own test of the range. -/
theorem in_bounds (v : BitVec 32) (h : v.toNat < 1000000) :
    IntOp.andi (IntOp.cmpi .sge v 0#32) (IntOp.cmpi .sle v 999999#32) = 1#1 := by
  have e0 : (0#32).sle v = true := by
    rw [BitVec.sle_eq_decide, decide_eq_true_eq, BitVec.toInt_eq_toNat_cond, BitVec.toInt_eq_toNat_cond]
    simp only [BitVec.toNat_ofNat, Nat.reducePow, Nat.reduceMod]
    omega
  have e1 : v.sle 999999#32 = true := by
    rw [BitVec.sle_eq_decide, decide_eq_true_eq, BitVec.toInt_eq_toNat_cond, BitVec.toInt_eq_toNat_cond]
    simp only [BitVec.toNat_ofNat, Nat.reducePow, Nat.reduceMod]
    omega
  show IntOp.andi (BitVec.ofBool ((0#32).sle v)) (BitVec.ofBool (v.sle 999999#32)) = 1#1
  rw [e0, e1]; rfl

/-- Where the precondition holds, every index names a column. -/
theorem inRange_of_pre {F : FTy → Type} [FloatOps F] (ix : S16384.Idx → BitVec 32) (W : S64x1000000.Idx → F .f32)
    (h : Cert.Pre_in_range.fn (F := F) ix W = fun _ => 1#1) : InRange ix := fun x =>
  haveI : Subsingleton Cert.Pre_in_range.S_.Idx := ⟨fun a b => funext fun i => i.elim0⟩
  below_of_bits _ (Host.reduce_andi_all _ _ _ _ ValueIdx.ix0 (congrFun h ValueIdx.ix0) x)

/-! ## The reference's word -/

section
variable {F : FTy → Type} [FloatOps F] (ix : S16384.Idx → BitVec 32) (W : S64x1000000.Idx → F .f32)

/-- The indices the reference takes rows at: a negative one is moved up by the number of rows. -/
abbrev wrapped : IVec S16384x1 32 :=
  broadcastInDim S16384x1 ![0] bcast_S16384_S16384x1_0
    (select (cmpi .slt ix (broadcastInDim S16384 ![] bcast_S_S16384 (constantI S_ 32 0#32)))
      (addi ix (broadcastInDim S16384 ![] bcast_S_S16384 (constantI S_ 32 1000000#32))) ix)

/-- The rows whose index passes the test of the range. -/
abbrev passed : IVec S16384 1 :=
  Host.reduce IntOp.andi
    (andi (cmpi .sge (wrapped ix) (broadcastInDim S16384x1 ![] bcast_S_S16384x1 (constantI S_ 32 0#32)))
      (cmpi .sle (wrapped ix) (broadcastInDim S16384x1 ![0, 1] bcast_S1x1_S16384x1_0_1 (broadcastInDim S1x1 ![1] bcast_S1_S1x1_1 (constantI S1 32 999999#32)))))
    (constantI S_ 1 1#1) reducesTo_S16384x1_S16384_d1 h_S_

/-- What the reference computes of the indices and the table. -/
abbrev taken : S16384x64.Idx → F .f32 :=
  select (broadcastInDim S16384x64 ![0] bcast_S16384_S16384x64_0 (passed ix))
    (Host.gather gather_S1000000x64_S16384x1_S16384x64_1_0_n_n_0_1_164 (transpose S1000000x64 [1, 0] W transposes_S64x1000000_S1000000x64_1_0) (wrapped ix))
    (broadcastInDim S16384x64 ![] bcast_S_S16384x64 (constant S_ .f32 0x7FC00000#32))

/-- An index in the range is taken as it is. -/
theorem wrapped_at (h : InRange ix) (x : S16384x1.Idx) : wrapped ix x = ix (at1 (x 0).val (x 0).isLt) := by
  have e : ∀ k : S16384.Idx, select (cmpi .slt ix (broadcastInDim S16384 ![] bcast_S_S16384 (constantI S_ 32 0#32)))
      (addi ix (broadcastInDim S16384 ![] bcast_S_S16384 (constantI S_ 32 1000000#32))) ix k = ix k := fun k => by
    show Scalar.select (IntOp.cmpi .slt (ix k) 0#32) _ (ix k) = ix k
    rw [not_neg _ (h k)]; rfl
  refine (e _).trans (congrArg ix (funext fun a => Fin.ext ?_))
  match a with | ⟨0, _⟩ => rfl

/-- Every index in the range passes. -/
theorem passed_at (h : InRange ix) (x : S16384.Idx) : passed ix x = 1#1 :=
  Host.reduce_andi_one _ _ _ _ x rfl fun i => by
    show IntOp.andi (IntOp.cmpi .sge (wrapped ix i) 0#32) (IntOp.cmpi .sle (wrapped ix i) 999999#32) = 1#1
    rw [wrapped_at ix h]
    exact in_bounds _ (h _)

/-- The reference's result, word by word. -/
theorem taken_at (h : InRange ix) (y : S16384x64.Idx) :
    taken ix W y = W (at2 (y 1).val ((ix (at1 (y 0).val (y 0).isLt)).toNat % 1000000) (y 1).isLt (by omega)) := by
  have e : ∀ c : BitVec 1, c = 1#1 → ∀ a b : F .f32, Scalar.select c a b = a := by rintro _ rfl a b; rfl
  refine (e _ (passed_at ix h _) _ _).trans ?_
  have hv := h (at1 (y 0).val (y 0).isLt)
  have hg := Routing.gather_row gather_S1000000x64_S16384x1_S16384x64_1_0_n_n_0_1_164 rfl rfl rfl rfl rfl
    (transpose S1000000x64 [1, 0] W transposes_S64x1000000_S1000000x64_1_0) (wrapped ix) (y 0) (y 1) ⟨_, hv⟩
    ((wrapped_at ix h _).trans ((BitVec.ofNat_toNat _ _).trans (BitVec.setWidth_eq _)).symm) (by decide)
  refine (congrArg _ (ValueIdx.eq_ix2 y)).trans (hg.trans (transpose_apply _ W _ _ _ fun b => ?_))
  match b with
  | ⟨0, _⟩ => exact Nat.mod_eq_of_lt hv
  | ⟨1, _⟩ => rfl

end

end Cert.KernelIdeal.Run

end
-- ==== Proof.Same.lean ====
/- The kernel as printed and the idealized kernel have the same text, so their bodies are the same. -/
module

public import proofs.«01_k».proof.Kernel
public import proofs.«01_k».proof.KernelIdeal
public import proofs.«01_k».proof.Proof.Gen.Kernel
public import proofs.«01_k».proof.Proof.Gen.KernelIdeal

@[expose] public section

noncomputable section

namespace Cert.KernelIdeal.Run

open Idealize.ShloMosaic

variable {F : FTy → Type} [FloatOps F]

set_option maxHeartbeats 4000000 in
set_option maxRecDepth 65536 in
/-- The two kernels' bodies are the same on every processor and at every label. -/
theorem same_bodies : Cert.Kernel.defs₀ (F := F) = Cert.KernelIdeal.defs₀ (F := F) := by
  funext p ℓ a
  match p, ℓ, a with
  | .tc, 0, (_, _) => rfl
  | .tc, 1, _ => rfl
  | .scScalar _, 0, _ => rfl
  | .scScalar _, 1, _ => rfl
  | .scVector _ _, 0, _ => rfl
  | .scVector _ _, 1, _ => rfl

/-- So are the two programs' body tables, with the region and the call around them. -/
theorem same_defs : Cert.Kernel.defs (F := F) = Cert.KernelIdeal.defs (F := F) :=
  congrArg (fun D => Cert.KernelIdeal.sc.defs (Pipeline.defs Cert.KernelIdeal.pcfgs D)) same_bodies

end Cert.KernelIdeal.Run

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.Reference
public import proofs.«01_k».proof.Proof.Same

@[expose] public section

set_option maxRecDepth 16384

noncomputable section

namespace Cert.Proof

open Idealize.ShloMosaic Idealize.SL.Sem Cert.KernelIdeal.Run

/-- The kernel as printed runs, leaves its arguments unchanged and ends with every semaphore at zero: its text is the
    idealized kernel's, so this is that run read at the machine's own floats. -/
theorem frame_kernel : Cert.quiescent_Kernel := fun m ρ h => by
  refine Eq.mpr (congrArg (fun D => θ_run D (Cert.KernelIdeal.threads (F := Bits)) ⟨m, fun _ => 0, ρ⟩ _) same_defs) ?_
  exact (θ_run Cert.KernelIdeal.defs _ _).mono (fun _ e => ⟨fun c => ⟨(e.1 c).1, (e.1 c).2.1⟩, e.2⟩)
    (run_main (F := Bits) m ρ fun d => inRange_of_pre _ _ (h d))

/-- The idealized kernel runs likewise. -/
theorem frame_ideal : Cert.quiescent_KernelIdeal := fun m ρ h =>
  (θ_run Cert.KernelIdeal.defs _ _).mono (fun _ e => ⟨fun c => ⟨(e.1 c).1, (e.1 c).2.1⟩, e.2⟩)
    (run_main (F := Ideal) m ρ fun d => inRange_of_pre _ _ (h d))

/-- The reference runs, leaves its arguments unchanged and ends with every semaphore at zero. -/
theorem frame_reference : Cert.quiescent_ReferenceIdeal := fun m ρ _ =>
  (θ_run Cert.ReferenceIdeal.defs _ _).mono (fun r e => ⟨fun c => (e c).2, sem_eq_zero_of_no_sems (by decide) r.2⟩)
    (Cert.ReferenceIdeal.Value.run m ρ)

/-- The idealized kernel and the reference, started with the same arguments, end with the same result. -/
theorem value : Cert.algebraic_KernelIdeal_ReferenceIdeal := fun m ρ m' ρ' hpre hargs => by
  have hin : PreOK (F := Ideal) m := fun d => inRange_of_pre _ _ (hpre d)
  have same : ∀ c : Dev Cert.KernelIdeal.nD, taken (F := Ideal) (ix₀ m c) (W₀ m c) = resOf m c := fun c =>
    funext fun y => (taken_at _ _ (hin c) y).trans (resOf_at m c y).symm
  refine ⟨resOf m, ?_, ?_⟩
  · exact (θ_run Cert.KernelIdeal.defs _ _).mono (fun _ e c => ⟨(e.1 c).2.2, (e.1 c).1, (e.1 c).2.1⟩) (run_main (F := Ideal) m ρ hin)
  · refine (θ_run Cert.ReferenceIdeal.defs _ _).mono (fun _ e c => ⟨(e c).1.trans ?_, (e c).2⟩) (Cert.ReferenceIdeal.Value.run m' ρ')
    rw [(hargs c).1, (hargs c).2]
    exact same c

/-- Every claim. -/
theorem claim : Cert.Claim := ⟨Cert.Kernel.Gen.facts, Cert.KernelIdeal.Gen.facts, Cert.ReferenceIdeal.Gen.facts, Cert.Pre_in_range.Gen.facts,
  frame_kernel, frame_ideal, frame_reference, fun m ρ _ => frame_reference m ρ trivial, trivial, value⟩

end Cert.Proof

end
